-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1x128x2048 : Shape := ⟨3, ![1, 128, 2048]⟩
abbrev S2048x1408 : Shape := ⟨2, ![2048, 1408]⟩
abbrev S32x22 : Shape := ⟨2, ![32, 22]⟩
abbrev S60x1024x1408 : Shape := ⟨3, ![60, 1024, 1408]⟩
abbrev S60x32x1408 : Shape := ⟨3, ![60, 32, 1408]⟩
abbrev S1x128x4 : Shape := ⟨3, ![1, 128, 4]⟩
abbrev S_ : Shape := ⟨0, ![]⟩

class Facts : Prop where
  bcast_S_S1x128x4 : S_.BroadcastsInDim S1x128x4 (![] : Fin 0 → Fin S1x128x4.rank)
  reducesTo_S1x128x4_S_d0_1_2 : S1x128x4.ReducesTo [0, 1, 2] S_
  h_S_ : 0 < S_.numel

variable [Facts]

def fn {F : FTy → Type} [FloatOps F] (main_arg0 : FVec F S1x128x2048 .bf16) (main_arg1 : FVec F S2048x1408 .fp8e4m3) (main_arg2 : FVec F S32x22 .f32) (main_arg3 : IVec S60x1024x1408 8) (main_arg4 : FVec F S60x32x1408 .bf16) (main_arg5 : IVec S1x128x4 32) (main_arg6 : FVec F S1x128x4 .f32) : IVec S_ 1 :=
  let main_c : IVec S_ 32 := constantI S_ 32 0#32
  let main_v0 : IVec S1x128x4 32 := broadcastInDim S1x128x4 ![] bcast_S_S1x128x4 main_c
  let main_v1 : IVec S1x128x4 1 := cmpi .sge main_arg5 main_v0
  let main_c_0 : IVec S_ 32 := constantI S_ 32 60#32
  let main_v2 : IVec S1x128x4 32 := broadcastInDim S1x128x4 ![] bcast_S_S1x128x4 main_c_0
  let main_v3 : IVec S1x128x4 1 := cmpi .slt main_arg5 main_v2
  let main_v4 : IVec S1x128x4 1 := andi main_v1 main_v3
  let main_c_1 : IVec S_ 1 := constantI S_ 1 1#1
  let main_v5 : IVec S_ 1 := (fun x v => Host.reduce IntOp.andi x v reducesTo_S1x128x4_S_d0_1_2 h_S_) main_v4 main_c_1
  main_v5
-- ==== Kernel.lean ====
abbrev S1x128x2048 : Shape := ⟨3, ![1, 128, 2048]⟩
abbrev S2048x1408 : Shape := ⟨2, ![2048, 1408]⟩
abbrev S32x22 : Shape := ⟨2, ![32, 22]⟩
abbrev S60x1024x1408 : Shape := ⟨3, ![60, 1024, 1408]⟩
abbrev S60x32x1408 : Shape := ⟨3, ![60, 32, 1408]⟩
abbrev S1x128x4 : Shape := ⟨3, ![1, 128, 4]⟩
abbrev S128x4 : Shape := ⟨2, ![128, 4]⟩
abbrev S128x2048 : Shape := ⟨2, ![128, 2048]⟩
abbrev S128x1408 : Shape := ⟨2, ![128, 1408]⟩
abbrev S128x4x1408 : Shape := ⟨3, ![128, 4, 1408]⟩
abbrev S2x1024x1408 : Shape := ⟨3, ![2, 1024, 1408]⟩
abbrev S2x32x1408 : Shape := ⟨3, ![2, 32, 1408]⟩
abbrev S61 : Shape := ⟨1, ![61]⟩
abbrev S60 : Shape := ⟨1, ![60]⟩
abbrev S2x2 : Shape := ⟨2, ![2, 2]⟩
abbrev S1 : Shape := ⟨1, ![1]⟩
abbrev S1x1 : Shape := ⟨2, ![1, 1]⟩
abbrev S_ : Shape := ⟨0, ![]⟩
abbrev S1x1024x1408 : Shape := ⟨3, ![1, 1024, 1408]⟩
abbrev S1024x1408 : Shape := ⟨2, ![1024, 1408]⟩
abbrev S1x32x1408 : Shape := ⟨3, ![1, 32, 1408]⟩
abbrev S32x1408 : Shape := ⟨2, ![32, 1408]⟩
abbrev S1x1024x256 : Shape := ⟨3, ![1, 1024, 256]⟩
abbrev S1024x256 : Shape := ⟨2, ![1024, 256]⟩
abbrev S1024x1x256 : Shape := ⟨3, ![1024, 1, 256]⟩
abbrev S1024x2x256 : Shape := ⟨3, ![1024, 2, 256]⟩
abbrev S2048x256 : Shape := ⟨2, ![2048, 256]⟩
abbrev S1x32x256 : Shape := ⟨3, ![1, 32, 256]⟩
abbrev S32x256 : Shape := ⟨2, ![32, 256]⟩
abbrev S32x64x256 : Shape := ⟨3, ![32, 64, 256]⟩
abbrev S32x1x256 : Shape := ⟨3, ![32, 1, 256]⟩
abbrev S128x256 : Shape := ⟨2, ![128, 256]⟩
abbrev S128x1 : Shape := ⟨2, ![128, 1]⟩
abbrev S128x1x256 : Shape := ⟨3, ![128, 1, 256]⟩
abbrev S1x1024x128 : Shape := ⟨3, ![1, 1024, 128]⟩
abbrev S1024x128 : Shape := ⟨2, ![1024, 128]⟩
abbrev S1024x1x128 : Shape := ⟨3, ![1024, 1, 128]⟩
abbrev S1024x2x128 : Shape := ⟨3, ![1024, 2, 128]⟩
abbrev S2048x128 : Shape := ⟨2, ![2048, 128]⟩
abbrev S1x32x128 : Shape := ⟨3, ![1, 32, 128]⟩
abbrev S32x128 : Shape := ⟨2, ![32, 128]⟩
abbrev S32x64x128 : Shape := ⟨3, ![32, 64, 128]⟩
abbrev S32x1x128 : Shape := ⟨3, ![32, 1, 128]⟩
abbrev S128x128 : Shape := ⟨2, ![128, 128]⟩
abbrev S128x1x128 : Shape := ⟨3, ![128, 1, 128]⟩
abbrev S128 : Shape := ⟨1, ![128]⟩
abbrev S32x4 : Shape := ⟨2, ![32, 4]⟩
abbrev S32x4x1 : Shape := ⟨3, ![32, 4, 1]⟩
abbrev S32x4x64 : Shape := ⟨3, ![32, 4, 64]⟩
abbrev S32x2 : Shape := ⟨2, ![32, 2]⟩
abbrev S32x2x1 : Shape := ⟨3, ![32, 2, 1]⟩
abbrev S32x2x64 : Shape := ⟨3, ![32, 2, 64]⟩
abbrev S1x128x1408 : Shape := ⟨3, ![1, 128, 1408]⟩
abbrev S1x128x4x1408 : Shape := ⟨4, ![1, 128, 4, 1408]⟩

abbrev nBuf : Space → Nat
  | .hbm => 14
  | .vmem => 9
  | .smem => 3
  | _ => 0

abbrev bufTy : (tb : Table) → Fin (tcTables nBuf tb) → BufTy
  | .hbm, ⟨0, _⟩ => ⟨S1x128x2048, .bf16⟩
  | .hbm, ⟨1, _⟩ => ⟨S2048x1408, .fp8e4m3⟩
  | .hbm, ⟨2, _⟩ => ⟨S32x22, .f32⟩
  | .hbm, ⟨3, _⟩ => ⟨S60x1024x1408, .i8⟩
  | .hbm, ⟨4, _⟩ => ⟨S60x32x1408, .bf16⟩
  | .hbm, ⟨5, _⟩ => ⟨S1x128x4, .i32⟩
  | .hbm, ⟨6, _⟩ => ⟨S1x128x4, .f32⟩
  | .hbm, ⟨7, _⟩ => ⟨S128x4, .i32⟩
  | .hbm, ⟨8, _⟩ => ⟨S128x2048, .bf16⟩
  | .hbm, ⟨9, _⟩ => ⟨S128x4, .f32⟩
  | .hbm, ⟨10, _⟩ => ⟨S128x1408, .bf16⟩
  | .hbm, ⟨11, _⟩ => ⟨S128x4x1408, .f32⟩
  | .hbm, ⟨12, _⟩ => ⟨S1x128x1408, .bf16⟩
  | .hbm, ⟨13, _⟩ => ⟨S1x128x4x1408, .f32⟩
  | .local _ .vmem, ⟨0, _⟩ => ⟨S128x2048, .bf16⟩
  | .local _ .vmem, ⟨1, _⟩ => ⟨S2048x1408, .fp8e4m3⟩
  | .local _ .vmem, ⟨2, _⟩ => ⟨S32x22, .f32⟩
  | .local _ .vmem, ⟨3, _⟩ => ⟨S128x4, .i32⟩
  | .local _ .vmem, ⟨4, _⟩ => ⟨S128x4, .f32⟩
  | .local _ .vmem, ⟨5, _⟩ => ⟨S128x1408, .bf16⟩
  | .local _ .vmem, ⟨6, _⟩ => ⟨S128x4x1408, .f32⟩
  | .local _ .vmem, ⟨7, _⟩ => ⟨S2x1024x1408, .i8⟩
  | .local _ .vmem, ⟨8, _⟩ => ⟨S2x32x1408, .bf16⟩
  | .local _ .smem, ⟨0, _⟩ => ⟨S128x4, .i32⟩
  | .local _ .smem, ⟨1, _⟩ => ⟨S61, .i32⟩
  | .local _ .smem, ⟨2, _⟩ => ⟨S60, .i32⟩
  | _, _ => ⟨S1x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg0_0 : Ref sig .tc := ⟨.smem, 0, rfl⟩
abbrev cc0_scratch2 : Ref sig .tc := ⟨.smem, 1, rfl⟩
abbrev cc0_scratch3 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c60_i32 : BitVec 32 := 60#32
  let v0 : BitVec 32 := Scalar.addi c0_i32 c60_i32
  let c1_i32 : BitVec 32 := 1#32
  ⟨c0_i32, v0, c1_i32⟩
def k0_off1 (k0_t1 : Fin k0_t1_loop.trips) : Fin 1 → Nat :=
  let c0_i32_188 : BitVec 32 := 0#32
  let c0_i32 : BitVec 32 := 0#32
  let c1_i32 : BitVec 32 := 1#32
  let arg15 : BitVec 32 := Scf.iv c0_i32 c1_i32 k0_t1
  let c1_i32_187 : BitVec 32 := 1#32
  let v305 : BitVec 32 := Scalar.muli arg15 c1_i32_187
  let v306 : BitVec 32 := Scalar.addi c0_i32_188 v305
  let v307 : Index := Scalar.indexCast v306
  ![v307.toNat]
@[reducible] def k0_t2_loop : Scf.Loop 32 :=
  let c0_i32_1 : BitVec 32 := 0#32
  let c128_i32 : BitVec 32 := 128#32
  let v1 : BitVec 32 := Scalar.addi c0_i32_1 c128_i32
  let c1_i32_2 : BitVec 32 := 1#32
  ⟨c0_i32_1, v1, c1_i32_2⟩
def k0_off2 (k0_t2 : Fin k0_t2_loop.trips) : Fin 2 → Nat :=
  let c0_i32_188 : BitVec 32 := 0#32
  let c0_i32_1 : BitVec 32 := 0#32
  let c1_i32_2 : BitVec 32 := 1#32
  let arg15 : BitVec 32 := Scf.iv c0_i32_1 c1_i32_2 k0_t2
  let c1_i32_187 : BitVec 32 := 1#32
  let v305 : BitVec 32 := Scalar.muli arg15 c1_i32_187
  let v306 : BitVec 32 := Scalar.addi c0_i32_188 v305
  let v307 : Index := Scalar.indexCast v306
  let c0_189 : Index := 0#32
  ![v307.toNat, 0]
def k0_off3 (v308 : BitVec 32) : Fin 1 → Nat :=
  let v309 : Index := Scalar.indexCast v308
  ![v309.toNat]

def k0_chk1 (v308 : BitVec 32) : Prop :=
  (∀ a, (k0_off3 v308) a + S1.size a ≤ S60.size a)
theorem k0_off3_inb : ∀ (v308 : BitVec 32) (k0_hw1 : k0_chk1 v308), ∀ a, (k0_off3 v308) a + S1.size a ≤ S60.size a := fun v308 k0_hw1 => k0_hw1

def k0_off4 (k0_t2 : Fin k0_t2_loop.trips) : Fin 2 → Nat :=
  let c0_i32_188 : BitVec 32 := 0#32
  let c0_i32_1 : BitVec 32 := 0#32
  let c1_i32_2 : BitVec 32 := 1#32
  let arg15 : BitVec 32 := Scf.iv c0_i32_1 c1_i32_2 k0_t2
  let c1_i32_187 : BitVec 32 := 1#32
  let v305 : BitVec 32 := Scalar.muli arg15 c1_i32_187
  let v306 : BitVec 32 := Scalar.addi c0_i32_188 v305
  let v311 : Index := Scalar.indexCast v306
  let c1_191 : Index := 1#32
  ![v311.toNat, 1]
def k0_off5 (v312 : BitVec 32) : Fin 1 → Nat :=
  let v313 : Index := Scalar.indexCast v312
  ![v313.toNat]

def k0_chk2 (v312 : BitVec 32) : Prop :=
  (∀ a, (k0_off5 v312) a + S1.size a ≤ S60.size a)
theorem k0_off5_inb : ∀ (v312 : BitVec 32) (k0_hw2 : k0_chk2 v312), ∀ a, (k0_off5 v312) a + S1.size a ≤ S60.size a := fun v312 k0_hw2 => k0_hw2

def k0_off6 (k0_t2 : Fin k0_t2_loop.trips) : Fin 2 → Nat :=
  let c0_i32_188 : BitVec 32 := 0#32
  let c0_i32_1 : BitVec 32 := 0#32
  let c1_i32_2 : BitVec 32 := 1#32
  let arg15 : BitVec 32 := Scf.iv c0_i32_1 c1_i32_2 k0_t2
  let c1_i32_187 : BitVec 32 := 1#32
  let v305 : BitVec 32 := Scalar.muli arg15 c1_i32_187
  let v306 : BitVec 32 := Scalar.addi c0_i32_188 v305
  let v315 : Index := Scalar.indexCast v306
  let c2_193 : Index := 2#32
  ![v315.toNat, 2]
def k0_off7 (v316 : BitVec 32) : Fin 1 → Nat :=
  let v317 : Index := Scalar.indexCast v316
  ![v317.toNat]

def k0_chk3 (v316 : BitVec 32) : Prop :=
  (∀ a, (k0_off7 v316) a + S1.size a ≤ S60.size a)
theorem k0_off7_inb : ∀ (v316 : BitVec 32) (k0_hw3 : k0_chk3 v316), ∀ a, (k0_off7 v316) a + S1.size a ≤ S60.size a := fun v316 k0_hw3 => k0_hw3

def k0_off8 (k0_t2 : Fin k0_t2_loop.trips) : Fin 2 → Nat :=
  let c0_i32_188 : BitVec 32 := 0#32
  let c0_i32_1 : BitVec 32 := 0#32
  let c1_i32_2 : BitVec 32 := 1#32
  let arg15 : BitVec 32 := Scf.iv c0_i32_1 c1_i32_2 k0_t2
  let c1_i32_187 : BitVec 32 := 1#32
  let v305 : BitVec 32 := Scalar.muli arg15 c1_i32_187
  let v306 : BitVec 32 := Scalar.addi c0_i32_188 v305
  let v319 : Index := Scalar.indexCast v306
  let c3_195 : Index := 3#32
  ![v319.toNat, 3]
def k0_off9 (v320 : BitVec 32) : Fin 1 → Nat :=
  let v321 : Index := Scalar.indexCast v320
  ![v321.toNat]

def k0_chk4 (v320 : BitVec 32) : Prop :=
  (∀ a, (k0_off9 v320) a + S1.size a ≤ S60.size a)
theorem k0_off9_inb : ∀ (v320 : BitVec 32) (k0_hw4 : k0_chk4 v320), ∀ a, (k0_off9 v320) a + S1.size a ≤ S60.size a := fun v320 k0_hw4 => k0_hw4

@[reducible] def k0_t3_loop : Scf.Loop 32 :=
  let c0_i32_5 : BitVec 32 := 0#32
  let c60_i32_6 : BitVec 32 := 60#32
  let v2 : BitVec 32 := Scalar.addi c0_i32_5 c60_i32_6
  let c1_i32_7 : BitVec 32 := 1#32
  ⟨c0_i32_5, v2, c1_i32_7⟩
def k0_off10 (arg16 : BitVec 32) : Fin 1 → Nat :=
  let v305 : Index := Scalar.indexCast arg16
  ![v305.toNat]

def k0_chk5 (arg16 : BitVec 32) : Prop :=
  (∀ a, (k0_off10 arg16) a + S1.size a ≤ S61.size a)
theorem k0_off10_inb : ∀ (arg16 : BitVec 32) (k0_hw5 : k0_chk5 arg16), ∀ a, (k0_off10 arg16) a + S1.size a ≤ S61.size a := fun arg16 k0_hw5 => k0_hw5

def k0_off11 (k0_t3 : Fin k0_t3_loop.trips) : Fin 1 → Nat :=
  let c0_i32_5 : BitVec 32 := 0#32
  let c1_i32_7 : BitVec 32 := 1#32
  let arg15 : BitVec 32 := Scf.iv c0_i32_5 c1_i32_7 k0_t3
  let v307 : Index := Scalar.indexCast arg15
  ![v307.toNat]
def k0_off12 : Fin 2 → Nat :=
  let c0_i32_9 : BitVec 32 := 0#32
  let c2_i32 : BitVec 32 := 2#32
  let v4 : BitVec 32 := Scalar.remsi c0_i32_9 c2_i32
  let c0_i32_10 : BitVec 32 := 0#32
  ![v4.toNat, 0]
def k0_off13 : Fin 3 → Nat :=
  let c0_i32_9 : BitVec 32 := 0#32
  let c2_i32 : BitVec 32 := 2#32
  let v4 : BitVec 32 := Scalar.remsi c0_i32_9 c2_i32
  let c0_i32_11 : BitVec 32 := 0#32
  let c0_i32_12 : BitVec 32 := 0#32
  ![v4.toNat, 0, 0]
def k0_off14 (v5 : BitVec 32) : Fin 3 → Nat :=
  let c0_i32_13 : BitVec 32 := 0#32
  let c0_i32_14 : BitVec 32 := 0#32
  ![v5.toNat, 0, 0]

def k0_off15 : Fin 2 → Nat :=
  let c0_i32_9 : BitVec 32 := 0#32
  let c2_i32 : BitVec 32 := 2#32
  let v4 : BitVec 32 := Scalar.remsi c0_i32_9 c2_i32
  let c1_i32_15 : BitVec 32 := 1#32
  ![v4.toNat, 1]
def k0_off16 : Fin 3 → Nat :=
  let c0_i32_9 : BitVec 32 := 0#32
  let c2_i32 : BitVec 32 := 2#32
  let v4 : BitVec 32 := Scalar.remsi c0_i32_9 c2_i32
  let c0_i32_16 : BitVec 32 := 0#32
  let c0_i32_17 : BitVec 32 := 0#32
  ![v4.toNat, 0, 0]
def k0_off17 (v5 : BitVec 32) : Fin 3 → Nat :=
  let c0_i32_18 : BitVec 32 := 0#32
  let c0_i32_19 : BitVec 32 := 0#32
  ![v5.toNat, 0, 0]

def k0_chk6 (v5 : BitVec 32) : Prop :=
  (∀ a, (k0_off14 v5) a + S1x1024x1408.size a ≤ S60x1024x1408.size a) ∧
  (∀ (hinb : ∀ a, (k0_off14 v5) a + S1x1024x1408.size a ≤ S60x1024x1408.size a), (Rect.unit (s := S60x1024x1408) (k0_off14 v5) S1x1024x1408.size hinb).WholeWords (EltTy.packing .i8)) ∧
  (∀ a, (k0_off17 v5) a + S1x32x1408.size a ≤ S60x32x1408.size a) ∧
  (∀ (hinb : ∀ a, (k0_off17 v5) a + S1x32x1408.size a ≤ S60x32x1408.size a), (Rect.unit (s := S60x32x1408) (k0_off17 v5) S1x32x1408.size hinb).WholeWords (EltTy.packing .bf16))
theorem k0_off14_inb : ∀ (v5 : BitVec 32) (k0_hw6 : k0_chk6 v5), ∀ a, (k0_off14 v5) a + S1x1024x1408.size a ≤ S60x1024x1408.size a := fun v5 k0_hw6 => k0_hw6.1
theorem k0_off14_wordsi8 : ∀ (v5 : BitVec 32) (k0_hw6 : k0_chk6 v5), (Rect.unit (s := S60x1024x1408) (k0_off14 v5) S1x1024x1408.size (k0_off14_inb v5 k0_hw6)).WholeWords (EltTy.packing .i8) := fun v5 k0_hw6 => k0_hw6.2.1 (k0_off14_inb v5 k0_hw6)
theorem k0_off17_inb : ∀ (v5 : BitVec 32) (k0_hw6 : k0_chk6 v5), ∀ a, (k0_off17 v5) a + S1x32x1408.size a ≤ S60x32x1408.size a := fun v5 k0_hw6 => k0_hw6.2.2.1
theorem k0_off17_wordsbf16 : ∀ (v5 : BitVec 32) (k0_hw6 : k0_chk6 v5), (Rect.unit (s := S60x32x1408) (k0_off17 v5) S1x32x1408.size (k0_off17_inb v5 k0_hw6)).WholeWords (EltTy.packing .bf16) := fun v5 k0_hw6 => k0_hw6.2.2.2 (k0_off17_inb v5 k0_hw6)

@[reducible] def k0_t4_loop (v3 : BitVec 32) : Scf.Loop 32 :=
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_33 : BitVec 32 := 1#32
  ⟨c0_i32_31, v30, c1_i32_33⟩

def k0_off18 (v3 : BitVec 32) (k0_t4 : Fin (k0_t4_loop v3).trips) : Fin 1 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c1_i32_439 : BitVec 32 := 1#32
  let v761 : BitVec 32 := Scalar.addi v306 c1_i32_439
  let v763 : Index := Scalar.indexCast v761
  ![v763.toNat]
def k0_cond1 (v3 : BitVec 32) (k0_t4 : Fin (k0_t4_loop v3).trips) : BitVec 1 :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c1_i32_187 : BitVec 32 := 1#32
  let v307 : BitVec 32 := Scalar.addi v306 c1_i32_187
  let v308 : BitVec 1 := Scalar.cmpi .slt v307 v3
  let v309 : BitVec 32 := Scalar.extui v308
  let c0_i32_188 : BitVec 32 := 0#32
  let v310 : BitVec 1 := Scalar.cmpi .ne v309 c0_i32_188
  v310

def k0_off19 (v3 : BitVec 32) (k0_t4 : Fin (k0_t4_loop v3).trips) : Fin 2 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c1_i32_439 : BitVec 32 := 1#32
  let v761 : BitVec 32 := Scalar.addi v306 c1_i32_439
  let c2_i32_440 : BitVec 32 := 2#32
  let v762 : BitVec 32 := Scalar.remsi v761 c2_i32_440
  let c0_i32_441 : BitVec 32 := 0#32
  ![v762.toNat, 0]
def k0_off20 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c1_i32_439 : BitVec 32 := 1#32
  let v761 : BitVec 32 := Scalar.addi v306 c1_i32_439
  let c2_i32_440 : BitVec 32 := 2#32
  let v762 : BitVec 32 := Scalar.remsi v761 c2_i32_440
  let c0_i32_442 : BitVec 32 := 0#32
  let c0_i32_443 : BitVec 32 := 0#32
  ![v762.toNat, 0, 0]
def k0_off21 (v764 : BitVec 32) : Fin 3 → Nat :=
  let c0_i32_444 : BitVec 32 := 0#32
  let c0_i32_445 : BitVec 32 := 0#32
  ![v764.toNat, 0, 0]

def k0_off22 (v3 : BitVec 32) (k0_t4 : Fin (k0_t4_loop v3).trips) : Fin 2 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c1_i32_439 : BitVec 32 := 1#32
  let v761 : BitVec 32 := Scalar.addi v306 c1_i32_439
  let c2_i32_440 : BitVec 32 := 2#32
  let v762 : BitVec 32 := Scalar.remsi v761 c2_i32_440
  let c1_i32_446 : BitVec 32 := 1#32
  ![v762.toNat, 1]
def k0_off23 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c1_i32_439 : BitVec 32 := 1#32
  let v761 : BitVec 32 := Scalar.addi v306 c1_i32_439
  let c2_i32_440 : BitVec 32 := 2#32
  let v762 : BitVec 32 := Scalar.remsi v761 c2_i32_440
  let c0_i32_447 : BitVec 32 := 0#32
  let c0_i32_448 : BitVec 32 := 0#32
  ![v762.toNat, 0, 0]
def k0_off24 (v764 : BitVec 32) : Fin 3 → Nat :=
  let c0_i32_449 : BitVec 32 := 0#32
  let c0_i32_450 : BitVec 32 := 0#32
  ![v764.toNat, 0, 0]

def k0_chk8 (v3 : BitVec 32) (k0_t4 : Fin (k0_t4_loop v3).trips) (v764 : BitVec 32) : Prop :=
  (∀ (k0_h1 : k0_cond1 v3 k0_t4 = 1#1), ∀ a, (k0_off21 v764) a + S1x1024x1408.size a ≤ S60x1024x1408.size a) ∧
  (∀ (k0_h1 : k0_cond1 v3 k0_t4 = 1#1), ∀ (hinb : ∀ a, (k0_off21 v764) a + S1x1024x1408.size a ≤ S60x1024x1408.size a), (Rect.unit (s := S60x1024x1408) (k0_off21 v764) S1x1024x1408.size hinb).WholeWords (EltTy.packing .i8)) ∧
  (∀ (k0_h1 : k0_cond1 v3 k0_t4 = 1#1), ∀ a, (k0_off24 v764) a + S1x32x1408.size a ≤ S60x32x1408.size a) ∧
  (∀ (k0_h1 : k0_cond1 v3 k0_t4 = 1#1), ∀ (hinb : ∀ a, (k0_off24 v764) a + S1x32x1408.size a ≤ S60x32x1408.size a), (Rect.unit (s := S60x32x1408) (k0_off24 v764) S1x32x1408.size hinb).WholeWords (EltTy.packing .bf16))
theorem k0_off21_inb : ∀ (v3 : BitVec 32) (k0_t4 : Fin (k0_t4_loop v3).trips) (v764 : BitVec 32) (k0_hw8 : k0_chk8 v3 k0_t4 v764), ∀ (k0_h1 : k0_cond1 v3 k0_t4 = 1#1), ∀ a, (k0_off21 v764) a + S1x1024x1408.size a ≤ S60x1024x1408.size a := fun v3 k0_t4 v764 k0_hw8 k0_h1 => k0_hw8.1 k0_h1
theorem k0_off21_wordsi8 : ∀ (v3 : BitVec 32) (k0_t4 : Fin (k0_t4_loop v3).trips) (v764 : BitVec 32) (k0_hw8 : k0_chk8 v3 k0_t4 v764), ∀ (k0_h1 : k0_cond1 v3 k0_t4 = 1#1), (Rect.unit (s := S60x1024x1408) (k0_off21 v764) S1x1024x1408.size (k0_off21_inb v3 k0_t4 v764 k0_hw8 k0_h1)).WholeWords (EltTy.packing .i8) := fun v3 k0_t4 v764 k0_hw8 k0_h1 => k0_hw8.2.1 k0_h1 (k0_off21_inb v3 k0_t4 v764 k0_hw8 k0_h1)
theorem k0_off24_inb : ∀ (v3 : BitVec 32) (k0_t4 : Fin (k0_t4_loop v3).trips) (v764 : BitVec 32) (k0_hw8 : k0_chk8 v3 k0_t4 v764), ∀ (k0_h1 : k0_cond1 v3 k0_t4 = 1#1), ∀ a, (k0_off24 v764) a + S1x32x1408.size a ≤ S60x32x1408.size a := fun v3 k0_t4 v764 k0_hw8 k0_h1 => k0_hw8.2.2.1 k0_h1
theorem k0_off24_wordsbf16 : ∀ (v3 : BitVec 32) (k0_t4 : Fin (k0_t4_loop v3).trips) (v764 : BitVec 32) (k0_hw8 : k0_chk8 v3 k0_t4 v764), ∀ (k0_h1 : k0_cond1 v3 k0_t4 = 1#1), (Rect.unit (s := S60x32x1408) (k0_off24 v764) S1x32x1408.size (k0_off24_inb v3 k0_t4 v764 k0_hw8 k0_h1)).WholeWords (EltTy.packing .bf16) := fun v3 k0_t4 v764 k0_hw8 k0_h1 => k0_hw8.2.2.2 k0_h1 (k0_off24_inb v3 k0_t4 v764 k0_hw8 k0_h1)

def k0_off25 (v3 : BitVec 32) (k0_t4 : Fin (k0_t4_loop v3).trips) : Fin 1 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let v312 : Index := Scalar.indexCast v306
  ![v312.toNat]
def k0_off26 (v3 : BitVec 32) (k0_t4 : Fin (k0_t4_loop v3).trips) : Fin 2 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_189 : BitVec 32 := 2#32
  let v311 : BitVec 32 := Scalar.remsi v306 c2_i32_189
  let c0_i32_190 : BitVec 32 := 0#32
  ![v311.toNat, 0]
def k0_off27 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_189 : BitVec 32 := 2#32
  let v311 : BitVec 32 := Scalar.remsi v306 c2_i32_189
  let c0_i32_191 : BitVec 32 := 0#32
  let c0_i32_192 : BitVec 32 := 0#32
  ![v311.toNat, 0, 0]
def k0_off28 (v313 : BitVec 32) : Fin 3 → Nat :=
  let c0_i32_193 : BitVec 32 := 0#32
  let c0_i32_194 : BitVec 32 := 0#32
  ![v313.toNat, 0, 0]

def k0_off29 (v3 : BitVec 32) (k0_t4 : Fin (k0_t4_loop v3).trips) : Fin 2 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_189 : BitVec 32 := 2#32
  let v311 : BitVec 32 := Scalar.remsi v306 c2_i32_189
  let c1_i32_195 : BitVec 32 := 1#32
  ![v311.toNat, 1]
def k0_off30 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_189 : BitVec 32 := 2#32
  let v311 : BitVec 32 := Scalar.remsi v306 c2_i32_189
  let c0_i32_196 : BitVec 32 := 0#32
  let c0_i32_197 : BitVec 32 := 0#32
  ![v311.toNat, 0, 0]
def k0_off31 (v313 : BitVec 32) : Fin 3 → Nat :=
  let c0_i32_198 : BitVec 32 := 0#32
  let c0_i32_199 : BitVec 32 := 0#32
  ![v313.toNat, 0, 0]

def k0_chk9 (v313 : BitVec 32) : Prop :=
  (∀ a, (k0_off28 v313) a + S1x1024x1408.size a ≤ S60x1024x1408.size a) ∧
  (∀ (hinb : ∀ a, (k0_off28 v313) a + S1x1024x1408.size a ≤ S60x1024x1408.size a), (Rect.unit (s := S60x1024x1408) (k0_off28 v313) S1x1024x1408.size hinb).WholeWords (EltTy.packing .i8)) ∧
  (∀ a, (k0_off31 v313) a + S1x32x1408.size a ≤ S60x32x1408.size a) ∧
  (∀ (hinb : ∀ a, (k0_off31 v313) a + S1x32x1408.size a ≤ S60x32x1408.size a), (Rect.unit (s := S60x32x1408) (k0_off31 v313) S1x32x1408.size hinb).WholeWords (EltTy.packing .bf16))
theorem k0_off28_inb : ∀ (v313 : BitVec 32) (k0_hw9 : k0_chk9 v313), ∀ a, (k0_off28 v313) a + S1x1024x1408.size a ≤ S60x1024x1408.size a := fun v313 k0_hw9 => k0_hw9.1
theorem k0_off28_wordsi8 : ∀ (v313 : BitVec 32) (k0_hw9 : k0_chk9 v313), (Rect.unit (s := S60x1024x1408) (k0_off28 v313) S1x1024x1408.size (k0_off28_inb v313 k0_hw9)).WholeWords (EltTy.packing .i8) := fun v313 k0_hw9 => k0_hw9.2.1 (k0_off28_inb v313 k0_hw9)
theorem k0_off31_inb : ∀ (v313 : BitVec 32) (k0_hw9 : k0_chk9 v313), ∀ a, (k0_off31 v313) a + S1x32x1408.size a ≤ S60x32x1408.size a := fun v313 k0_hw9 => k0_hw9.2.2.1
theorem k0_off31_wordsbf16 : ∀ (v313 : BitVec 32) (k0_hw9 : k0_chk9 v313), (Rect.unit (s := S60x32x1408) (k0_off31 v313) S1x32x1408.size (k0_off31_inb v313 k0_hw9)).WholeWords (EltTy.packing .bf16) := fun v313 k0_hw9 => k0_hw9.2.2.2 (k0_off31_inb v313 k0_hw9)

def k0_off32 (v3 : BitVec 32) (k0_t4 : Fin (k0_t4_loop v3).trips) : Fin 1 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let v327 : Index := Scalar.indexCast v306
  ![v327.toNat]
def k0_off33 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v329 : Index := Scalar.indexCast v326
  let c0_201 : Index := 0#32
  let c0_202 : Index := 0#32
  ![v329.toNat, 0, 0]
def k0_off34 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v344 : Index := Scalar.indexCast v326
  let c0_204 : Index := 0#32
  let c0_205 : Index := 0#32
  ![v344.toNat, 0, 0]
def k0_off35 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v401 : Index := Scalar.indexCast v326
  let c0_239 : Index := 0#32
  let c256_240 : Index := 256#32
  ![v401.toNat, 0, 256]
def k0_off36 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v416 : Index := Scalar.indexCast v326
  let c0_244 : Index := 0#32
  let c256_245 : Index := 256#32
  ![v416.toNat, 0, 256]
def k0_off37 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v473 : Index := Scalar.indexCast v326
  let c0_279 : Index := 0#32
  let c512_280 : Index := 512#32
  ![v473.toNat, 0, 512]
def k0_off38 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v488 : Index := Scalar.indexCast v326
  let c0_284 : Index := 0#32
  let c512_285 : Index := 512#32
  ![v488.toNat, 0, 512]
def k0_off39 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v545 : Index := Scalar.indexCast v326
  let c0_319 : Index := 0#32
  let c768_320 : Index := 768#32
  ![v545.toNat, 0, 768]
def k0_off40 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v560 : Index := Scalar.indexCast v326
  let c0_324 : Index := 0#32
  let c768_325 : Index := 768#32
  ![v560.toNat, 0, 768]
def k0_off41 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v617 : Index := Scalar.indexCast v326
  let c0_359 : Index := 0#32
  let c1024_360 : Index := 1024#32
  ![v617.toNat, 0, 1024]
def k0_off42 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v632 : Index := Scalar.indexCast v326
  let c0_364 : Index := 0#32
  let c1024_365 : Index := 1024#32
  ![v632.toNat, 0, 1024]
def k0_off43 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v689 : Index := Scalar.indexCast v326
  let c0_399 : Index := 0#32
  let c1280_400 : Index := 1280#32
  ![v689.toNat, 0, 1280]
def k0_off44 (v3 : BitVec 32) (k0_t4 : Fin (k0_t4_loop v3).trips) : Fin 3 → Nat :=
  let c0_i32_30 : BitVec 32 := 0#32
  let c0_i32_31 : BitVec 32 := 0#32
  let c1_i32_33 : BitVec 32 := 1#32
  let arg15 : BitVec 32 := Scf.iv c0_i32_31 c1_i32_33 k0_t4
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v704 : Index := Scalar.indexCast v326
  let c0_404 : Index := 0#32
  let c1280_405 : Index := 1280#32
  ![v704.toNat, 0, 1280]
@[reducible] def k0_t5_loop (v3 : BitVec 32) : Scf.Loop 32 :=
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let v27 : BitVec 32 := Scalar.addi c0_i32_31 v26
  let c1_i32_34 : BitVec 32 := 1#32
  ⟨v30, v27, c1_i32_34⟩
def k0_off45 (v3 : BitVec 32) (k0_t5 : Fin (k0_t5_loop v3).trips) : Fin 1 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c1_i32_439 : BitVec 32 := 1#32
  let v761 : BitVec 32 := Scalar.addi v306 c1_i32_439
  let v763 : Index := Scalar.indexCast v761
  ![v763.toNat]
def k0_cond2 (v3 : BitVec 32) (k0_t5 : Fin (k0_t5_loop v3).trips) : BitVec 1 :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c1_i32_187 : BitVec 32 := 1#32
  let v307 : BitVec 32 := Scalar.addi v306 c1_i32_187
  let v308 : BitVec 1 := Scalar.cmpi .slt v307 v3
  let v309 : BitVec 32 := Scalar.extui v308
  let c0_i32_188 : BitVec 32 := 0#32
  let v310 : BitVec 1 := Scalar.cmpi .ne v309 c0_i32_188
  v310

def k0_off46 (v3 : BitVec 32) (k0_t5 : Fin (k0_t5_loop v3).trips) : Fin 2 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c1_i32_439 : BitVec 32 := 1#32
  let v761 : BitVec 32 := Scalar.addi v306 c1_i32_439
  let c2_i32_440 : BitVec 32 := 2#32
  let v762 : BitVec 32 := Scalar.remsi v761 c2_i32_440
  let c0_i32_441 : BitVec 32 := 0#32
  ![v762.toNat, 0]
def k0_off47 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c1_i32_439 : BitVec 32 := 1#32
  let v761 : BitVec 32 := Scalar.addi v306 c1_i32_439
  let c2_i32_440 : BitVec 32 := 2#32
  let v762 : BitVec 32 := Scalar.remsi v761 c2_i32_440
  let c0_i32_442 : BitVec 32 := 0#32
  let c0_i32_443 : BitVec 32 := 0#32
  ![v762.toNat, 0, 0]
def k0_off48 (v764 : BitVec 32) : Fin 3 → Nat :=
  let c0_i32_444 : BitVec 32 := 0#32
  let c0_i32_445 : BitVec 32 := 0#32
  ![v764.toNat, 0, 0]

def k0_off49 (v3 : BitVec 32) (k0_t5 : Fin (k0_t5_loop v3).trips) : Fin 2 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c1_i32_439 : BitVec 32 := 1#32
  let v761 : BitVec 32 := Scalar.addi v306 c1_i32_439
  let c2_i32_440 : BitVec 32 := 2#32
  let v762 : BitVec 32 := Scalar.remsi v761 c2_i32_440
  let c1_i32_446 : BitVec 32 := 1#32
  ![v762.toNat, 1]
def k0_off50 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c1_i32_439 : BitVec 32 := 1#32
  let v761 : BitVec 32 := Scalar.addi v306 c1_i32_439
  let c2_i32_440 : BitVec 32 := 2#32
  let v762 : BitVec 32 := Scalar.remsi v761 c2_i32_440
  let c0_i32_447 : BitVec 32 := 0#32
  let c0_i32_448 : BitVec 32 := 0#32
  ![v762.toNat, 0, 0]
def k0_off51 (v764 : BitVec 32) : Fin 3 → Nat :=
  let c0_i32_449 : BitVec 32 := 0#32
  let c0_i32_450 : BitVec 32 := 0#32
  ![v764.toNat, 0, 0]

def k0_chk10 (v3 : BitVec 32) (k0_t5 : Fin (k0_t5_loop v3).trips) (v764 : BitVec 32) : Prop :=
  (∀ (k0_h2 : k0_cond2 v3 k0_t5 = 1#1), ∀ a, (k0_off48 v764) a + S1x1024x1408.size a ≤ S60x1024x1408.size a) ∧
  (∀ (k0_h2 : k0_cond2 v3 k0_t5 = 1#1), ∀ (hinb : ∀ a, (k0_off48 v764) a + S1x1024x1408.size a ≤ S60x1024x1408.size a), (Rect.unit (s := S60x1024x1408) (k0_off48 v764) S1x1024x1408.size hinb).WholeWords (EltTy.packing .i8)) ∧
  (∀ (k0_h2 : k0_cond2 v3 k0_t5 = 1#1), ∀ a, (k0_off51 v764) a + S1x32x1408.size a ≤ S60x32x1408.size a) ∧
  (∀ (k0_h2 : k0_cond2 v3 k0_t5 = 1#1), ∀ (hinb : ∀ a, (k0_off51 v764) a + S1x32x1408.size a ≤ S60x32x1408.size a), (Rect.unit (s := S60x32x1408) (k0_off51 v764) S1x32x1408.size hinb).WholeWords (EltTy.packing .bf16))
theorem k0_off48_inb : ∀ (v3 : BitVec 32) (k0_t5 : Fin (k0_t5_loop v3).trips) (v764 : BitVec 32) (k0_hw10 : k0_chk10 v3 k0_t5 v764), ∀ (k0_h2 : k0_cond2 v3 k0_t5 = 1#1), ∀ a, (k0_off48 v764) a + S1x1024x1408.size a ≤ S60x1024x1408.size a := fun v3 k0_t5 v764 k0_hw10 k0_h2 => k0_hw10.1 k0_h2
theorem k0_off48_wordsi8 : ∀ (v3 : BitVec 32) (k0_t5 : Fin (k0_t5_loop v3).trips) (v764 : BitVec 32) (k0_hw10 : k0_chk10 v3 k0_t5 v764), ∀ (k0_h2 : k0_cond2 v3 k0_t5 = 1#1), (Rect.unit (s := S60x1024x1408) (k0_off48 v764) S1x1024x1408.size (k0_off48_inb v3 k0_t5 v764 k0_hw10 k0_h2)).WholeWords (EltTy.packing .i8) := fun v3 k0_t5 v764 k0_hw10 k0_h2 => k0_hw10.2.1 k0_h2 (k0_off48_inb v3 k0_t5 v764 k0_hw10 k0_h2)
theorem k0_off51_inb : ∀ (v3 : BitVec 32) (k0_t5 : Fin (k0_t5_loop v3).trips) (v764 : BitVec 32) (k0_hw10 : k0_chk10 v3 k0_t5 v764), ∀ (k0_h2 : k0_cond2 v3 k0_t5 = 1#1), ∀ a, (k0_off51 v764) a + S1x32x1408.size a ≤ S60x32x1408.size a := fun v3 k0_t5 v764 k0_hw10 k0_h2 => k0_hw10.2.2.1 k0_h2
theorem k0_off51_wordsbf16 : ∀ (v3 : BitVec 32) (k0_t5 : Fin (k0_t5_loop v3).trips) (v764 : BitVec 32) (k0_hw10 : k0_chk10 v3 k0_t5 v764), ∀ (k0_h2 : k0_cond2 v3 k0_t5 = 1#1), (Rect.unit (s := S60x32x1408) (k0_off51 v764) S1x32x1408.size (k0_off51_inb v3 k0_t5 v764 k0_hw10 k0_h2)).WholeWords (EltTy.packing .bf16) := fun v3 k0_t5 v764 k0_hw10 k0_h2 => k0_hw10.2.2.2 k0_h2 (k0_off51_inb v3 k0_t5 v764 k0_hw10 k0_h2)

def k0_off52 (v3 : BitVec 32) (k0_t5 : Fin (k0_t5_loop v3).trips) : Fin 1 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let v312 : Index := Scalar.indexCast v306
  ![v312.toNat]
def k0_off53 (v3 : BitVec 32) (k0_t5 : Fin (k0_t5_loop v3).trips) : Fin 2 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_189 : BitVec 32 := 2#32
  let v311 : BitVec 32 := Scalar.remsi v306 c2_i32_189
  let c0_i32_190 : BitVec 32 := 0#32
  ![v311.toNat, 0]
def k0_off54 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_189 : BitVec 32 := 2#32
  let v311 : BitVec 32 := Scalar.remsi v306 c2_i32_189
  let c0_i32_191 : BitVec 32 := 0#32
  let c0_i32_192 : BitVec 32 := 0#32
  ![v311.toNat, 0, 0]
def k0_off55 (v313 : BitVec 32) : Fin 3 → Nat :=
  let c0_i32_193 : BitVec 32 := 0#32
  let c0_i32_194 : BitVec 32 := 0#32
  ![v313.toNat, 0, 0]

def k0_off56 (v3 : BitVec 32) (k0_t5 : Fin (k0_t5_loop v3).trips) : Fin 2 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_189 : BitVec 32 := 2#32
  let v311 : BitVec 32 := Scalar.remsi v306 c2_i32_189
  let c1_i32_195 : BitVec 32 := 1#32
  ![v311.toNat, 1]
def k0_off57 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_189 : BitVec 32 := 2#32
  let v311 : BitVec 32 := Scalar.remsi v306 c2_i32_189
  let c0_i32_196 : BitVec 32 := 0#32
  let c0_i32_197 : BitVec 32 := 0#32
  ![v311.toNat, 0, 0]
def k0_off58 (v313 : BitVec 32) : Fin 3 → Nat :=
  let c0_i32_198 : BitVec 32 := 0#32
  let c0_i32_199 : BitVec 32 := 0#32
  ![v313.toNat, 0, 0]

def k0_chk11 (v313 : BitVec 32) : Prop :=
  (∀ a, (k0_off55 v313) a + S1x1024x1408.size a ≤ S60x1024x1408.size a) ∧
  (∀ (hinb : ∀ a, (k0_off55 v313) a + S1x1024x1408.size a ≤ S60x1024x1408.size a), (Rect.unit (s := S60x1024x1408) (k0_off55 v313) S1x1024x1408.size hinb).WholeWords (EltTy.packing .i8)) ∧
  (∀ a, (k0_off58 v313) a + S1x32x1408.size a ≤ S60x32x1408.size a) ∧
  (∀ (hinb : ∀ a, (k0_off58 v313) a + S1x32x1408.size a ≤ S60x32x1408.size a), (Rect.unit (s := S60x32x1408) (k0_off58 v313) S1x32x1408.size hinb).WholeWords (EltTy.packing .bf16))
theorem k0_off55_inb : ∀ (v313 : BitVec 32) (k0_hw11 : k0_chk11 v313), ∀ a, (k0_off55 v313) a + S1x1024x1408.size a ≤ S60x1024x1408.size a := fun v313 k0_hw11 => k0_hw11.1
theorem k0_off55_wordsi8 : ∀ (v313 : BitVec 32) (k0_hw11 : k0_chk11 v313), (Rect.unit (s := S60x1024x1408) (k0_off55 v313) S1x1024x1408.size (k0_off55_inb v313 k0_hw11)).WholeWords (EltTy.packing .i8) := fun v313 k0_hw11 => k0_hw11.2.1 (k0_off55_inb v313 k0_hw11)
theorem k0_off58_inb : ∀ (v313 : BitVec 32) (k0_hw11 : k0_chk11 v313), ∀ a, (k0_off58 v313) a + S1x32x1408.size a ≤ S60x32x1408.size a := fun v313 k0_hw11 => k0_hw11.2.2.1
theorem k0_off58_wordsbf16 : ∀ (v313 : BitVec 32) (k0_hw11 : k0_chk11 v313), (Rect.unit (s := S60x32x1408) (k0_off58 v313) S1x32x1408.size (k0_off58_inb v313 k0_hw11)).WholeWords (EltTy.packing .bf16) := fun v313 k0_hw11 => k0_hw11.2.2.2 (k0_off58_inb v313 k0_hw11)

def k0_off59 (v3 : BitVec 32) (k0_t5 : Fin (k0_t5_loop v3).trips) : Fin 1 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let v327 : Index := Scalar.indexCast v306
  ![v327.toNat]
def k0_off60 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v329 : Index := Scalar.indexCast v326
  let c0_201 : Index := 0#32
  let c0_202 : Index := 0#32
  ![v329.toNat, 0, 0]
def k0_off61 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v344 : Index := Scalar.indexCast v326
  let c0_204 : Index := 0#32
  let c0_205 : Index := 0#32
  ![v344.toNat, 0, 0]
def k0_off62 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v401 : Index := Scalar.indexCast v326
  let c0_239 : Index := 0#32
  let c256_240 : Index := 256#32
  ![v401.toNat, 0, 256]
def k0_off63 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v416 : Index := Scalar.indexCast v326
  let c0_244 : Index := 0#32
  let c256_245 : Index := 256#32
  ![v416.toNat, 0, 256]
def k0_off64 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v473 : Index := Scalar.indexCast v326
  let c0_279 : Index := 0#32
  let c512_280 : Index := 512#32
  ![v473.toNat, 0, 512]
def k0_off65 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v488 : Index := Scalar.indexCast v326
  let c0_284 : Index := 0#32
  let c512_285 : Index := 512#32
  ![v488.toNat, 0, 512]
def k0_off66 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v545 : Index := Scalar.indexCast v326
  let c0_319 : Index := 0#32
  let c768_320 : Index := 768#32
  ![v545.toNat, 0, 768]
def k0_off67 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v560 : Index := Scalar.indexCast v326
  let c0_324 : Index := 0#32
  let c768_325 : Index := 768#32
  ![v560.toNat, 0, 768]
def k0_off68 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v617 : Index := Scalar.indexCast v326
  let c0_359 : Index := 0#32
  let c1024_360 : Index := 1024#32
  ![v617.toNat, 0, 1024]
def k0_off69 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v632 : Index := Scalar.indexCast v326
  let c0_364 : Index := 0#32
  let c1024_365 : Index := 1024#32
  ![v632.toNat, 0, 1024]
def k0_off70 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v689 : Index := Scalar.indexCast v326
  let c0_399 : Index := 0#32
  let c1280_400 : Index := 1280#32
  ![v689.toNat, 0, 1280]
def k0_off71 (v3 : BitVec 32) (k0_t5 : Fin (k0_t5_loop v3).trips) : Fin 3 → Nat :=
  let c0_i32_30 : BitVec 32 := 0#32
  let c0_i32_31 : BitVec 32 := 0#32
  let c0_i32_25 : BitVec 32 := 0#32
  let v22 : BitVec 32 := Scalar.subi v3 c0_i32_25
  let c1_i32_26 : BitVec 32 := 1#32
  let c1_i32_27 : BitVec 32 := 1#32
  let v23 : BitVec 32 := Scalar.subi c1_i32_26 c1_i32_27
  let v24 : BitVec 32 := Scalar.addi v22 v23
  let c1_i32_28 : BitVec 32 := 1#32
  let v25 : BitVec 32 := Scalar.divsi v24 c1_i32_28
  let v26 : BitVec 32 := Scalar.subi v25 c0_i32_31
  let c1_i32_32 : BitVec 32 := 1#32
  let v28 : BitVec 32 := Scalar.divsi v26 c1_i32_32
  let v29 : BitVec 32 := Scalar.muli v28 c1_i32_32
  let v30 : BitVec 32 := Scalar.addi c0_i32_31 v29
  let c1_i32_34 : BitVec 32 := 1#32
  let arg15 : BitVec 32 := Scf.iv v30 c1_i32_34 k0_t5
  let c1_i32_29 : BitVec 32 := 1#32
  let v305 : BitVec 32 := Scalar.muli arg15 c1_i32_29
  let v306 : BitVec 32 := Scalar.addi c0_i32_30 v305
  let c2_i32_200 : BitVec 32 := 2#32
  let v326 : BitVec 32 := Scalar.remsi v306 c2_i32_200
  let v704 : Index := Scalar.indexCast v326
  let c0_404 : Index := 0#32
  let c1280_405 : Index := 1280#32
  ![v704.toNat, 0, 1280]

def k0_chk7_0 (v3 : BitVec 32) : Prop :=
  ((k0_t4_loop v3).OK) ∧
  (∀ k0_t4 : Fin (k0_t4_loop v3).trips, ∀ (k0_h1 : k0_cond1 v3 k0_t4 = 1#1), ∀ a, (k0_off18 v3 k0_t4) a + S1.size a ≤ S61.size a) ∧
  (∀ k0_t4 : Fin (k0_t4_loop v3).trips, ∀ (k0_h1 : k0_cond1 v3 k0_t4 = 1#1), ∀ a, (k0_off19 v3 k0_t4) a + S1x1.size a ≤ S2x2.size a) ∧
  (∀ k0_t4 : Fin (k0_t4_loop v3).trips, ∀ (k0_h1 : k0_cond1 v3 k0_t4 = 1#1), ∀ a, (k0_off20 v3 k0_t4) a + S1x1024x1408.size a ≤ S2x1024x1408.size a) ∧
  (∀ k0_t4 : Fin (k0_t4_loop v3).trips, ∀ (k0_h1 : k0_cond1 v3 k0_t4 = 1#1), ∀ (hinb : ∀ a, (k0_off20 v3 k0_t4) a + S1x1024x1408.size a ≤ S2x1024x1408.size a), (Rect.unit (s := S2x1024x1408) (k0_off20 v3 k0_t4) S1x1024x1408.size hinb).WholeWords (EltTy.packing .i8)) ∧
  (∀ k0_t4 : Fin (k0_t4_loop v3).trips, ∀ (k0_h1 : k0_cond1 v3 k0_t4 = 1#1), ∀ a, (k0_off22 v3 k0_t4) a + S1x1.size a ≤ S2x2.size a) ∧
  (∀ k0_t4 : Fin (k0_t4_loop v3).trips, ∀ (k0_h1 : k0_cond1 v3 k0_t4 = 1#1), ∀ a, (k0_off23 v3 k0_t4) a + S1x32x1408.size a ≤ S2x32x1408.size a) ∧
  (∀ k0_t4 : Fin (k0_t4_loop v3).trips, ∀ (k0_h1 : k0_cond1 v3 k0_t4 = 1#1), ∀ (hinb : ∀ a, (k0_off23 v3 k0_t4) a + S1x32x1408.size a ≤ S2x32x1408.size a), (Rect.unit (s := S2x32x1408) (k0_off23 v3 k0_t4) S1x32x1408.size hinb).WholeWords (EltTy.packing .bf16)) ∧
  (∀ k0_t4 : Fin (k0_t4_loop v3).trips, ∀ a, (k0_off25 v3 k0_t4) a + S1.size a ≤ S61.size a) ∧
  (∀ k0_t4 : Fin (k0_t4_loop v3).trips, ∀ a, (k0_off26 v3 k0_t4) a + S1x1.size a ≤ S2x2.size a) ∧
  (∀ k0_t4 : Fin (k0_t4_loop v3).trips, ∀ a, (k0_off27 v3 k0_t4) a + S1x1024x1408.size a ≤ S2x1024x1408.size a) ∧
  (∀ k0_t4 : Fin (k0_t4_loop v3).trips, ∀ (hinb : ∀ a, (k0_off27 v3 k0_t4) a + S1x1024x1408.size a ≤ S2x1024x1408.size a), (Rect.unit (s := S2x1024x1408) (k0_off27 v3 k0_t4) S1x1024x1408.size hinb).WholeWords (EltTy.packing .i8)) ∧
  (∀ k0_t4 : Fin (k0_t4_loop v3).trips, ∀ a, (k0_off29 v3 k0_t4) a + S1x1.size a ≤ S2x2.size a) ∧
  (∀ k0_t4 : Fin (k0_t4_loop v3).trips, ∀ a, (k0_off30 v3 k0_t4) a + S1x32x1408.size a ≤ S2x32x1408.size a) ∧
  (∀ k0_t4 : Fin (k0_t4_loop v3).trips, ∀ (hinb : ∀ a, (k0_off30 v3 k0_t4) a + S1x32x1408.size a ≤ S2x32x1408.size a), (Rect.unit (s := S2x32x1408) (k0_off30 v3 k0_t4) S1x32x1408.size hinb).WholeWords (EltTy.packing .bf16)) ∧
  (∀ k0_t4 : Fin (k0_t4_loop v3).trips, ∀ a, (k0_off32 v3 k0_t4) a + S1.size a ≤ S61.size a) ∧
  (∀ k0_t4 : Fin (k0_t4_loop v3).trips, ∀ a, (k0_off33 v3 k0_t4) a + S1x1024x256.size a ≤ S2x1024x1408.size a) ∧
  (∀ k0_t4 : Fin (k0_t4_loop v3).trips, ∀ a, (k0_off34 v3 k0_t4) a + S1x32x256.size a ≤ S2x32x1408.size a) ∧
  (∀ k0_t4 : Fin (k0_t4_loop v3).trips, ∀ a, (k0_off35 v3 k0_t4) a + S1x1024x256.size a ≤ S2x1024x1408.size a) ∧
  (∀ k0_t4 : Fin (k0_t4_loop v3).trips, ∀ a, (k0_off36 v3 k0_t4) a + S1x32x256.size a ≤ S2x32x1408.size a) ∧
  (∀ k0_t4 : Fin (k0_t4_loop v3).trips, ∀ a, (k0_off37 v3 k0_t4) a + S1x1024x256.size a ≤ S2x1024x1408.size a) ∧
  (∀ k0_t4 : Fin (k0_t4_loop v3).trips, ∀ a, (k0_off38 v3 k0_t4) a + S1x32x256.size a ≤ S2x32x1408.size a) ∧
  (∀ k0_t4 : Fin (k0_t4_loop v3).trips, ∀ a, (k0_off39 v3 k0_t4) a + S1x1024x256.size a ≤ S2x1024x1408.size a) ∧
  (∀ k0_t4 : Fin (k0_t4_loop v3).trips, ∀ a, (k0_off40 v3 k0_t4) a + S1x32x256.size a ≤ S2x32x1408.size a) ∧
  (∀ k0_t4 : Fin (k0_t4_loop v3).trips, ∀ a, (k0_off41 v3 k0_t4) a + S1x1024x256.size a ≤ S2x1024x1408.size a) ∧
  (∀ k0_t4 : Fin (k0_t4_loop v3).trips, ∀ a, (k0_off42 v3 k0_t4) a + S1x32x256.size a ≤ S2x32x1408.size a) ∧
  (∀ k0_t4 : Fin (k0_t4_loop v3).trips, ∀ a, (k0_off43 v3 k0_t4) a + S1x1024x128.size a ≤ S2x1024x1408.size a) ∧
  (∀ k0_t4 : Fin (k0_t4_loop v3).trips, ∀ a, (k0_off44 v3 k0_t4) a + S1x32x128.size a ≤ S2x32x1408.size a) ∧
  ((k0_t5_loop v3).OK) ∧
  (∀ k0_t5 : Fin (k0_t5_loop v3).trips, ∀ (k0_h2 : k0_cond2 v3 k0_t5 = 1#1), ∀ a, (k0_off45 v3 k0_t5) a + S1.size a ≤ S61.size a) ∧
  (∀ k0_t5 : Fin (k0_t5_loop v3).trips, ∀ (k0_h2 : k0_cond2 v3 k0_t5 = 1#1), ∀ a, (k0_off46 v3 k0_t5) a + S1x1.size a ≤ S2x2.size a) ∧
  (∀ k0_t5 : Fin (k0_t5_loop v3).trips, ∀ (k0_h2 : k0_cond2 v3 k0_t5 = 1#1), ∀ a, (k0_off47 v3 k0_t5) a + S1x1024x1408.size a ≤ S2x1024x1408.size a)
def k0_chk7_1 (v3 : BitVec 32) : Prop :=
  (∀ k0_t5 : Fin (k0_t5_loop v3).trips, ∀ (k0_h2 : k0_cond2 v3 k0_t5 = 1#1), ∀ (hinb : ∀ a, (k0_off47 v3 k0_t5) a + S1x1024x1408.size a ≤ S2x1024x1408.size a), (Rect.unit (s := S2x1024x1408) (k0_off47 v3 k0_t5) S1x1024x1408.size hinb).WholeWords (EltTy.packing .i8)) ∧
  (∀ k0_t5 : Fin (k0_t5_loop v3).trips, ∀ (k0_h2 : k0_cond2 v3 k0_t5 = 1#1), ∀ a, (k0_off49 v3 k0_t5) a + S1x1.size a ≤ S2x2.size a) ∧
  (∀ k0_t5 : Fin (k0_t5_loop v3).trips, ∀ (k0_h2 : k0_cond2 v3 k0_t5 = 1#1), ∀ a, (k0_off50 v3 k0_t5) a + S1x32x1408.size a ≤ S2x32x1408.size a) ∧
  (∀ k0_t5 : Fin (k0_t5_loop v3).trips, ∀ (k0_h2 : k0_cond2 v3 k0_t5 = 1#1), ∀ (hinb : ∀ a, (k0_off50 v3 k0_t5) a + S1x32x1408.size a ≤ S2x32x1408.size a), (Rect.unit (s := S2x32x1408) (k0_off50 v3 k0_t5) S1x32x1408.size hinb).WholeWords (EltTy.packing .bf16)) ∧
  (∀ k0_t5 : Fin (k0_t5_loop v3).trips, ∀ a, (k0_off52 v3 k0_t5) a + S1.size a ≤ S61.size a) ∧
  (∀ k0_t5 : Fin (k0_t5_loop v3).trips, ∀ a, (k0_off53 v3 k0_t5) a + S1x1.size a ≤ S2x2.size a) ∧
  (∀ k0_t5 : Fin (k0_t5_loop v3).trips, ∀ a, (k0_off54 v3 k0_t5) a + S1x1024x1408.size a ≤ S2x1024x1408.size a) ∧
  (∀ k0_t5 : Fin (k0_t5_loop v3).trips, ∀ (hinb : ∀ a, (k0_off54 v3 k0_t5) a + S1x1024x1408.size a ≤ S2x1024x1408.size a), (Rect.unit (s := S2x1024x1408) (k0_off54 v3 k0_t5) S1x1024x1408.size hinb).WholeWords (EltTy.packing .i8)) ∧
  (∀ k0_t5 : Fin (k0_t5_loop v3).trips, ∀ a, (k0_off56 v3 k0_t5) a + S1x1.size a ≤ S2x2.size a) ∧
  (∀ k0_t5 : Fin (k0_t5_loop v3).trips, ∀ a, (k0_off57 v3 k0_t5) a + S1x32x1408.size a ≤ S2x32x1408.size a) ∧
  (∀ k0_t5 : Fin (k0_t5_loop v3).trips, ∀ (hinb : ∀ a, (k0_off57 v3 k0_t5) a + S1x32x1408.size a ≤ S2x32x1408.size a), (Rect.unit (s := S2x32x1408) (k0_off57 v3 k0_t5) S1x32x1408.size hinb).WholeWords (EltTy.packing .bf16)) ∧
  (∀ k0_t5 : Fin (k0_t5_loop v3).trips, ∀ a, (k0_off59 v3 k0_t5) a + S1.size a ≤ S61.size a) ∧
  (∀ k0_t5 : Fin (k0_t5_loop v3).trips, ∀ a, (k0_off60 v3 k0_t5) a + S1x1024x256.size a ≤ S2x1024x1408.size a) ∧
  (∀ k0_t5 : Fin (k0_t5_loop v3).trips, ∀ a, (k0_off61 v3 k0_t5) a + S1x32x256.size a ≤ S2x32x1408.size a) ∧
  (∀ k0_t5 : Fin (k0_t5_loop v3).trips, ∀ a, (k0_off62 v3 k0_t5) a + S1x1024x256.size a ≤ S2x1024x1408.size a) ∧
  (∀ k0_t5 : Fin (k0_t5_loop v3).trips, ∀ a, (k0_off63 v3 k0_t5) a + S1x32x256.size a ≤ S2x32x1408.size a) ∧
  (∀ k0_t5 : Fin (k0_t5_loop v3).trips, ∀ a, (k0_off64 v3 k0_t5) a + S1x1024x256.size a ≤ S2x1024x1408.size a) ∧
  (∀ k0_t5 : Fin (k0_t5_loop v3).trips, ∀ a, (k0_off65 v3 k0_t5) a + S1x32x256.size a ≤ S2x32x1408.size a) ∧
  (∀ k0_t5 : Fin (k0_t5_loop v3).trips, ∀ a, (k0_off66 v3 k0_t5) a + S1x1024x256.size a ≤ S2x1024x1408.size a) ∧
  (∀ k0_t5 : Fin (k0_t5_loop v3).trips, ∀ a, (k0_off67 v3 k0_t5) a + S1x32x256.size a ≤ S2x32x1408.size a) ∧
  (∀ k0_t5 : Fin (k0_t5_loop v3).trips, ∀ a, (k0_off68 v3 k0_t5) a + S1x1024x256.size a ≤ S2x1024x1408.size a) ∧
  (∀ k0_t5 : Fin (k0_t5_loop v3).trips, ∀ a, (k0_off69 v3 k0_t5) a + S1x32x256.size a ≤ S2x32x1408.size a) ∧
  (∀ k0_t5 : Fin (k0_t5_loop v3).trips, ∀ a, (k0_off70 v3 k0_t5) a + S1x1024x128.size a ≤ S2x1024x1408.size a) ∧
  (∀ k0_t5 : Fin (k0_t5_loop v3).trips, ∀ a, (k0_off71 v3 k0_t5) a + S1x32x128.size a ≤ S2x32x1408.size a)
def k0_chk7 (v3 : BitVec 32) : Prop :=
  k0_chk7_0 v3 ∧
  k0_chk7_1 v3
theorem k0_t4_ok : ∀ (v3 : BitVec 32) (k0_hw7 : k0_chk7 v3), (k0_t4_loop v3).OK := fun v3 k0_hw7 => k0_hw7.1.1
theorem k0_off18_inb : ∀ (v3 : BitVec 32) (k0_hw7 : k0_chk7 v3) (k0_t4 : Fin (k0_t4_loop v3).trips), ∀ (k0_h1 : k0_cond1 v3 k0_t4 = 1#1), ∀ a, (k0_off18 v3 k0_t4) a + S1.size a ≤ S61.size a := fun v3 k0_hw7 k0_t4 k0_h1 => k0_hw7.1.2.1 k0_t4 k0_h1
theorem k0_off19_inb : ∀ (v3 : BitVec 32) (k0_hw7 : k0_chk7 v3) (k0_t4 : Fin (k0_t4_loop v3).trips), ∀ (k0_h1 : k0_cond1 v3 k0_t4 = 1#1), ∀ a, (k0_off19 v3 k0_t4) a + S1x1.size a ≤ S2x2.size a := fun v3 k0_hw7 k0_t4 k0_h1 => k0_hw7.1.2.2.1 k0_t4 k0_h1
theorem k0_off20_inb : ∀ (v3 : BitVec 32) (k0_hw7 : k0_chk7 v3) (k0_t4 : Fin (k0_t4_loop v3).trips), ∀ (k0_h1 : k0_cond1 v3 k0_t4 = 1#1), ∀ a, (k0_off20 v3 k0_t4) a + S1x1024x1408.size a ≤ S2x1024x1408.size a := fun v3 k0_hw7 k0_t4 k0_h1 => k0_hw7.1.2.2.2.1 k0_t4 k0_h1
theorem k0_off20_wordsi8 : ∀ (v3 : BitVec 32) (k0_hw7 : k0_chk7 v3) (k0_t4 : Fin (k0_t4_loop v3).trips), ∀ (k0_h1 : k0_cond1 v3 k0_t4 = 1#1), (Rect.unit (s := S2x1024x1408) (k0_off20 v3 k0_t4) S1x1024x1408.size (k0_off20_inb v3 k0_hw7 k0_t4 k0_h1)).WholeWords (EltTy.packing .i8) := fun v3 k0_hw7 k0_t4 k0_h1 => k0_hw7.1.2.2.2.2.1 k0_t4 k0_h1 (k0_off20_inb v3 k0_hw7 k0_t4 k0_h1)
theorem k0_off22_inb : ∀ (v3 : BitVec 32) (k0_hw7 : k0_chk7 v3) (k0_t4 : Fin (k0_t4_loop v3).trips), ∀ (k0_h1 : k0_cond1 v3 k0_t4 = 1#1), ∀ a, (k0_off22 v3 k0_t4) a + S1x1.size a ≤ S2x2.size a := fun v3 k0_hw7 k0_t4 k0_h1 => k0_hw7.1.2.2.2.2.2.1 k0_t4 k0_h1
theorem k0_off23_inb : ∀ (v3 : BitVec 32) (k0_hw7 : k0_chk7 v3) (k0_t4 : Fin (k0_t4_loop v3).trips), ∀ (k0_h1 : k0_cond1 v3 k0_t4 = 1#1), ∀ a, (k0_off23 v3 k0_t4) a + S1x32x1408.size a ≤ S2x32x1408.size a := fun v3 k0_hw7 k0_t4 k0_h1 => k0_hw7.1.2.2.2.2.2.2.1 k0_t4 k0_h1
theorem k0_off23_wordsbf16 : ∀ (v3 : BitVec 32) (k0_hw7 : k0_chk7 v3) (k0_t4 : Fin (k0_t4_loop v3).trips), ∀ (k0_h1 : k0_cond1 v3 k0_t4 = 1#1), (Rect.unit (s := S2x32x1408) (k0_off23 v3 k0_t4) S1x32x1408.size (k0_off23_inb v3 k0_hw7 k0_t4 k0_h1)).WholeWords (EltTy.packing .bf16) := fun v3 k0_hw7 k0_t4 k0_h1 => k0_hw7.1.2.2.2.2.2.2.2.1 k0_t4 k0_h1 (k0_off23_inb v3 k0_hw7 k0_t4 k0_h1)
theorem k0_off25_inb : ∀ (v3 : BitVec 32) (k0_hw7 : k0_chk7 v3) (k0_t4 : Fin (k0_t4_loop v3).trips), ∀ a, (k0_off25 v3 k0_t4) a + S1.size a ≤ S61.size a := fun v3 k0_hw7 k0_t4 => k0_hw7.1.2.2.2.2.2.2.2.2.1 k0_t4
theorem k0_off26_inb : ∀ (v3 : BitVec 32) (k0_hw7 : k0_chk7 v3) (k0_t4 : Fin (k0_t4_loop v3).trips), ∀ a, (k0_off26 v3 k0_t4) a + S1x1.size a ≤ S2x2.size a := fun v3 k0_hw7 k0_t4 => k0_hw7.1.2.2.2.2.2.2.2.2.2.1 k0_t4
theorem k0_off27_inb : ∀ (v3 : BitVec 32) (k0_hw7 : k0_chk7 v3) (k0_t4 : Fin (k0_t4_loop v3).trips), ∀ a, (k0_off27 v3 k0_t4) a + S1x1024x1408.size a ≤ S2x1024x1408.size a := fun v3 k0_hw7 k0_t4 => k0_hw7.1.2.2.2.2.2.2.2.2.2.2.1 k0_t4
theorem k0_off27_wordsi8 : ∀ (v3 : BitVec 32) (k0_hw7 : k0_chk7 v3) (k0_t4 : Fin (k0_t4_loop v3).trips), (Rect.unit (s := S2x1024x1408) (k0_off27 v3 k0_t4) S1x1024x1408.size (k0_off27_inb v3 k0_hw7 k0_t4)).WholeWords (EltTy.packing .i8) := fun v3 k0_hw7 k0_t4 => k0_hw7.1.2.2.2.2.2.2.2.2.2.2.2.1 k0_t4 (k0_off27_inb v3 k0_hw7 k0_t4)
theorem k0_off29_inb : ∀ (v3 : BitVec 32) (k0_hw7 : k0_chk7 v3) (k0_t4 : Fin (k0_t4_loop v3).trips), ∀ a, (k0_off29 v3 k0_t4) a + S1x1.size a ≤ S2x2.size a := fun v3 k0_hw7 k0_t4 => k0_hw7.1.2.2.2.2.2.2.2.2.2.2.2.2.1 k0_t4
theorem k0_off30_inb : ∀ (v3 : BitVec 32) (k0_hw7 : k0_chk7 v3) (k0_t4 : Fin (k0_t4_loop v3).trips), ∀ a, (k0_off30 v3 k0_t4) a + S1x32x1408.size a ≤ S2x32x1408.size a := fun v3 k0_hw7 k0_t4 => k0_hw7.1.2.2.2.2.2.2.2.2.2.2.2.2.2.1 k0_t4
theorem k0_off30_wordsbf16 : ∀ (v3 : BitVec 32) (k0_hw7 : k0_chk7 v3) (k0_t4 : Fin (k0_t4_loop v3).trips), (Rect.unit (s := S2x32x1408) (k0_off30 v3 k0_t4) S1x32x1408.size (k0_off30_inb v3 k0_hw7 k0_t4)).WholeWords (EltTy.packing .bf16) := fun v3 k0_hw7 k0_t4 => k0_hw7.1.2.2.2.2.2.2.2.2.2.2.2.2.2.2.1 k0_t4 (k0_off30_inb v3 k0_hw7 k0_t4)
theorem k0_off32_inb : ∀ (v3 : BitVec 32) (k0_hw7 : k0_chk7 v3) (k0_t4 : Fin (k0_t4_loop v3).trips), ∀ a, (k0_off32 v3 k0_t4) a + S1.size a ≤ S61.size a := fun v3 k0_hw7 k0_t4 => k0_hw7.1.2.2.2.2.2.2.2.2.2.2.2.2.2.2.2.1 k0_t4
theorem k0_off33_inb : ∀ (v3 : BitVec 32) (k0_hw7 : k0_chk7 v3) (k0_t4 : Fin (k0_t4_loop v3).trips), ∀ a, (k0_off33 v3 k0_t4) a + S1x1024x256.size a ≤ S2x1024x1408.size a := fun v3 k0_hw7 k0_t4 => k0_hw7.1.2.2.2.2.2.2.2.2.2.2.2.2.2.2.2.2.1 k0_t4
theorem k0_off34_inb : ∀ (v3 : BitVec 32) (k0_hw7 : k0_chk7 v3) (k0_t4 : Fin (k0_t4_loop v3).trips), ∀ a, (k0_off34 v3 k0_t4) a + S1x32x256.size a ≤ S2x32x1408.size a := fun v3 k0_hw7 k0_t4 => k0_hw7.1.2.2.2.2.2.2.2.2.2.2.2.2.2.2.2.2.2.1 k0_t4
theorem k0_off35_inb : ∀ (v3 : BitVec 32) (k0_hw7 : k0_chk7 v3) (k0_t4 : Fin (k0_t4_loop v3).trips), ∀ a, (k0_off35 v3 k0_t4) a + S1x1024x256.size a ≤ S2x1024x1408.size a := fun v3 k0_hw7 k0_t4 => k0_hw7.1.2.2.2.2.2.2.2.2.2.2.2.2.2.2.2.2.2.2.1 k0_t4
theorem k0_off36_inb : ∀ (v3 : BitVec 32) (k0_hw7 : k0_chk7 v3) (k0_t4 : Fin (k0_t4_loop v3).trips), ∀ a, (k0_off36 v3 k0_t4) a + S1x32x256.size a ≤ S2x32x1408.size a := fun v3 k0_hw7 k0_t4 => k0_hw7.1.2.2.2.2.2.2.2.2.2.2.2.2.2.2.2.2.2.2.2.1 k0_t4
theorem k0_off37_inb : ∀ (v3 : BitVec 32) (k0_hw7 : k0_chk7 v3) (k0_t4 : Fin (k0_t4_loop v3).trips), ∀ a, (k0_off37 v3 k0_t4) a + S1x1024x256.size a ≤ S2x1024x1408.size a := fun v3 k0_hw7 k0_t4 => k0_hw7.1.2.2.2.2.2.2.2.2.2.2.2.2.2.2.2.2.2.2.2.2.1 k0_t4
theorem k0_off38_inb : ∀ (v3 : BitVec 32) (k0_hw7 : k0_chk7 v3) (k0_t4 : Fin (k0_t4_loop v3).trips), ∀ a, (k0_off38 v3 k0_t4) a + S1x32x256.size a ≤ S2x32x1408.size a := fun v3 k0_hw7 k0_t4 => k0_hw7.1.2.2.2.2.2.2.2.2.2.2.2.2.2.2.2.2.2.2.2.2.2.1 k0_t4
theorem k0_off39_inb : ∀ (v3 : BitVec 32) (k0_hw7 : k0_chk7 v3) (k0_t4 : Fin (k0_t4_loop v3).trips), ∀ a, (k0_off39 v3 k0_t4) a + S1x1024x256.size a ≤ S2x1024x1408.size a := fun v3 k0_hw7 k0_t4 => k0_hw7.1.2.2.2.2.2.2.2.2.2.2.2.2.2.2.2.2.2.2.2.2.2.2.1 k0_t4
theorem k0_off40_inb : ∀ (v3 : BitVec 32) (k0_hw7 : k0_chk7 v3) (k0_t4 : Fin (k0_t4_loop v3).trips), ∀ a, (k0_off40 v3 k0_t4) a + S1x32x256.size a ≤ S2x32x1408.size a := fun v3 k0_hw7 k0_t4 => k0_hw7.1.2.2.2.2.2.2.2.2.2.2.2.2.2.2.2.2.2.2.2.2.2.2.2.1 k0_t4
theorem k0_off41_inb : ∀ (v3 : BitVec 32) (k0_hw7 : k0_chk7 v3) (k0_t4 : Fin (k0_t4_loop v3).trips), ∀ a, (k0_off41 v3 k0_t4) a + S1x1024x256.size a ≤ S2x1024x1408.size a := fun v3 k0_hw7 k0_t4 => k0_hw7.1.2.2.2.2.2.2.2.2.2.2.2.2.2.2.2.2.2.2.2.2.2.2.2.2.1 k0_t4
theorem k0_off42_inb : ∀ (v3 : BitVec 32) (k0_hw7 : k0_chk7 v3) (k0_t4 : Fin (k0_t4_loop v3).trips), ∀ a, (k0_off42 v3 k0_t4) a + S1x32x256.size a ≤ S2x32x1408.size a := fun v3 k0_hw7 k0_t4 => k0_hw7.1.2.2.2.2.2.2.2.2.2.2.2.2.2.2.2.2.2.2.2.2.2.2.2.2.2.1 k0_t4
theorem k0_off43_inb : ∀ (v3 : BitVec 32) (k0_hw7 : k0_chk7 v3) (k0_t4 : Fin (k0_t4_loop v3).trips), ∀ a, (k0_off43 v3 k0_t4) a + S1x1024x128.size a ≤ S2x1024x1408.size a := fun v3 k0_hw7 k0_t4 => k0_hw7.1.2.2.2.2.2.2.2.2.2.2.2.2.2.2.2.2.2.2.2.2.2.2.2.2.2.2.1 k0_t4
theorem k0_off44_inb : ∀ (v3 : BitVec 32) (k0_hw7 : k0_chk7 v3) (k0_t4 : Fin (k0_t4_loop v3).trips), ∀ a, (k0_off44 v3 k0_t4) a + S1x32x128.size a ≤ S2x32x1408.size a := fun v3 k0_hw7 k0_t4 => k0_hw7.1.2.2.2.2.2.2.2.2.2.2.2.2.2.2.2.2.2.2.2.2.2.2.2.2.2.2.2.1 k0_t4
theorem k0_t5_ok : ∀ (v3 : BitVec 32) (k0_hw7 : k0_chk7 v3), (k0_t5_loop v3).OK := fun v3 k0_hw7 => k0_hw7.1.2.2.2.2.2.2.2.2.2.2.2.2.2.2.2.2.2.2.2.2.2.2.2.2.2.2.2.2.1
theorem k0_off45_inb : ∀ (v3 : BitVec 32) (k0_hw7 : k0_chk7 v3) (k0_t5 : Fin (k0_t5_loop v3).trips), ∀ (k0_h2 : k0_cond2 v3 k0_t5 = 1#1), ∀ a, (k0_off45 v3 k0_t5) a + S1.size a ≤ S61.size a := fun v3 k0_hw7 k0_t5 k0_h2 => k0_hw7.1.2.2.2.2.2.2.2.2.2.2.2.2.2.2.2.2.2.2.2.2.2.2.2.2.2.2.2.2.2.1 k0_t5 k0_h2
theorem k0_off46_inb : ∀ (v3 : BitVec 32) (k0_hw7 : k0_chk7 v3) (k0_t5 : Fin (k0_t5_loop v3).trips), ∀ (k0_h2 : k0_cond2 v3 k0_t5 = 1#1), ∀ a, (k0_off46 v3 k0_t5) a + S1x1.size a ≤ S2x2.size a := fun v3 k0_hw7 k0_t5 k0_h2 => k0_hw7.1.2.2.2.2.2.2.2.2.2.2.2.2.2.2.2.2.2.2.2.2.2.2.2.2.2.2.2.2.2.2.1 k0_t5 k0_h2
theorem k0_off47_inb : ∀ (v3 : BitVec 32) (k0_hw7 : k0_chk7 v3) (k0_t5 : Fin (k0_t5_loop v3).trips), ∀ (k0_h2 : k0_cond2 v3 k0_t5 = 1#1), ∀ a, (k0_off47 v3 k0_t5) a + S1x1024x1408.size a ≤ S2x1024x1408.size a := fun v3 k0_hw7 k0_t5 k0_h2 => k0_hw7.1.2.2.2.2.2.2.2.2.2.2.2.2.2.2.2.2.2.2.2.2.2.2.2.2.2.2.2.2.2.2.2 k0_t5 k0_h2
theorem k0_off47_wordsi8 : ∀ (v3 : BitVec 32) (k0_hw7 : k0_chk7 v3) (k0_t5 : Fin (k0_t5_loop v3).trips), ∀ (k0_h2 : k0_cond2 v3 k0_t5 = 1#1), (Rect.unit (s := S2x1024x1408) (k0_off47 v3 k0_t5) S1x1024x1408.size (k0_off47_inb v3 k0_hw7 k0_t5 k0_h2)).WholeWords (EltTy.packing .i8) := fun v3 k0_hw7 k0_t5 k0_h2 => k0_hw7.2.1 k0_t5 k0_h2 (k0_off47_inb v3 k0_hw7 k0_t5 k0_h2)
theorem k0_off49_inb : ∀ (v3 : BitVec 32) (k0_hw7 : k0_chk7 v3) (k0_t5 : Fin (k0_t5_loop v3).trips), ∀ (k0_h2 : k0_cond2 v3 k0_t5 = 1#1), ∀ a, (k0_off49 v3 k0_t5) a + S1x1.size a ≤ S2x2.size a := fun v3 k0_hw7 k0_t5 k0_h2 => k0_hw7.2.2.1 k0_t5 k0_h2
theorem k0_off50_inb : ∀ (v3 : BitVec 32) (k0_hw7 : k0_chk7 v3) (k0_t5 : Fin (k0_t5_loop v3).trips), ∀ (k0_h2 : k0_cond2 v3 k0_t5 = 1#1), ∀ a, (k0_off50 v3 k0_t5) a + S1x32x1408.size a ≤ S2x32x1408.size a := fun v3 k0_hw7 k0_t5 k0_h2 => k0_hw7.2.2.2.1 k0_t5 k0_h2
theorem k0_off50_wordsbf16 : ∀ (v3 : BitVec 32) (k0_hw7 : k0_chk7 v3) (k0_t5 : Fin (k0_t5_loop v3).trips), ∀ (k0_h2 : k0_cond2 v3 k0_t5 = 1#1), (Rect.unit (s := S2x32x1408) (k0_off50 v3 k0_t5) S1x32x1408.size (k0_off50_inb v3 k0_hw7 k0_t5 k0_h2)).WholeWords (EltTy.packing .bf16) := fun v3 k0_hw7 k0_t5 k0_h2 => k0_hw7.2.2.2.2.1 k0_t5 k0_h2 (k0_off50_inb v3 k0_hw7 k0_t5 k0_h2)
theorem k0_off52_inb : ∀ (v3 : BitVec 32) (k0_hw7 : k0_chk7 v3) (k0_t5 : Fin (k0_t5_loop v3).trips), ∀ a, (k0_off52 v3 k0_t5) a + S1.size a ≤ S61.size a := fun v3 k0_hw7 k0_t5 => k0_hw7.2.2.2.2.2.1 k0_t5
theorem k0_off53_inb : ∀ (v3 : BitVec 32) (k0_hw7 : k0_chk7 v3) (k0_t5 : Fin (k0_t5_loop v3).trips), ∀ a, (k0_off53 v3 k0_t5) a + S1x1.size a ≤ S2x2.size a := fun v3 k0_hw7 k0_t5 => k0_hw7.2.2.2.2.2.2.1 k0_t5
theorem k0_off54_inb : ∀ (v3 : BitVec 32) (k0_hw7 : k0_chk7 v3) (k0_t5 : Fin (k0_t5_loop v3).trips), ∀ a, (k0_off54 v3 k0_t5) a + S1x1024x1408.size a ≤ S2x1024x1408.size a := fun v3 k0_hw7 k0_t5 => k0_hw7.2.2.2.2.2.2.2.1 k0_t5
theorem k0_off54_wordsi8 : ∀ (v3 : BitVec 32) (k0_hw7 : k0_chk7 v3) (k0_t5 : Fin (k0_t5_loop v3).trips), (Rect.unit (s := S2x1024x1408) (k0_off54 v3 k0_t5) S1x1024x1408.size (k0_off54_inb v3 k0_hw7 k0_t5)).WholeWords (EltTy.packing .i8) := fun v3 k0_hw7 k0_t5 => k0_hw7.2.2.2.2.2.2.2.2.1 k0_t5 (k0_off54_inb v3 k0_hw7 k0_t5)
theorem k0_off56_inb : ∀ (v3 : BitVec 32) (k0_hw7 : k0_chk7 v3) (k0_t5 : Fin (k0_t5_loop v3).trips), ∀ a, (k0_off56 v3 k0_t5) a + S1x1.size a ≤ S2x2.size a := fun v3 k0_hw7 k0_t5 => k0_hw7.2.2.2.2.2.2.2.2.2.1 k0_t5
theorem k0_off57_inb : ∀ (v3 : BitVec 32) (k0_hw7 : k0_chk7 v3) (k0_t5 : Fin (k0_t5_loop v3).trips), ∀ a, (k0_off57 v3 k0_t5) a + S1x32x1408.size a ≤ S2x32x1408.size a := fun v3 k0_hw7 k0_t5 => k0_hw7.2.2.2.2.2.2.2.2.2.2.1 k0_t5
theorem k0_off57_wordsbf16 : ∀ (v3 : BitVec 32) (k0_hw7 : k0_chk7 v3) (k0_t5 : Fin (k0_t5_loop v3).trips), (Rect.unit (s := S2x32x1408) (k0_off57 v3 k0_t5) S1x32x1408.size (k0_off57_inb v3 k0_hw7 k0_t5)).WholeWords (EltTy.packing .bf16) := fun v3 k0_hw7 k0_t5 => k0_hw7.2.2.2.2.2.2.2.2.2.2.2.1 k0_t5 (k0_off57_inb v3 k0_hw7 k0_t5)
theorem k0_off59_inb : ∀ (v3 : BitVec 32) (k0_hw7 : k0_chk7 v3) (k0_t5 : Fin (k0_t5_loop v3).trips), ∀ a, (k0_off59 v3 k0_t5) a + S1.size a ≤ S61.size a := fun v3 k0_hw7 k0_t5 => k0_hw7.2.2.2.2.2.2.2.2.2.2.2.2.1 k0_t5
theorem k0_off60_inb : ∀ (v3 : BitVec 32) (k0_hw7 : k0_chk7 v3) (k0_t5 : Fin (k0_t5_loop v3).trips), ∀ a, (k0_off60 v3 k0_t5) a + S1x1024x256.size a ≤ S2x1024x1408.size a := fun v3 k0_hw7 k0_t5 => k0_hw7.2.2.2.2.2.2.2.2.2.2.2.2.2.1 k0_t5
theorem k0_off61_inb : ∀ (v3 : BitVec 32) (k0_hw7 : k0_chk7 v3) (k0_t5 : Fin (k0_t5_loop v3).trips), ∀ a, (k0_off61 v3 k0_t5) a + S1x32x256.size a ≤ S2x32x1408.size a := fun v3 k0_hw7 k0_t5 => k0_hw7.2.2.2.2.2.2.2.2.2.2.2.2.2.2.1 k0_t5
theorem k0_off62_inb : ∀ (v3 : BitVec 32) (k0_hw7 : k0_chk7 v3) (k0_t5 : Fin (k0_t5_loop v3).trips), ∀ a, (k0_off62 v3 k0_t5) a + S1x1024x256.size a ≤ S2x1024x1408.size a := fun v3 k0_hw7 k0_t5 => k0_hw7.2.2.2.2.2.2.2.2.2.2.2.2.2.2.2.1 k0_t5
theorem k0_off63_inb : ∀ (v3 : BitVec 32) (k0_hw7 : k0_chk7 v3) (k0_t5 : Fin (k0_t5_loop v3).trips), ∀ a, (k0_off63 v3 k0_t5) a + S1x32x256.size a ≤ S2x32x1408.size a := fun v3 k0_hw7 k0_t5 => k0_hw7.2.2.2.2.2.2.2.2.2.2.2.2.2.2.2.2.1 k0_t5
theorem k0_off64_inb : ∀ (v3 : BitVec 32) (k0_hw7 : k0_chk7 v3) (k0_t5 : Fin (k0_t5_loop v3).trips), ∀ a, (k0_off64 v3 k0_t5) a + S1x1024x256.size a ≤ S2x1024x1408.size a := fun v3 k0_hw7 k0_t5 => k0_hw7.2.2.2.2.2.2.2.2.2.2.2.2.2.2.2.2.2.1 k0_t5
theorem k0_off65_inb : ∀ (v3 : BitVec 32) (k0_hw7 : k0_chk7 v3) (k0_t5 : Fin (k0_t5_loop v3).trips), ∀ a, (k0_off65 v3 k0_t5) a + S1x32x256.size a ≤ S2x32x1408.size a := fun v3 k0_hw7 k0_t5 => k0_hw7.2.2.2.2.2.2.2.2.2.2.2.2.2.2.2.2.2.2.1 k0_t5
theorem k0_off66_inb : ∀ (v3 : BitVec 32) (k0_hw7 : k0_chk7 v3) (k0_t5 : Fin (k0_t5_loop v3).trips), ∀ a, (k0_off66 v3 k0_t5) a + S1x1024x256.size a ≤ S2x1024x1408.size a := fun v3 k0_hw7 k0_t5 => k0_hw7.2.2.2.2.2.2.2.2.2.2.2.2.2.2.2.2.2.2.2.1 k0_t5
theorem k0_off67_inb : ∀ (v3 : BitVec 32) (k0_hw7 : k0_chk7 v3) (k0_t5 : Fin (k0_t5_loop v3).trips), ∀ a, (k0_off67 v3 k0_t5) a + S1x32x256.size a ≤ S2x32x1408.size a := fun v3 k0_hw7 k0_t5 => k0_hw7.2.2.2.2.2.2.2.2.2.2.2.2.2.2.2.2.2.2.2.2.1 k0_t5
theorem k0_off68_inb : ∀ (v3 : BitVec 32) (k0_hw7 : k0_chk7 v3) (k0_t5 : Fin (k0_t5_loop v3).trips), ∀ a, (k0_off68 v3 k0_t5) a + S1x1024x256.size a ≤ S2x1024x1408.size a := fun v3 k0_hw7 k0_t5 => k0_hw7.2.2.2.2.2.2.2.2.2.2.2.2.2.2.2.2.2.2.2.2.2.1 k0_t5
theorem k0_off69_inb : ∀ (v3 : BitVec 32) (k0_hw7 : k0_chk7 v3) (k0_t5 : Fin (k0_t5_loop v3).trips), ∀ a, (k0_off69 v3 k0_t5) a + S1x32x256.size a ≤ S2x32x1408.size a := fun v3 k0_hw7 k0_t5 => k0_hw7.2.2.2.2.2.2.2.2.2.2.2.2.2.2.2.2.2.2.2.2.2.2.1 k0_t5
theorem k0_off70_inb : ∀ (v3 : BitVec 32) (k0_hw7 : k0_chk7 v3) (k0_t5 : Fin (k0_t5_loop v3).trips), ∀ a, (k0_off70 v3 k0_t5) a + S1x1024x128.size a ≤ S2x1024x1408.size a := fun v3 k0_hw7 k0_t5 => k0_hw7.2.2.2.2.2.2.2.2.2.2.2.2.2.2.2.2.2.2.2.2.2.2.2.1 k0_t5
theorem k0_off71_inb : ∀ (v3 : BitVec 32) (k0_hw7 : k0_chk7 v3) (k0_t5 : Fin (k0_t5_loop v3).trips), ∀ a, (k0_off71 v3 k0_t5) a + S1x32x128.size a ≤ S2x32x1408.size a := fun v3 k0_hw7 k0_t5 => k0_hw7.2.2.2.2.2.2.2.2.2.2.2.2.2.2.2.2.2.2.2.2.2.2.2.2 k0_t5

abbrev stage0_0 : Fin 1 → Memref sig .tc .smem S128x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x22 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x4 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x4x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1x128x2048 : Shape := ⟨3, ![1, 128, 2048]⟩
abbrev S2048x1408 : Shape := ⟨2, ![2048, 1408]⟩
abbrev S32x22 : Shape := ⟨2, ![32, 22]⟩
abbrev S60x1024x1408 : Shape := ⟨3, ![60, 1024, 1408]⟩
abbrev S60x32x1408 : Shape := ⟨3, ![60, 32, 1408]⟩
abbrev S1x128x4 : Shape := ⟨3, ![1, 128, 4]⟩
abbrev S_ : Shape := ⟨0, ![]⟩
abbrev S60x32x1x1408 : Shape := ⟨4, ![60, 32, 1, 1408]⟩
abbrev S60x32x32x1408 : Shape := ⟨4, ![60, 32, 32, 1408]⟩
abbrev S1x128x1024 : Shape := ⟨3, ![1, 128, 1024]⟩
abbrev S1x128x4x1 : Shape := ⟨4, ![1, 128, 4, 1]⟩
abbrev S1x128x4x1024x1408 : Shape := ⟨5, ![1, 128, 4, 1024, 1408]⟩
abbrev S1x128x4x1408 : Shape := ⟨4, ![1, 128, 4, 1408]⟩
abbrev S1x128 : Shape := ⟨2, ![1, 128]⟩
abbrev S1x128x1408 : Shape := ⟨3, ![1, 128, 1408]⟩
abbrev S128x2048 : Shape := ⟨2, ![128, 2048]⟩
abbrev S32x64x22x64 : Shape := ⟨4, ![32, 64, 22, 64]⟩
abbrev S32x1x22x1 : Shape := ⟨4, ![32, 1, 22, 1]⟩
abbrev S128x1408 : Shape := ⟨2, ![128, 1408]⟩
abbrev S1x128x1 : Shape := ⟨3, ![1, 128, 1]⟩

abbrev nBuf : Space → Nat
  | .hbm => 69
  | .vmem => 6
  | .smem => 0
  | _ => 0

abbrev bufTy : (tb : Table) → Fin (tcTables nBuf tb) → BufTy
  | .hbm, ⟨0, _⟩ => ⟨S1x128x2048, .bf16⟩
  | .hbm, ⟨1, _⟩ => ⟨S2048x1408, .fp8e4m3⟩
  | .hbm, ⟨2, _⟩ => ⟨S32x22, .f32⟩
  | .hbm, ⟨3, _⟩ => ⟨S60x1024x1408, .i8⟩
  | .hbm, ⟨4, _⟩ => ⟨S60x32x1408, .bf16⟩
  | .hbm, ⟨5, _⟩ => ⟨S1x128x4, .i32⟩
  | .hbm, ⟨6, _⟩ => ⟨S1x128x4, .f32⟩
  | .hbm, ⟨7, _⟩ => ⟨S60x1024x1408, .i32⟩
  | .hbm, ⟨8, _⟩ => ⟨S_, .i32⟩
  | .hbm, ⟨9, _⟩ => ⟨S60x1024x1408, .i32⟩
  | .hbm, ⟨10, _⟩ => ⟨S60x1024x1408, .i32⟩
  | .hbm, ⟨11, _⟩ => ⟨S_, .i32⟩
  | .hbm, ⟨12, _⟩ => ⟨S60x1024x1408, .i32⟩
  | .hbm, ⟨13, _⟩ => ⟨S60x1024x1408, .i1⟩
  | .hbm, ⟨14, _⟩ => ⟨S_, .i32⟩
  | .hbm, ⟨15, _⟩ => ⟨S60x1024x1408, .i32⟩
  | .hbm, ⟨16, _⟩ => ⟨S60x1024x1408, .i32⟩
  | .hbm, ⟨17, _⟩ => ⟨S60x1024x1408, .i32⟩
  | .hbm, ⟨18, _⟩ => ⟨S_, .i32⟩
  | .hbm, ⟨19, _⟩ => ⟨S60x1024x1408, .i32⟩
  | .hbm, ⟨20, _⟩ => ⟨S60x1024x1408, .i32⟩
  | .hbm, ⟨21, _⟩ => ⟨S_, .i32⟩
  | .hbm, ⟨22, _⟩ => ⟨S60x1024x1408, .i32⟩
  | .hbm, ⟨23, _⟩ => ⟨S60x1024x1408, .i32⟩
  | .hbm, ⟨24, _⟩ => ⟨S_, .i32⟩
  | .hbm, ⟨25, _⟩ => ⟨S60x1024x1408, .i32⟩
  | .hbm, ⟨26, _⟩ => ⟨S60x1024x1408, .i1⟩
  | .hbm, ⟨27, _⟩ => ⟨S_, .i32⟩
  | .hbm, ⟨28, _⟩ => ⟨S60x1024x1408, .i32⟩
  | .hbm, ⟨29, _⟩ => ⟨S60x1024x1408, .i32⟩
  | .hbm, ⟨30, _⟩ => ⟨S60x1024x1408, .i32⟩
  | .hbm, ⟨31, _⟩ => ⟨S60x32x1x1408, .bf16⟩
  | .hbm, ⟨32, _⟩ => ⟨S60x1024x1408, .bf16⟩
  | .hbm, ⟨33, _⟩ => ⟨S60x32x32x1408, .bf16⟩
  | .hbm, ⟨34, _⟩ => ⟨S60x32x32x1408, .bf16⟩
  | .hbm, ⟨35, _⟩ => ⟨S60x32x32x1408, .bf16⟩
  | .hbm, ⟨36, _⟩ => ⟨S60x1024x1408, .bf16⟩
  | .hbm, ⟨37, _⟩ => ⟨S60x1024x1408, .bf16⟩
  | .hbm, ⟨38, _⟩ => ⟨S60x32x32x1408, .bf16⟩
  | .hbm, ⟨39, _⟩ => ⟨S60x32x32x1408, .bf16⟩
  | .hbm, ⟨40, _⟩ => ⟨S60x32x32x1408, .bf16⟩
  | .hbm, ⟨41, _⟩ => ⟨S60x1024x1408, .bf16⟩
  | .hbm, ⟨42, _⟩ => ⟨S1x128x1024, .bf16⟩
  | .hbm, ⟨43, _⟩ => ⟨S_, .i32⟩
  | .hbm, ⟨44, _⟩ => ⟨S1x128x4, .i32⟩
  | .hbm, ⟨45, _⟩ => ⟨S1x128x4, .i1⟩
  | .hbm, ⟨46, _⟩ => ⟨S_, .i32⟩
  | .hbm, ⟨47, _⟩ => ⟨S1x128x4, .i32⟩
  | .hbm, ⟨48, _⟩ => ⟨S1x128x4, .i32⟩
  | .hbm, ⟨49, _⟩ => ⟨S1x128x4, .i32⟩
  | .hbm, ⟨50, _⟩ => ⟨S1x128x4x1, .i32⟩
  | .hbm, ⟨51, _⟩ => ⟨S1x128x4x1024x1408, .bf16⟩
  | .hbm, ⟨52, _⟩ => ⟨S1x128x4x1408, .f32⟩
  | .hbm, ⟨53, _⟩ => ⟨S1x128x1024, .bf16⟩
  | .hbm, ⟨54, _⟩ => ⟨S_, .i32⟩
  | .hbm, ⟨55, _⟩ => ⟨S1x128x4, .i32⟩
  | .hbm, ⟨56, _⟩ => ⟨S1x128x4, .i1⟩
  | .hbm, ⟨57, _⟩ => ⟨S_, .i32⟩
  | .hbm, ⟨58, _⟩ => ⟨S1x128x4, .i32⟩
  | .hbm, ⟨59, _⟩ => ⟨S1x128x4, .i32⟩
  | .hbm, ⟨60, _⟩ => ⟨S1x128x4, .i32⟩
  | .hbm, ⟨61, _⟩ => ⟨S1x128x4x1, .i32⟩
  | .hbm, ⟨62, _⟩ => ⟨S1x128x4x1024x1408, .bf16⟩
  | .hbm, ⟨63, _⟩ => ⟨S1x128x4x1408, .f32⟩
  | .hbm, ⟨64, _⟩ => ⟨S1x128x4x1408, .f32⟩
  | .hbm, ⟨65, _⟩ => ⟨S_, .f32⟩
  | .hbm, ⟨66, _⟩ => ⟨S1x128, .f32⟩
  | .hbm, ⟨67, _⟩ => ⟨S1x128x1408, .f32⟩
  | .hbm, ⟨68, _⟩ => ⟨S1x128x1408, .bf16⟩
  | .local _ .vmem, ⟨0, _⟩ => ⟨S1x128x2048, .bf16⟩
  | .local _ .vmem, ⟨1, _⟩ => ⟨S2048x1408, .fp8e4m3⟩
  | .local _ .vmem, ⟨2, _⟩ => ⟨S32x22, .f32⟩
  | .local _ .vmem, ⟨3, _⟩ => ⟨S1x128, .f32⟩
  | .local _ .vmem, ⟨4, _⟩ => ⟨S1x128x1408, .f32⟩
  | .local _ .vmem, ⟨5, _⟩ => ⟨S1x128x1408, .bf16⟩
  | _, _ => ⟨S1x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_c_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1408 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x22 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Range.lean ====
/- The precondition read elementwise: every expert id, as a natural number, lies below sixty. -/
module

public import proofs.«01_k».proof.Pre_in_range
public import Idealize.ShloMosaic.Lib.ReduceAll

@[expose] public section

noncomputable section

namespace Cert.Run

open Idealize.ShloMosaic Cert.Pre_in_range

/-- A word that is at least zero and below sixty, read signed, is below sixty read unsigned. -/
theorem toNat_lt_of_cmp (w : BitVec 32) (h0 : IntOp.cmpi .sge w 0#32 = 1#1) (h1 : IntOp.cmpi .slt w 60#32 = 1#1) : w.toNat < 60 := by
  have h0' : ((0#32).sle w) = true := by
    revert h0; simp only [IntOp.cmpi]; cases (0#32).sle w <;> simp
  have h1' : (w.slt 60#32) = true := by
    revert h1; simp only [IntOp.cmpi]; cases w.slt 60#32 <;> simp
  rw [BitVec.sle_eq_decide, decide_eq_true_eq] at h0'
  rw [BitVec.slt_eq_decide, decide_eq_true_eq] at h1'
  have e0 : (0#32).toInt = 0 := by decide
  have e60 : (60#32).toInt = 60 := by decide
  have := BitVec.toInt_eq_toNat_cond w
  have := w.isLt
  split at * <;> omega

/-- Where the precondition holds, every id is below sixty. -/
theorem ids_lt_of_pre [Facts] {F : FTy → Type} [FloatOps F] (a0 : FVec F S1x128x2048 .bf16) (a1 : FVec F S2048x1408 .fp8e4m3) (a2 : FVec F S32x22 .f32)
    (a3 : IVec S60x1024x1408 8) (a4 : FVec F S60x32x1408 .bf16) (a5 : IVec S1x128x4 32) (a6 : FVec F S1x128x4 .f32)
    (h : fn a0 a1 a2 a3 a4 a5 a6 = fun _ => 1#1) (i : S1x128x4.Idx) : (a5 i).toNat < 60 := by
  haveI : Subsingleton S_.Idx := ⟨fun a b => funext fun k => k.elim0⟩
  have hi := Host.reduce_andi_all _ _ _ _ (fun k => k.elim0) (congrFun h fun k => k.elim0) i
  have hp := IntOp.andi_eq_one.1 hi
  exact toNat_lt_of_cmp (a5 i) hp.1 hp.2

end Cert.Run

end
-- ==== Proof.Scan.lean ====
/- The kernel's first three loops: they clear a flag per expert, set the flag of every expert an id names, and list the
   flagged experts. Stated as loop invariants over the kernel's two tables in scalar memory. -/
module

public import proofs.«01_k».proof.Proof.Gen.KernelIdeal.Skeleton
public import proofs.«01_k».proof.Proof.Gen.KernelIdeal.Loops
public import Idealize.ShloMosaic.Lib.Tactic
public import Idealize.ShloMosaic.Lib.Pointwise
public import Idealize.ShloMosaic.Lib.Tactic.Stretches
public import Idealize.ShloMosaic.Lib.CellWrites
public import Idealize.ShloMosaic.Lib.Pipeline.Kit
public import Idealize.ShloMosaic.Lib.Pipeline.FrameBody

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

/-- The flag table. -/
abbrev flagM : Memref sig .tc .smem S60 .i32 := Memref.whole cc0_scratch3
/-- The list of live experts. -/
abbrev liveM : Memref sig .tc .smem S61 .i32 := Memref.whole cc0_scratch2

/-- The flag table holds `f`. -/
abbrev flagP (f : Buf (Elt F) (flagM.view.loc (c : Thread nD τ))) : sProp 𝕄 :=
  iprop(flagM.view.loc (c : Thread nD τ) ↦[flagM.view.set]{fullShare} f)
/-- The list of live experts holds `f`. -/
abbrev liveP (f : Buf (Elt F) (liveM.view.loc (c : Thread nD τ))) : sProp 𝕄 :=
  iprop(liveM.view.loc (c : Thread nD τ) ↦[liveM.view.set]{fullShare} f)
/-- The ids in scalar memory hold `X`. -/
abbrev idsP (X : Buf (Elt F) (arg0.view.loc (c : Thread nD τ))) : sProp 𝕄 :=
  iprop(arg0.view.loc (c : Thread nD τ) ↦[arg0.view.set]{fullShare} X)

/-- Element `e` of the flag table after a store of one word. -/
theorem flag_cell (f : Buf (Elt F) (flagM.view.loc (c : Thread nD τ))) {off : Fin 1 → ℕ} (inb : ∀ a, off a + S1.size a ≤ S60.size a)
    (p : BitVec 32) (L : List (View.Piece (Elt F) S60 .i32)) (y : S60.Idx) :
    flagM.view.read (Elt F) (flagM.view.writes (Elt F) f ((⟨Rect.unit off S1.size inb, fun _ => p⟩ : View.Piece (Elt F) S60 .i32) :: L)) y
      = if (y 0).val = off 0 then p else flagM.view.read (Elt F) (flagM.view.writes (Elt F) f L) y :=
  View.read_writes_cons_cell flagM.view f inb p L y

/-- Element `y` of the list of live experts after a store of one word. -/
theorem live_cell (f : Buf (Elt F) (liveM.view.loc (c : Thread nD τ))) {off : Fin 1 → ℕ} (inb : ∀ a, off a + S1.size a ≤ S61.size a)
    (p : BitVec 32) (L : List (View.Piece (Elt F) S61 .i32)) (y : S61.Idx) :
    liveM.view.read (Elt F) (liveM.view.writes (Elt F) f ((⟨Rect.unit off S1.size inb, fun _ => p⟩ : View.Piece (Elt F) S61 .i32) :: L)) y
      = if (y 0).val = off 0 then p else liveM.view.read (Elt F) (liveM.view.writes (Elt F) f L) y :=
  View.read_writes_cons_cell liveM.view f inb p L y

set_option warn.classDefReducibility false in
/-- The clearing loop: before trip `k` the flags below `k` are zero. -/
@[sl_loop] def loopInv_t1 :
    LoopInvTy_k0_t1 (F := F) Unit ℕ (Pipeline.UD sig nD τ) ℕ Variants.none c none Set.univ arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 where
  inv k _ := iprop(∃ f, flagP c f ∗ ⌜∀ e : S60.Idx, (e 0).val < k → flagM.view.read (Elt F) f e = 0#32⌝)
  step k _ := by
    iintro ⟨%f, H, %hf⟩
    unfold k0_t1_body
    sl_exec
    sl_step
    iexists _
    isplitl [H]; · iexact H
    ipureintro
    intro e he
    rw [flag_cell]
    split
    · rfl
    · rename_i hne
      rw [k0_off1_eq] at hne
      exact hf e (by have : (e 0).val ≠ k.val := hne; omega)

/-- The flag of expert `e` is one exactly when an id among the first `n` rows is `e`. -/
def Flag (ids : S128x4.Idx → BitVec 32) (n : ℕ) (f : S60.Idx → BitVec 32) : Prop :=
  ∀ e : S60.Idx, f e = if ∃ i : S128x4.Idx, (i 0).val < n ∧ (ids i).toNat = (e 0).val then 1#32 else 0#32

theorem chk1_of (w : BitVec 32) (h : w.toNat < 60) : k0_chk1 w := by
  unfold k0_chk1 k0_off3; intro a; fin_cases a; show w.toNat + 1 ≤ 60; omega
theorem chk2_of (w : BitVec 32) (h : w.toNat < 60) : k0_chk2 w := chk1_of w h
theorem chk3_of (w : BitVec 32) (h : w.toNat < 60) : k0_chk3 w := chk1_of w h
theorem chk4_of (w : BitVec 32) (h : w.toNat < 60) : k0_chk4 w := chk1_of w h
theorem chk5_of (w : BitVec 32) (h : w.toNat < 61) : k0_chk5 w := by
  unfold k0_chk5 k0_off10; intro a; fin_cases a; show w.toNat + 1 ≤ 61; omega

variable {arg0} in
/-- Every word read of the ids is in range when every id is. -/
theorem word_lt {X : Buf (Elt F) (arg0.view.loc (c : Thread nD τ))} (hX : ∀ i, (arg0.view.read (Elt F) X i).toNat < 60)
    (r : LoadRect S128x4) (x) : (show BitVec 32 from arg0.view.readAt (Elt F) r X x).toNat < 60 := hX _

/-- Setting the flags of row `k`'s four ids takes the flags of `k` rows to those of `k + 1`. -/
theorem flag_step (ids : S128x4.Idx → BitVec 32) (k : ℕ) (hk : k < 128) (f f' : S60.Idx → BitVec 32) (h : Flag ids k f)
    (w : Fin 4 → BitVec 32) (hw : ∀ j, w j = ids (ix2 ⟨k, hk⟩ j))
    (hf' : ∀ e : S60.Idx, f' e = if (e 0).val = (w 3).toNat then 1#32 else if (e 0).val = (w 2).toNat then 1#32 else
      if (e 0).val = (w 1).toNat then 1#32 else if (e 0).val = (w 0).toNat then 1#32 else f e) : Flag ids (k + 1) f' := by
  intro e
  rw [hf' e, h e]
  by_cases hx : ∃ j, (e 0).val = (w j).toNat
  · obtain ⟨j, hj⟩ := hx
    have hr : ∃ i : S128x4.Idx, (i 0).val < k + 1 ∧ (ids i).toNat = (e 0).val :=
      ⟨ix2 ⟨k, hk⟩ j, Nat.lt_succ_self k, by rw [← hw, hj]⟩
    rw [if_pos hr]
    fin_cases j <;> simp_all
  · have hx' : ∀ j, ¬(e 0).val = (w j).toNat := fun j hj => hx ⟨j, hj⟩
    rw [if_neg (hx' 3), if_neg (hx' 2), if_neg (hx' 1), if_neg (hx' 0)]
    congr 1
    apply propext
    constructor
    · rintro ⟨i, hi, he⟩; exact ⟨i, by omega, he⟩
    · rintro ⟨i, hi, he⟩
      refine ⟨i, ?_, he⟩
      by_contra hlt
      idx_vars i
      have h0 : i0 = (⟨k, hk⟩ : Fin 128) := Fin.ext (show i0.val = k by
        have h1 : i0.val < k + 1 := hi
        have h2 : ¬i0.val < k := hlt
        omega)
      subst h0
      exact hx' i1 (by rw [hw, ← he])

/-- The word read of the ids at row `t`, column `j`. -/
theorem ids_word (X : Buf (Elt F) (arg0.view.loc (c : Thread nD τ))) {off : Fin 2 → ℕ} (inb : ∀ a, off a + S1x1.size a ≤ S128x4.size a)
    (t : ℕ) (ht : t < 128) (j : Fin 4) (h : off = ![t, j.val]) (x) :
    arg0.view.readAt (Elt F) (Rect.unit (s := S128x4) off S1x1.size inb).toLoadRect X x = arg0.view.read (Elt F) X (ix2 ⟨t, ht⟩ j) := by
  subst h
  refine congrArg (arg0.view.read (Elt F) X) (funext fun a => Fin.ext ?_)
  have hx : ∀ a, (x a).val = 0 := fun a => by
    have := (x a).isLt
    fin_cases a <;> exact Nat.lt_one_iff.mp this
  fin_cases a
  · show t + 1 * (x 0).val = t; rw [hx]; rfl
  · show j.val + 1 * (x 1).val = j.val; rw [hx]; rfl

set_option warn.classDefReducibility false in
/-- The flagging loop: before trip `k` the flags are those of the first `k` rows of ids. -/
def loopInv_t2 (X : Buf (Elt F) (arg0.view.loc (c : Thread nD τ))) (hX : ∀ i, (arg0.view.read (Elt F) X i).toNat < 60) :
    LoopInvTy_k0_t2 (F := F) Unit ℕ (Pipeline.UD sig nD τ) ℕ Variants.none c none Set.univ arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 where
  inv k _ := iprop(idsP c arg0 X ∗ ∃ f, flagP c f ∗ ⌜Flag (arg0.view.read (Elt F) X) k (flagM.view.read (Elt F) f)⌝)
  step k _ := by
    iintro ⟨H0, %f, H, %hf⟩
    unfold k0_t2_body
    sl_exec (disch := first | exact chk1_of _ (word_lt c hX _ _) | exact chk2_of _ (word_lt c hX _ _) | exact chk3_of _ (word_lt c hX _ _) | exact chk4_of _ (word_lt c hX _ _))
    sl_step
    isplitl [H0]; · iexact H0
    iexists _
    isplitl [H]; · iexact H
    ipureintro
    have hk : k.val < 128 := Nat.lt_of_lt_of_le k.isLt k0_t2_abs.2.1
    refine flag_step _ k.val hk _ _ hf (fun j => arg0.view.read (Elt F) X (ix2 ⟨k.val, hk⟩ j)) (fun j => rfl) ?_
    intro e
    refine (flag_cell c f _ _ _ e).trans (if_congr (Eq.congr_right (congrArg BitVec.toNat (ids_word c arg0 X _ k.val hk 3 (k0_off8_eq k) _))) rfl ?_)
    refine (flag_cell c f _ _ _ e).trans (if_congr (Eq.congr_right (congrArg BitVec.toNat (ids_word c arg0 X _ k.val hk 2 (k0_off6_eq k) _))) rfl ?_)
    refine (flag_cell c f _ _ _ e).trans (if_congr (Eq.congr_right (congrArg BitVec.toNat (ids_word c arg0 X _ k.val hk 1 (k0_off4_eq k) _))) rfl ?_)
    exact (flag_cell c f _ _ _ e).trans (if_congr (Eq.congr_right (congrArg BitVec.toNat (ids_word c arg0 X _ k.val hk 0 (k0_off2_eq k) _))) rfl rfl)

/-- What the listing loop has done before trip `k`: `n` ids below 60 are listed, and every id below `k` is among them. -/
def Live (ids : S128x4.Idx → BitVec 32) (k : ℕ) (n : BitVec 32) (l : S61.Idx → BitVec 32) : Prop :=
  n.toNat ≤ k ∧ (∀ j : S61.Idx, (j 0).val < n.toNat → (l j).toNat < 60)
    ∧ ∀ i : S128x4.Idx, (ids i).toNat < k → ∃ j : S61.Idx, (j 0).val < n.toNat ∧ l j = ids i

/-- Writing `k` at the end of the list, and counting it when its flag is one. -/
theorem live_step (ids : S128x4.Idx → BitVec 32) (k : ℕ) (hk : k < 60) (n : BitVec 32) (l l' : S61.Idx → BitVec 32) (h : Live ids k n l)
    (w : BitVec 32) (hw : w.toNat = k) (hl' : ∀ y : S61.Idx, l' y = if (y 0).val = n.toNat then w else l y) (v : BitVec 32)
    (hv : v = if ∃ i : S128x4.Idx, (i 0).val < 128 ∧ (ids i).toNat = k then 1#32 else 0#32) : Live ids (k + 1) (Scalar.addi n v) l' := by
  obtain ⟨h1, h2, h3⟩ := h
  have old : ∀ j : S61.Idx, (j 0).val < n.toNat → l' j = l j := fun j hj => by rw [hl', if_neg (by omega)]
  by_cases hx : ∃ i : S128x4.Idx, (i 0).val < 128 ∧ (ids i).toNat = k
  · rw [if_pos hx] at hv
    subst hv
    have hn : (Scalar.addi n 1#32).toNat = n.toNat + 1 := by
      show (n + 1#32).toNat = _
      rw [BitVec.toNat_add]; show (n.toNat + 1) % 2 ^ 32 = _; omega
    refine ⟨by rw [hn]; omega, fun j hj => ?_, fun i hi => ?_⟩
    · rw [hn] at hj
      by_cases hjn : (j 0).val = n.toNat
      · rw [hl', if_pos hjn]; omega
      · rw [old j (by omega)]; exact h2 j (by omega)
    · rw [hn]
      by_cases hik : (ids i).toNat = k
      · refine ⟨ix1 ⟨n.toNat, by omega⟩, Nat.lt_succ_self _, ?_⟩
        exact (hl' _).trans ((if_pos rfl).trans (BitVec.eq_of_toNat_eq (by omega)))
      · obtain ⟨j, hj, he⟩ := h3 i (by omega)
        exact ⟨j, by omega, by rw [old j hj, he]⟩
  · rw [if_neg hx] at hv
    subst hv
    have hn : Scalar.addi n 0#32 = n := by show n + 0#32 = n; simp
    rw [hn]
    refine ⟨by omega, fun j hj => by rw [old j hj]; exact h2 j hj, fun i hi => ?_⟩
    have hik : (ids i).toNat ≠ k := fun he => hx ⟨i, (i 0).isLt, he⟩
    obtain ⟨j, hj, he⟩ := h3 i (by omega)
    exact ⟨j, hj, by rw [old j hj, he]⟩

set_option warn.classDefReducibility false in
/-- The listing loop. -/
def loopInv_t3 (ids : S128x4.Idx → BitVec 32) (fl : Buf (Elt F) (flagM.view.loc (c : Thread nD τ)))
    (hfl : Flag ids 128 (flagM.view.read (Elt F) fl)) :
    LoopInvTy_k0_t3 (F := F) Unit ℕ (Pipeline.UD sig nD τ) ℕ Variants.none c none Set.univ arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 0#32 where
  inv k n := iprop(flagP c fl ∗ ∃ f, liveP c f ∗ ⌜Live ids k n (liveM.view.read (Elt F) f)⌝)
  step k n := by
    iintro ⟨H0, %f, H, %hf⟩
    have hk : k.val < 60 := Nat.lt_of_lt_of_le k.isLt k0_t3_abs.2.1
    have hn : n.toNat < 61 := by have := hf.1; omega
    have hchk := chk5_of n hn
    unfold k0_t3_body
    sl_exec
    sl_step
    isplitl [H0]; · iexact H0
    iexists _
    isplitl [H]; · iexact H
    ipureintro
    have e10 : k0_off10 n 0 = n.toNat := rfl
    have hw : (Scf.iv 0#32 1#32 k.val : BitVec 32).toNat = k.val := by
      unfold Scf.iv; simp only [BitVec.toNat_add, BitVec.toNat_mul, BitVec.toNat_ofNat]; omega
    have hv : (flagM.view.readAt (Elt F) (Rect.unit (s := S60) (k0_off11 k) S1.size (k0_off11_inb k)).toLoadRect fl (Shape.Idx.first (numel1_S1.symm ▸ Nat.one_pos)) : BitVec 32)
        = flagM.view.read (Elt F) fl (ix1 ⟨k.val, hk⟩) := by
      refine congrArg (flagM.view.read (Elt F) fl) (funext fun a => Fin.ext ?_)
      fin_cases a
      show k0_off11 k 0 + 1 * 0 = k.val
      rw [k0_off11_eq]; rfl
    have main := live_step ids k.val hk n _ (liveM.view.read (Elt F) (liveM.view.writes (Elt F) f
      [⟨Rect.unit (k0_off10 n) S1.size (k0_off10_inb n hchk), fun _ => Scf.iv 0#32 1#32 k.val⟩])) hf
      (Scf.iv 0#32 1#32 k.val) hw (fun y => live_cell c f _ _ [] y) _ (hfl (ix1 ⟨k.val, hk⟩))
    rw [← hv] at main
    exact main

end Cert.KernelIdeal.Run

end
-- ==== Proof.Chk.lean ====
/- The side conditions. -/
module

public import proofs.«01_k».proof.Proof.Gen.KernelIdeal.Skeleton
public import Idealize.ShloMosaic.Lib.Tactic
public import Idealize.ShloMosaic.Lib.LoopRemainder
public import Idealize.ShloMosaic.Lib.Pipeline.Kit
public import Idealize.ShloMosaic.Lib.Pipeline.FrameBody

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

theorem chk7_fin : ∀ n : Fin 61, k0_chk7 (BitVec.ofNat 32 n.val) := by decide +kernel
theorem chk9_fin : ∀ n : Fin 60, k0_chk9 (BitVec.ofNat 32 n.val) := by decide +kernel

end Cert.KernelIdeal.Run

end
-- ==== Proof.Ring.lean ====
/- The ring of two buffers the kernel streams an expert's packed codes and scales through: each slot and its cells, free or in
   flight with a row of the two tables in high-bandwidth memory. -/
module

public import proofs.«01_k».proof.Proof.Scan
public import proofs.«01_k».proof.Proof.Chk
public import Idealize.ShloMosaic.Lib.Ring
public import Idealize.ShloMosaic.Lib.Transfers

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

/-- The two code buffers. -/
abbrev cbM : Memref sig .tc .vmem S2x1024x1408 .i8 := Memref.whole cc0_scratch0
/-- The two scale buffers. -/
abbrev sbM : Memref sig .tc .vmem S2x32x1408 .bf16 := Memref.whole cc0_scratch1
/-- The experts' packed codes. -/
abbrev hcM : Memref sig .tc .hbm S60x1024x1408 .i8 := Memref.whole main_arg3
/-- The experts' scales. -/
abbrev hsM : Memref sig .tc .hbm S60x32x1408 .bf16 := Memref.whole main_arg4

theorem inbC (k : Fin 2) : ∀ a, (![k.val, 0, 0] : Fin 3 → ℕ) a + S1x1024x1408.size a ≤ S2x1024x1408.size a := by
  have := k.isLt; intro a; fin_cases a
  · show k.val + 1 ≤ 2; omega
  · show 0 + 1024 ≤ 1024; omega
  · show 0 + 1408 ≤ 1408; omega
theorem inbS (k : Fin 2) : ∀ a, (![k.val, 0, 0] : Fin 3 → ℕ) a + S1x32x1408.size a ≤ S2x32x1408.size a := by
  have := k.isLt; intro a; fin_cases a
  · show k.val + 1 ≤ 2; omega
  · show 0 + 32 ≤ 32; omega
  · show 0 + 1408 ≤ 1408; omega
theorem inbHC (e : Fin 60) : ∀ a, (![e.val, 0, 0] : Fin 3 → ℕ) a + S1x1024x1408.size a ≤ S60x1024x1408.size a := by
  have := e.isLt; intro a; fin_cases a
  · show e.val + 1 ≤ 60; omega
  · show 0 + 1024 ≤ 1024; omega
  · show 0 + 1408 ≤ 1408; omega
theorem inbHS (e : Fin 60) : ∀ a, (![e.val, 0, 0] : Fin 3 → ℕ) a + S1x32x1408.size a ≤ S60x32x1408.size a := by
  have := e.isLt; intro a; fin_cases a
  · show e.val + 1 ≤ 60; omega
  · show 0 + 32 ≤ 32; omega
  · show 0 + 1408 ≤ 1408; omega
theorem inbCell (k j : Fin 2) : ∀ a, (![k.val, j.val] : Fin 2 → ℕ) a + S1x1.size a ≤ S2x2.size a := by
  have := k.isLt; have := j.isLt; intro a; fin_cases a
  · show k.val + 1 ≤ 2; omega
  · show j.val + 1 ≤ 2; omega

/-- Code slot `k`. -/
def slC (k : Fin 2) : Memref sig .tc .vmem S1024x1408 .i8 :=
  (cbM.slice (Rect.unit (s := S2x1024x1408) ![k.val, 0, 0] S1x1024x1408.size (inbC k)) (fun _ => rfl)).squeeze S1024x1408 squeezes_S1x1024x1408_S1024x1408
/-- Scale slot `k`. -/
def slS (k : Fin 2) : Memref sig .tc .vmem S32x1408 .bf16 :=
  (sbM.slice (Rect.unit (s := S2x32x1408) ![k.val, 0, 0] S1x32x1408.size (inbS k)) (fun _ => rfl)).squeeze S32x1408 squeezes_S1x32x1408_S32x1408
/-- Expert `e`'s codes. -/
def rowC (e : Fin 60) : Memref sig .tc .hbm S1024x1408 .i8 :=
  (hcM.slice (Rect.unit (s := S60x1024x1408) ![e.val, 0, 0] S1x1024x1408.size (inbHC e)) (fun _ => rfl)).squeeze S1024x1408 squeezes_S1x1024x1408_S1024x1408
/-- Expert `e`'s scales. -/
def rowS (e : Fin 60) : Memref sig .tc .hbm S32x1408 .bf16 :=
  (hsM.slice (Rect.unit (s := S60x32x1408) ![e.val, 0, 0] S1x32x1408.size (inbHS e)) (fun _ => rfl)).squeeze S32x1408 squeezes_S1x32x1408_S32x1408
/-- Cell `(k, j)`: slot `k`'s codes (`j = 0`) or scales (`j = 1`). -/
abbrev cell (k j : Fin 2) : SemLoc sig :=
  .dma ((cc0_scratch4.slice (Rect.unit (s := S2x2) ![k.val, j.val] S1x1.size (inbCell k j))).squeeze S_ squeezes_S1x1_S_).sem

/-- The read token on the codes for slot `k`. -/
abbrev tokC (k : Fin 2) (S : Finset (Idx (hcM.view.loc (c : Thread nD τ)))) (X : Buf (Elt F) (hcM.view.loc (c : Thread nD τ))) : sProp 𝕄 :=
  hcM.view.loc (c : Thread nD τ) ↦[S]{Transfers.shareTok fullShare 2 k} X
/-- The read token on the scales for slot `k`. -/
abbrev tokS (k : Fin 2) (S : Finset (Idx (hsM.view.loc (c : Thread nD τ)))) (X : Buf (Elt F) (hsM.view.loc (c : Thread nD τ))) : sProp 𝕄 :=
  hsM.view.loc (c : Thread nD τ) ↦[S]{Transfers.shareTok fullShare 2 k} X
/-- Code slot `k` holds `f`. -/
abbrev slotC (k : Fin 2) (f : Buf (Elt F) ((slC k).view.loc (c : Thread nD τ))) : sProp 𝕄 :=
  (slC k).view.loc (c : Thread nD τ) ↦[(slC k).view.set]{fullShare} f
/-- Scale slot `k` holds `f`. -/
abbrev slotS (k : Fin 2) (f : Buf (Elt F) ((slS k).view.loc (c : Thread nD τ))) : sProp 𝕄 :=
  (slS k).view.loc (c : Thread nD τ) ↦[(slS k).view.set]{fullShare} f

/-- Slot `k` with its two cells idle: the buffers at anything, the read tokens whole. -/
abbrev Free (CC : Buf (Elt F) (hcM.view.loc (c : Thread nD τ))) (CS : Buf (Elt F) (hsM.view.loc (c : Thread nD τ))) (k : Fin 2) : sProp 𝕄 :=
  iprop(semVal ((c : Thread nD τ), cell k 0) 0 ∗ semVal ((c : Thread nD τ), cell k 1) 0 ∗ (∃ f, slotC c k f) ∗ (∃ f, slotS c k f)
    ∗ tokC c k Finset.univ CC ∗ tokS c k Finset.univ CS)

/-- Code slot `k` filled with expert `e`'s codes. -/
abbrev fillC (CC : Buf (Elt F) (hcM.view.loc (c : Thread nD τ))) (k : Fin 2) (e : Fin 60) (f : Buf (Elt F) ((slC k).view.loc (c : Thread nD τ))) :=
  (slC k).view.writes (Elt F) f [⟨Rect.whole S1024x1408, ReadAs.same.apply ((rowC e).view.read (Elt F) CC)⟩]
/-- Scale slot `k` filled with expert `e`'s scales. -/
abbrev fillS (CS : Buf (Elt F) (hsM.view.loc (c : Thread nD τ))) (k : Fin 2) (e : Fin 60) (f : Buf (Elt F) ((slS k).view.loc (c : Thread nD τ))) :=
  (slS k).view.writes (Elt F) f [⟨Rect.whole S32x1408, ReadAs.same.apply ((rowS e).view.read (Elt F) CS)⟩]

/-- Slot `k` in flight with expert `e`: each of its two cells owes the buffer filled and the lent part of the token. -/
abbrev Infl (CC : Buf (Elt F) (hcM.view.loc (c : Thread nD τ))) (CS : Buf (Elt F) (hsM.view.loc (c : Thread nD τ))) (k : Fin 2) (e : Fin 60) : sProp 𝕄 :=
  iprop((∃ f, Transfers.Flight (countersEmb (U := Pipeline.UD sig nD τ)) (c : Thread nD τ) (cell k 0) () 45056
        iprop(slotC c k (fillC c CC k e f) ∗ tokC c k (rowC e).view.set CC))
    ∗ tokC c k (Finset.univ \ (rowC e).view.set) CC
    ∗ (∃ f, Transfers.Flight (countersEmb (U := Pipeline.UD sig nD τ)) (c : Thread nD τ) (cell k 1) () 2816
        iprop(slotS c k (fillS c CS k e f) ∗ tokS c k (rowS e).view.set CS))
    ∗ tokS c k (Finset.univ \ (rowS e).view.set) CS)

/-! ## The slots and the words a trip names -/

theorem chk7_of (v : BitVec 32) (h : v.toNat ≤ 60) : k0_chk7 v := by
  have := chk7_fin ⟨v.toNat, by omega⟩
  rwa [show BitVec.ofNat 32 v.toNat = v by simp] at this
theorem chk9_of (v : BitVec 32) (h : v.toNat < 60) : k0_chk9 v := by
  have := chk9_fin ⟨v.toNat, by omega⟩
  rwa [show BitVec.ofNat 32 v.toNat = v by simp] at this
theorem chk6_of (v : BitVec 32) (h : v.toNat < 60) : k0_chk6 v := chk9_of v h
theorem chk8_of (v3 : BitVec 32) (t : Fin (k0_t4_loop v3).trips) (v : BitVec 32) (h : v.toNat < 60) : k0_chk8 v3 t v :=
  have := chk9_of v h; ⟨fun _ => this.1, fun _ => this.2.1, fun _ => this.2.2.1, fun _ => this.2.2.2⟩

theorem rem_toNat (i : ℕ) (hi : i < 62) : (Scalar.remsi (BitVec.ofNat 32 i) 2#32).toNat = i % 2 := by
  have : ∀ i : Fin 62, (Scalar.remsi (BitVec.ofNat 32 i.val) 2#32).toNat = i.val % 2 := by decide
  exact this ⟨i, hi⟩

theorem iv_eq (i : ℕ) : Scalar.addi 0#32 (Scalar.muli (Scf.iv 0#32 1#32 i) 1#32) = BitVec.ofNat 32 i := by
  show 0#32 + (0#32 + BitVec.ofNat 32 i * 1#32) * 1#32 = BitVec.ofNat 32 i
  simp

theorem t4_trips (v3 : BitVec 32) (h : v3.toNat ≤ 60) : (k0_t4_loop v3).trips = v3.toNat := by
  have : ∀ n : Fin 61, (k0_t4_loop (BitVec.ofNat 32 n.val)).trips = n.val := by decide
  have := this ⟨v3.toNat, by omega⟩
  rwa [show BitVec.ofNat 32 v3.toNat = v3 by simp] at this

theorem cur_lt (v3 : BitVec 32) (h : v3.toNat ≤ 60) (t : Fin (k0_t4_loop v3).trips) : k0_off27 v3 t 0 = t.val % 2 := by
  have := Nat.lt_of_lt_of_eq t.isLt (t4_trips v3 h)
  show (Scalar.remsi (Scalar.addi 0#32 (Scalar.muli (Scf.iv 0#32 1#32 t.val) 1#32)) 2#32).toNat = _
  rw [iv_eq]; exact rem_toNat _ (by omega)
theorem nxt_lt (v3 : BitVec 32) (h : v3.toNat ≤ 60) (t : Fin (k0_t4_loop v3).trips) : k0_off20 v3 t 0 = (t.val + 1) % 2 := by
  have := Nat.lt_of_lt_of_eq t.isLt (t4_trips v3 h)
  show (Scalar.remsi (Scalar.addi (Scalar.addi 0#32 (Scalar.muli (Scf.iv 0#32 1#32 t.val) 1#32)) 1#32) 2#32).toNat = _
  rw [iv_eq, show Scalar.addi (BitVec.ofNat 32 t.val) 1#32 = BitVec.ofNat 32 (t.val + 1) from (BitVec.ofNat_add ..).symm]; exact rem_toNat _ (by omega)
/-- The slot trip `t` reads. -/
abbrev cur (v3 : BitVec 32) (h : v3.toNat ≤ 60) (t : Fin (k0_t4_loop v3).trips) : Fin 2 := ⟨k0_off27 v3 t 0, by rw [cur_lt v3 h]; omega⟩
/-- The slot trip `t` fills. -/
abbrev nxt (v3 : BitVec 32) (h : v3.toNat ≤ 60) (t : Fin (k0_t4_loop v3).trips) : Fin 2 := ⟨k0_off20 v3 t 0, by rw [nxt_lt v3 h]; omega⟩

/-- Whether trip `t` fills a slot: when another trip follows. -/
theorem cond1_iff (v3 : BitVec 32) (h : v3.toNat ≤ 60) (t : Fin (k0_t4_loop v3).trips) : k0_cond1 v3 t = 1#1 ↔ t.val + 1 < v3.toNat := by
  have key : ∀ n : Fin 61, ∀ t : Fin (k0_t4_loop (BitVec.ofNat 32 n.val)).trips, k0_cond1 (BitVec.ofNat 32 n.val) t = 1#1 ↔ t.val + 1 < n.val := by decide +kernel
  have key := key ⟨v3.toNat, by omega⟩
  revert t
  have e : BitVec.ofNat 32 v3.toNat = v3 := by simp
  rw [← e]
  intro t
  have := key t
  simpa using this

/-- A tile of code slot `k` lies in the slot. -/
theorem tileC_sub (k : Fin 2) {off : Fin 3 → ℕ} {w : ℕ} (inb : ∀ a, off a + (![1, 1024, w] : Fin 3 → ℕ) a ≤ S2x1024x1408.size a) (hw : 0 < w)
    (h0 : off 0 = k.val) (h1 : off 1 = 0) :
    cbM.view.setOn (Rect.unit (s := S2x1024x1408) off ![1, 1024, w] inb).toLoadRect.set ⊆ (slC k).view.set := by
  refine Memref.subset_of_set_eq (Memref.setOn_subset_slice_of_within cbM (Rect.unit (s := S2x1024x1408) ![k.val, 0, 0] S1x1024x1408.size (inbC k)) (fun _ => rfl) _
    (decide_eq_true fun a => ?_)) (by unfold slC; exact Memref.set_view_squeeze _ _)
  have i2 : off 2 + w ≤ 1408 := inb 2
  fin_cases a
  · show k.val ≤ off 0 ∧ off 0 + 1 * (1 - 1) < k.val + 1 * 1 ∧ _
    exact ⟨by omega, by omega, .inl rfl⟩
  · show 0 ≤ off 1 ∧ off 1 + 1 * (1024 - 1) < 0 + 1 * 1024 ∧ _
    exact ⟨by omega, by omega, .inl rfl⟩
  · show 0 ≤ off 2 ∧ off 2 + 1 * (w - 1) < 0 + 1 * 1408 ∧ _
    exact ⟨by omega, by omega, .inl rfl⟩
/-- A tile of scale slot `k` lies in the slot. -/
theorem tileS_sub (k : Fin 2) {off : Fin 3 → ℕ} {w : ℕ} (inb : ∀ a, off a + (![1, 32, w] : Fin 3 → ℕ) a ≤ S2x32x1408.size a) (hw : 0 < w)
    (h0 : off 0 = k.val) (h1 : off 1 = 0) :
    sbM.view.setOn (Rect.unit (s := S2x32x1408) off ![1, 32, w] inb).toLoadRect.set ⊆ (slS k).view.set := by
  refine Memref.subset_of_set_eq (Memref.setOn_subset_slice_of_within sbM (Rect.unit (s := S2x32x1408) ![k.val, 0, 0] S1x32x1408.size (inbS k)) (fun _ => rfl) _
    (decide_eq_true fun a => ?_)) (by unfold slS; exact Memref.set_view_squeeze _ _)
  have i2 : off 2 + w ≤ 1408 := inb 2
  fin_cases a
  · show k.val ≤ off 0 ∧ off 0 + 1 * (1 - 1) < k.val + 1 * 1 ∧ _
    exact ⟨by omega, by omega, .inl rfl⟩
  · show 0 ≤ off 1 ∧ off 1 + 1 * (32 - 1) < 0 + 1 * 32 ∧ _
    exact ⟨by omega, by omega, .inl rfl⟩
  · show 0 ≤ off 2 ∧ off 2 + 1 * (w - 1) < 0 + 1 * 1408 ∧ _
    exact ⟨by omega, by omega, .inl rfl⟩

end Cert.KernelIdeal.Run

end
-- ==== Proof.Tile.lean ====
/- What one trip of the streaming loop stores: the tiles it reads out of a filled slot, and the masked product every store holds. -/
module

public import proofs.«01_k».proof.Proof.Ring
public import Idealize.ShloMosaic.Lib.ValueLayout

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

theorem shapeCasts_S1x1024x1408_S1024x1408 : S1x1024x1408.ShapeCasts S1024x1408 := by decide +kernel
theorem shapeCasts_S1x32x1408_S32x1408 : S1x32x1408.ShapeCasts S32x1408 := by decide +kernel

theorem slC_read (k : Fin 2) (X : Buf (Elt F) (cbM.view.loc (c : Thread nD τ))) (i : Fin 1024) (j : Fin 1408) :
    (slC k).view.read (Elt F) X (ix2 i j) = cbM.view.read (Elt F) X (ix3 k i j) := by
  refine (congrFun (Memref.read_squeeze_slice cbM (Rect.unit (s := S2x1024x1408) ![k.val, 0, 0] S1x1024x1408.size (inbC k)) (fun _ => rfl) squeezes_S1x1024x1408_S1024x1408 shapeCasts_S1x1024x1408_S1024x1408 X) _).trans ?_
  refine (ValueIdx.shapeCast_1ab_ab_apply _ _ i j).trans ?_
  refine congrArg (cbM.view.read (Elt F) X) (funext fun a => Fin.ext ?_)
  fin_cases a
  · show k.val + 1 * 0 = k.val; omega
  · show 0 + 1 * i.val = i.val; omega
  · show 0 + 1 * j.val = j.val; omega
theorem slS_read (k : Fin 2) (X : Buf (Elt F) (sbM.view.loc (c : Thread nD τ))) (i : Fin 32) (j : Fin 1408) :
    (slS k).view.read (Elt F) X (ix2 i j) = sbM.view.read (Elt F) X (ix3 k i j) := by
  refine (congrFun (Memref.read_squeeze_slice sbM (Rect.unit (s := S2x32x1408) ![k.val, 0, 0] S1x32x1408.size (inbS k)) (fun _ => rfl) squeezes_S1x32x1408_S32x1408 shapeCasts_S1x32x1408_S32x1408 X) _).trans ?_
  refine (ValueIdx.shapeCast_1ab_ab_apply _ _ i j).trans ?_
  refine congrArg (sbM.view.read (Elt F) X) (funext fun a => Fin.ext ?_)
  fin_cases a
  · show k.val + 1 * 0 = k.val; omega
  · show 0 + 1 * i.val = i.val; omega
  · show 0 + 1 * j.val = j.val; omega
theorem rowC_read (e : Fin 60) (X : Buf (Elt F) (hcM.view.loc (c : Thread nD τ))) (i : Fin 1024) (j : Fin 1408) :
    (rowC e).view.read (Elt F) X (ix2 i j) = hcM.view.read (Elt F) X (ix3 e i j) := by
  refine (congrFun (Memref.read_squeeze_slice hcM (Rect.unit (s := S60x1024x1408) ![e.val, 0, 0] S1x1024x1408.size (inbHC e)) (fun _ => rfl) squeezes_S1x1024x1408_S1024x1408 shapeCasts_S1x1024x1408_S1024x1408 X) _).trans ?_
  refine (ValueIdx.shapeCast_1ab_ab_apply _ _ i j).trans ?_
  refine congrArg (hcM.view.read (Elt F) X) (funext fun a => Fin.ext ?_)
  fin_cases a
  · show e.val + 1 * 0 = e.val; omega
  · show 0 + 1 * i.val = i.val; omega
  · show 0 + 1 * j.val = j.val; omega
theorem rowS_read (e : Fin 60) (X : Buf (Elt F) (hsM.view.loc (c : Thread nD τ))) (i : Fin 32) (j : Fin 1408) :
    (rowS e).view.read (Elt F) X (ix2 i j) = hsM.view.read (Elt F) X (ix3 e i j) := by
  refine (congrFun (Memref.read_squeeze_slice hsM (Rect.unit (s := S60x32x1408) ![e.val, 0, 0] S1x32x1408.size (inbHS e)) (fun _ => rfl) squeezes_S1x32x1408_S32x1408 shapeCasts_S1x32x1408_S32x1408 X) _).trans ?_
  refine (ValueIdx.shapeCast_1ab_ab_apply _ _ i j).trans ?_
  refine congrArg (hsM.view.read (Elt F) X) (funext fun a => Fin.ext ?_)
  fin_cases a
  · show e.val + 1 * 0 = e.val; omega
  · show 0 + 1 * i.val = i.val; omega
  · show 0 + 1 * j.val = j.val; omega

/-- A tile loaded from code slot `k`, filled with expert `e`'s codes, is that expert's tile. -/
theorem tileC_val (CC : Buf (Elt F) (hcM.view.loc (c : Thread nD τ))) (k : Fin 2) (e : Fin 60) (g : Buf (Elt F) ((slC k).view.loc (c : Thread nD τ)))
    {off : Fin 3 → ℕ} {w : ℕ} (inb : ∀ a, off a + (![1, 1024, w] : Fin 3 → ℕ) a ≤ S2x1024x1408.size a) (h0 : off 0 = k.val) (h1 : off 1 = 0)
    (i : (⟨3, ![1, 1024, w]⟩ : Shape).Idx) :
    cbM.view.readAt (Elt F) (Rect.unit (s := S2x1024x1408) off ![1, 1024, w] inb).toLoadRect (fillC c CC k e g) i
      = hcM.view.read (Elt F) CC (ix3 e (i 1) ⟨off 2 + (i 2).val, Nat.lt_of_lt_of_le (Nat.add_lt_add_left (i 2).isLt _) (inb 2)⟩) := by
  refine Eq.trans ?_ (rowC_read c e CC (i 1) ⟨off 2 + (i 2).val, Nat.lt_of_lt_of_le (Nat.add_lt_add_left (i 2).isLt _) (inb 2)⟩)
  have key := slC_read c k (fillC c CC k e g) (i 1) ⟨off 2 + (i 2).val, Nat.lt_of_lt_of_le (Nat.add_lt_add_left (i 2).isLt _) (inb 2)⟩
  refine Eq.trans ?_ (key.symm.trans ?_)
  · refine congrArg (cbM.view.read (Elt F) (fillC c CC k e g)) (funext fun a => Fin.ext ?_)
    have i0 : (i 0).val < 1 := (i 0).isLt
    fin_cases a
    · show off 0 + 1 * (i 0).val = k.val; omega
    · show off 1 + 1 * (i 1).val = (i 1).val; omega
    · show off 2 + 1 * (i 2).val = off 2 + (i 2).val; omega
  · refine (View.read_writes_apply_of_pieces _ _ ((rowC e).view.read (Elt F) CC) _ (fun p hp x => ?_) _ ⟨_, List.mem_singleton_self _, ?_⟩)
    · obtain rfl := List.mem_singleton.mp hp
      show (rowC e).view.read (Elt F) CC x = (rowC e).view.read (Elt F) CC ((Rect.whole S1024x1408).emb x)
      rw [Rect.emb_whole_apply]
    · show _ ∈ (Rect.whole S1024x1408).set; rw [Rect.set_whole]; exact Finset.mem_univ _
theorem tileS_val (CS : Buf (Elt F) (hsM.view.loc (c : Thread nD τ))) (k : Fin 2) (e : Fin 60) (g : Buf (Elt F) ((slS k).view.loc (c : Thread nD τ)))
    {off : Fin 3 → ℕ} {w : ℕ} (inb : ∀ a, off a + (![1, 32, w] : Fin 3 → ℕ) a ≤ S2x32x1408.size a) (h0 : off 0 = k.val) (h1 : off 1 = 0)
    (i : (⟨3, ![1, 32, w]⟩ : Shape).Idx) :
    sbM.view.readAt (Elt F) (Rect.unit (s := S2x32x1408) off ![1, 32, w] inb).toLoadRect (fillS c CS k e g) i
      = hsM.view.read (Elt F) CS (ix3 e (i 1) ⟨off 2 + (i 2).val, Nat.lt_of_lt_of_le (Nat.add_lt_add_left (i 2).isLt _) (inb 2)⟩) := by
  refine Eq.trans ?_ (rowS_read c e CS (i 1) ⟨off 2 + (i 2).val, Nat.lt_of_lt_of_le (Nat.add_lt_add_left (i 2).isLt _) (inb 2)⟩)
  have key := slS_read c k (fillS c CS k e g) (i 1) ⟨off 2 + (i 2).val, Nat.lt_of_lt_of_le (Nat.add_lt_add_left (i 2).isLt _) (inb 2)⟩
  refine Eq.trans ?_ (key.symm.trans ?_)
  · refine congrArg (sbM.view.read (Elt F) (fillS c CS k e g)) (funext fun a => Fin.ext ?_)
    have i0 : (i 0).val < 1 := (i 0).isLt
    fin_cases a
    · show off 0 + 1 * (i 0).val = k.val; omega
    · show off 1 + 1 * (i 1).val = (i 1).val; omega
    · show off 2 + 1 * (i 2).val = off 2 + (i 2).val; omega
  · refine (View.read_writes_apply_of_pieces _ _ ((rowS e).view.read (Elt F) CS) _ (fun p hp x => ?_) _ ⟨_, List.mem_singleton_self _, ?_⟩)
    · obtain rfl := List.mem_singleton.mp hp
      show (rowS e).view.read (Elt F) CS x = (rowS e).view.read (Elt F) CS ((Rect.whole S32x1408).emb x)
      rw [Rect.emb_whole_apply]
    · show _ ∈ (Rect.whole S32x1408).set; rw [Rect.set_whole]; exact Finset.mem_univ _

/-! ## The product of one expert -/

/-- The tile of 256 columns from `n0` of expert `e`'s codes, of a table of codes `A`. -/
def ct (A : Vec F S60x1024x1408 .i8) (e : Fin 60) (n0 : ℕ) (h : n0 + 256 ≤ 1408) : Vec F S1x1024x256 .i8 :=
  fun i => A (ix3 e (i 1) ⟨n0 + (i 2).val, Nat.lt_of_lt_of_le (Nat.add_lt_add_left (i 2).isLt _) h⟩)
/-- The tile of 256 columns from `n0` of expert `e`'s scales. -/
def st (B : Vec F S60x32x1408 .bf16) (e : Fin 60) (n0 : ℕ) (h : n0 + 256 ≤ 1408) : Vec F S1x32x256 .bf16 :=
  fun i => B (ix3 e (i 1) ⟨n0 + (i 2).val, Nat.lt_of_lt_of_le (Nat.add_lt_add_left (i 2).isLt _) h⟩)
/-- The last 128 columns of expert `e`'s codes. -/
def ctL (A : Vec F S60x1024x1408 .i8) (e : Fin 60) : Vec F S1x1024x128 .i8 :=
  fun i => A (ix3 e (i 1) ⟨1280 + (i 2).val, Nat.add_lt_add_left (i 2).isLt 1280⟩)
/-- The last 128 columns of expert `e`'s scales. -/
def stL (B : Vec F S60x32x1408 .bf16) (e : Fin 60) : Vec F S1x32x128 .bf16 :=
  fun i => B (ix3 e (i 1) ⟨1280 + (i 2).val, Nat.add_lt_add_left (i 2).isLt 1280⟩)

/-- The product of every token with expert `e`'s weights, 256 columns from `n0`, as the kernel computes it. -/
def prodT (v20 : Vec F S128x2048 .bf16) (A : Vec F S60x1024x1408 .i8) (B : Vec F S60x32x1408 .bf16) (e : Fin 60) (n0 : ℕ) (h : n0 + 256 ≤ 1408) :
    FVec F S128x256 .f32 := k0_pay3 (k0_pay85 v20) (k0_pay2 (ct A e n0 h)) 28#32 (st B e n0 h)
/-- The product of every token with expert `e`'s weights, the last 128 columns. -/
def prodL (v20 : Vec F S128x2048 .bf16) (A : Vec F S60x1024x1408 .i8) (B : Vec F S60x32x1408 .bf16) (e : Fin 60) :
    FVec F S128x128 .f32 := k0_pay37 (k0_pay85 v20) (ctL A e) (stL B e)
/-- The product of token `t` with column `n` of expert `e`'s weights. -/
def delta (v20 : Vec F S128x2048 .bf16) (A : Vec F S60x1024x1408 .i8) (B : Vec F S60x32x1408 .bf16) (e : Fin 60) (t : Fin 128) (n : Fin 1408) : F .f32 :=
  if h : n.val < 1280 then prodT v20 A B e (n.val / 256 * 256) (by omega) (ix2 t ⟨n.val % 256, by omega⟩)
  else prodL v20 A B e (ix2 t ⟨n.val - 1280, by omega⟩)

/-- One trip's effect on the output: where the token's id is the trip's, the expert's product; elsewhere what was there. -/
def mix (ids : S128x4.Idx → BitVec 32) (w : BitVec 32) (d : Fin 128 → Fin 1408 → F .f32) (f : S128x4x1408.Idx → F .f32) : S128x4x1408.Idx → F .f32 :=
  fun y => if ids (ix2 (y 0) (y 1)) = w then d (y 0) (y 2) else f y

theorem delta_T (v20 : Vec F S128x2048 .bf16) (A : Vec F S60x1024x1408 .i8) (B : Vec F S60x32x1408 .bf16) (e : Fin 60) (t : Fin 128) (m : ℕ) (hm : m < 5)
    (j : Fin 256) : delta v20 A B e t ⟨256 * m + j.val, by omega⟩ = prodT v20 A B e (256 * m) (by omega) (ix2 t j) := by
  have hdiv : (256 * m + j.val) / 256 * 256 = 256 * m := by omega
  have hmod : (256 * m + j.val) % 256 = j.val := by omega
  unfold delta
  rw [dif_pos (by show 256 * m + j.val < 1280; omega)]
  simp only [hdiv, hmod]
theorem delta_L (v20 : Vec F S128x2048 .bf16) (A : Vec F S60x1024x1408 .i8) (B : Vec F S60x32x1408 .bf16) (e : Fin 60) (t : Fin 128)
    (j : Fin 128) : delta v20 A B e t ⟨1280 + j.val, by omega⟩ = prodL v20 A B e (ix2 t j) := by
  have hmod : 1280 + j.val - 1280 = j.val := by omega
  unfold delta
  rw [dif_neg (by show ¬ 1280 + j.val < 1280; omega)]
  simp only [hmod]

theorem select_eq {α : Type} (a w : BitVec 32) (x y : α) : Scalar.select (IntOp.cmpi .eq a w) x y = if a = w then x else y := by
  unfold Scalar.select IntOp.cmpi
  by_cases h : a = w
  · simp [h]
  · have h' : (a == w) = false := by simpa using h
    simp [h, h']

theorem hitT (v20 : Vec F S128x2048 .bf16) (A : Vec F S60x1024x1408 .i8) (B : Vec F S60x32x1408 .bf16) (e : Fin 60) (w : BitVec 32)
    (X : Buf (Elt F) (arg4.view.loc (c : Thread nD τ))) (f : Buf (Elt F) (arg9.view.loc (c : Thread nD τ))) (k m : ℕ) (hm : m < 5)
    (inb : ∀ a, (![0, k, 256 * m] : Fin 3 → ℕ) a + S128x1x256.size a ≤ S128x4x1408.size a)
    (inb4 : ∀ a, (![0, k] : Fin 2 → ℕ) a + S128x1.size a ≤ S128x4.size a)
    (R : FVec F S128x256 .f32) (hR : R = prodT v20 A B e (256 * m) (by omega)) (x : S128x1x256.Idx) :
    k0_pay6 w R (arg4.view.readAt (Elt F) (Rect.unit (s := S128x4) ![0, k] S128x1.size inb4).toLoadRect X)
        (arg9.view.readAt (Elt F) (Rect.unit (s := S128x4x1408) ![0, k, 256 * m] S128x1x256.size inb).toLoadRect f) x
      = mix (arg4.view.read (Elt F) X) w (delta v20 A B e) (arg9.view.read (Elt F) f)
          ((Rect.unit (s := S128x4x1408) ![0, k, 256 * m] S128x1x256.size inb).emb x) := by
  idx_vars x
  pointwise [k0_pay6]
  have hk : k < 4 := inb 1
  have i4 : arg4.view.readAt (Elt F) (Rect.unit (s := S128x4) ![0, k] S128x1.size inb4).toLoadRect X (ix2 x0 0) = arg4.view.read (Elt F) X (ix2 x0 ⟨k, hk⟩) := by
    refine congrArg (arg4.view.read (Elt F) X) (funext fun a => Fin.ext ?_)
    fin_cases a
    · show 0 + 1 * x0.val = x0.val; omega
    · show k + 1 * 0 = k; omega
  have hemb : (Rect.unit (s := S128x4x1408) ![0, k, 256 * m] S128x1x256.size inb).emb (ix3 x0 x1 x2) = ix3 x0 ⟨k, hk⟩ ⟨256 * m + x2.val, by omega⟩ := by
    funext a; apply Fin.ext
    fin_cases a
    · show 0 + 1 * x0.val = x0.val; omega
    · show k + 1 * x1.val = k; omega
    · show 256 * m + 1 * x2.val = 256 * m + x2.val; omega
  have i9 : arg9.view.readAt (Elt F) (Rect.unit (s := S128x4x1408) ![0, k, 256 * m] S128x1x256.size inb).toLoadRect f (ix3 x0 0 x2)
      = arg9.view.read (Elt F) f (ix3 x0 ⟨k, hk⟩ ⟨256 * m + x2.val, by omega⟩) := by
    obtain rfl : x1 = 0 := Subsingleton.elim _ _
    exact congrArg (arg9.view.read (Elt F) f) hemb
  refine (select_eq _ _ _ _).trans ?_
  rw [hemb]
  refine Eq.trans ?_ (if_congr (Eq.congr_left i4) (congrFun hR _ |>.trans (delta_T v20 A B e x0 m hm x2).symm) i9)
  rfl

theorem hitL (v20 : Vec F S128x2048 .bf16) (A : Vec F S60x1024x1408 .i8) (B : Vec F S60x32x1408 .bf16) (e : Fin 60) (w : BitVec 32)
    (X : Buf (Elt F) (arg4.view.loc (c : Thread nD τ))) (f : Buf (Elt F) (arg9.view.loc (c : Thread nD τ))) (k : ℕ)
    (inb : ∀ a, (![0, k, 1280] : Fin 3 → ℕ) a + S128x1x128.size a ≤ S128x4x1408.size a)
    (inb4 : ∀ a, (![0, k] : Fin 2 → ℕ) a + S128x1.size a ≤ S128x4.size a)
    (R : FVec F S128x128 .f32) (hR : R = prodL v20 A B e) (x : S128x1x128.Idx) :
    k0_pay86 w R (arg4.view.readAt (Elt F) (Rect.unit (s := S128x4) ![0, k] S128x1.size inb4).toLoadRect X)
        (arg9.view.readAt (Elt F) (Rect.unit (s := S128x4x1408) ![0, k, 1280] S128x1x128.size inb).toLoadRect f) x
      = mix (arg4.view.read (Elt F) X) w (delta v20 A B e) (arg9.view.read (Elt F) f)
          ((Rect.unit (s := S128x4x1408) ![0, k, 1280] S128x1x128.size inb).emb x) := by
  idx_vars x
  pointwise [k0_pay86]
  have hk : k < 4 := inb 1
  have i4 : arg4.view.readAt (Elt F) (Rect.unit (s := S128x4) ![0, k] S128x1.size inb4).toLoadRect X (ix2 x0 0) = arg4.view.read (Elt F) X (ix2 x0 ⟨k, hk⟩) := by
    refine congrArg (arg4.view.read (Elt F) X) (funext fun a => Fin.ext ?_)
    fin_cases a
    · show 0 + 1 * x0.val = x0.val; omega
    · show k + 1 * 0 = k; omega
  have hemb : (Rect.unit (s := S128x4x1408) ![0, k, 1280] S128x1x128.size inb).emb (ix3 x0 x1 x2) = ix3 x0 ⟨k, hk⟩ ⟨1280 + x2.val, by omega⟩ := by
    funext a; apply Fin.ext
    fin_cases a
    · show 0 + 1 * x0.val = x0.val; omega
    · show k + 1 * x1.val = k; omega
    · show 1280 + 1 * x2.val = 1280 + x2.val; omega
  have i9 : arg9.view.readAt (Elt F) (Rect.unit (s := S128x4x1408) ![0, k, 1280] S128x1x128.size inb).toLoadRect f (ix3 x0 0 x2)
      = arg9.view.read (Elt F) f (ix3 x0 ⟨k, hk⟩ ⟨1280 + x2.val, by omega⟩) := by
    obtain rfl : x1 = 0 := Subsingleton.elim _ _
    exact congrArg (arg9.view.read (Elt F) f) hemb
  refine (select_eq _ _ _ _).trans ?_
  rw [hemb]
  refine Eq.trans ?_ (if_congr (Eq.congr_left i4) (congrFun hR _ |>.trans (delta_L v20 A B e x0 x2).symm) i9)
  rfl

/-- The product the kernel computes from the tiles it loads out of a filled slot. -/
theorem loadT (v20 : Vec F S128x2048 .bf16) (CC : Buf (Elt F) (hcM.view.loc (c : Thread nD τ))) (CS : Buf (Elt F) (hsM.view.loc (c : Thread nD τ)))
    (k : Fin 2) (e : Fin 60) (g : Buf (Elt F) ((slC k).view.loc (c : Thread nD τ))) (g' : Buf (Elt F) ((slS k).view.loc (c : Thread nD τ))) (m : ℕ) (hm : m < 5)
    {off : Fin 3 → ℕ} (inb : ∀ a, off a + S1x1024x256.size a ≤ S2x1024x1408.size a) (h0 : off 0 = k.val) (h1 : off 1 = 0) (h2 : off 2 = 256 * m)
    {off' : Fin 3 → ℕ} (inb' : ∀ a, off' a + S1x32x256.size a ≤ S2x32x1408.size a) (h0' : off' 0 = k.val) (h1' : off' 1 = 0) (h2' : off' 2 = 256 * m) :
    k0_pay3 (k0_pay85 v20) (k0_pay2 (cbM.view.readAt (Elt F) (Rect.unit (s := S2x1024x1408) off S1x1024x256.size inb).toLoadRect (fillC c CC k e g))) 28#32
        (sbM.view.readAt (Elt F) (Rect.unit (s := S2x32x1408) off' S1x32x256.size inb').toLoadRect (fillS c CS k e g'))
      = prodT v20 (hcM.view.read (Elt F) CC) (hsM.view.read (Elt F) CS) e (256 * m) (by omega) := by
  refine congrArg₂ (fun a b => k0_pay3 (k0_pay85 v20) (k0_pay2 a) 28#32 b) (funext fun i => ?_) (funext fun i => ?_)
  · refine (tileC_val c CC k e g inb h0 h1 i).trans (congrArg (hcM.view.read (Elt F) CC) ?_)
    simp only [h2]
  · refine (tileS_val c CS k e g' inb' h0' h1' i).trans (congrArg (hsM.view.read (Elt F) CS) ?_)
    simp only [h2']
theorem loadL (v20 : Vec F S128x2048 .bf16) (CC : Buf (Elt F) (hcM.view.loc (c : Thread nD τ))) (CS : Buf (Elt F) (hsM.view.loc (c : Thread nD τ)))
    (k : Fin 2) (e : Fin 60) (g : Buf (Elt F) ((slC k).view.loc (c : Thread nD τ))) (g' : Buf (Elt F) ((slS k).view.loc (c : Thread nD τ)))
    {off : Fin 3 → ℕ} (inb : ∀ a, off a + S1x1024x128.size a ≤ S2x1024x1408.size a) (h0 : off 0 = k.val) (h1 : off 1 = 0) (h2 : off 2 = 1280)
    {off' : Fin 3 → ℕ} (inb' : ∀ a, off' a + S1x32x128.size a ≤ S2x32x1408.size a) (h0' : off' 0 = k.val) (h1' : off' 1 = 0) (h2' : off' 2 = 1280) :
    k0_pay37 (k0_pay85 v20) (cbM.view.readAt (Elt F) (Rect.unit (s := S2x1024x1408) off S1x1024x128.size inb).toLoadRect (fillC c CC k e g))
        (sbM.view.readAt (Elt F) (Rect.unit (s := S2x32x1408) off' S1x32x128.size inb').toLoadRect (fillS c CS k e g'))
      = prodL v20 (hcM.view.read (Elt F) CC) (hsM.view.read (Elt F) CS) e := by
  refine congrArg₂ (fun a b => k0_pay37 (k0_pay85 v20) a b) (funext fun i => ?_) (funext fun i => ?_)
  · refine (tileC_val c CC k e g inb h0 h1 i).trans (congrArg (hcM.view.read (Elt F) CC) ?_)
    simp only [h2]
  · refine (tileS_val c CS k e g' inb' h0' h1' i).trans (congrArg (hsM.view.read (Elt F) CS) ?_)
    simp only [h2']

/-- Every element of the output lies in one of the tiles a trip stores. -/
theorem cover_pd (L : List (View.Piece (Elt F) S128x4x1408 .f32))
    (hT : ∀ k m, k < 4 → m < 5 → ∃ p ∈ L, ∃ inb, p.1 = Rect.unit (s := S128x4x1408) ![0, k, 256 * m] S128x1x256.size inb)
    (hL : ∀ k, k < 4 → ∃ p ∈ L, ∃ inb, p.1 = Rect.unit (s := S128x4x1408) ![0, k, 1280] S128x1x128.size inb) (y : S128x4x1408.Idx) :
    ∃ p ∈ L, y ∈ p.1.set := by
  idx_vars y
  by_cases h : y2.val < 1280
  · obtain ⟨p, hp, inb, he⟩ := hT y1.val (y2.val / 256) y1.isLt (by omega)
    refine ⟨p, hp, ?_⟩
    rw [he, Rect.mem_set_unit]
    intro a
    fin_cases a
    · show 0 ≤ y0.val ∧ y0.val < 0 + 128; omega
    · show y1.val ≤ y1.val ∧ y1.val < y1.val + 1; omega
    · show 256 * (y2.val / 256) ≤ y2.val ∧ y2.val < 256 * (y2.val / 256) + 256; omega
  · obtain ⟨p, hp, inb, he⟩ := hL y1.val y1.isLt
    refine ⟨p, hp, ?_⟩
    rw [he, Rect.mem_set_unit]
    intro a
    fin_cases a
    · show 0 ≤ y0.val ∧ y0.val < 0 + 128; omega
    · show y1.val ≤ y1.val ∧ y1.val < y1.val + 1; omega
    · show 1280 ≤ y2.val ∧ y2.val < 1280 + 128; omega

/-- A word of the list of live experts, loaded. -/
theorem live_word (l : Buf (Elt F) (liveM.view.loc (c : Thread nD τ))) {off : Fin 1 → ℕ} (inb : ∀ a, off a + S1.size a ≤ S61.size a)
    (n : ℕ) (hn : n < 61) (h : off 0 = n) (i : S1.Idx) :
    liveM.view.readAt (Elt F) (Rect.unit (s := S61) off S1.size inb).toLoadRect l i = liveM.view.read (Elt F) l (ix1 ⟨n, hn⟩) := by
  refine congrArg (liveM.view.read (Elt F) l) (funext fun a => Fin.ext ?_)
  have i0 : (i 0).val < 1 := (i 0).isLt
  fin_cases a
  show off 0 + 1 * (i 0).val = n
  omega

end Cert.KernelIdeal.Run

end
-- ==== Proof.Trip.lean ====
/- One trip of the streaming loop: it starts the next expert's transfers, waits for its own, and puts the product of every token
   with its expert's weights where the token's id is the expert. -/
module

public import proofs.«01_k».proof.Proof.Tile

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

set_option maxHeartbeats 1000000 in
/-- What the trip's stores leave in the output: `mix`. -/
theorem trip_pd (e : Fin 60) (v20 : Vec F S128x2048 .bf16)
    (CC : Buf (Elt F) (hcM.view.loc (c : Thread nD τ))) (CS : Buf (Elt F) (hsM.view.loc (c : Thread nD τ)))
    (X : Buf (Elt F) (arg4.view.loc (c : Thread nD τ))) (f9 : Buf (Elt F) (arg9.view.loc (c : Thread nD τ))) (wd : BitVec 32)
    (R0 R1 R2 R3 R4 : FVec F S128x256 .f32) (R5 : FVec F S128x128 .f32)
    (hR0 : R0 = prodT v20 (hcM.view.read (Elt F) CC) (hsM.view.read (Elt F) CS) e (256 * 0) (by decide))
    (hR1 : R1 = prodT v20 (hcM.view.read (Elt F) CC) (hsM.view.read (Elt F) CS) e (256 * 1) (by decide))
    (hR2 : R2 = prodT v20 (hcM.view.read (Elt F) CC) (hsM.view.read (Elt F) CS) e (256 * 2) (by decide))
    (hR3 : R3 = prodT v20 (hcM.view.read (Elt F) CC) (hsM.view.read (Elt F) CS) e (256 * 3) (by decide))
    (hR4 : R4 = prodT v20 (hcM.view.read (Elt F) CC) (hsM.view.read (Elt F) CS) e (256 * 4) (by decide))
    (hR5 : R5 = prodL v20 (hcM.view.read (Elt F) CC) (hsM.view.read (Elt F) CS) e)
    (P53 : Vec F S128x1x128 .f32) (hP53 : P53 = k0_pay86 wd R5 (arg4.view.readAt (Elt F) (Rect.unit (s := S128x4) ![0, 3] S128x1.size inb_S128x4_S128x1_0_3).toLoadRect X)
        (arg9.view.readAt (Elt F) (Rect.unit (s := S128x4x1408) ![0, 3, 1280] S128x1x128.size inb_S128x4x1408_S128x1x128_0_3_1280).toLoadRect f9))
    (P52 : Vec F S128x1x128 .f32) (hP52 : P52 = k0_pay86 wd R5 (arg4.view.readAt (Elt F) (Rect.unit (s := S128x4) ![0, 2] S128x1.size inb_S128x4_S128x1_0_2).toLoadRect X)
        (arg9.view.readAt (Elt F) (Rect.unit (s := S128x4x1408) ![0, 2, 1280] S128x1x128.size inb_S128x4x1408_S128x1x128_0_2_1280).toLoadRect f9))
    (P51 : Vec F S128x1x128 .f32) (hP51 : P51 = k0_pay86 wd R5 (arg4.view.readAt (Elt F) (Rect.unit (s := S128x4) ![0, 1] S128x1.size inb_S128x4_S128x1_0_1).toLoadRect X)
        (arg9.view.readAt (Elt F) (Rect.unit (s := S128x4x1408) ![0, 1, 1280] S128x1x128.size inb_S128x4x1408_S128x1x128_0_1_1280).toLoadRect f9))
    (P50 : Vec F S128x1x128 .f32) (hP50 : P50 = k0_pay86 wd R5 (arg4.view.readAt (Elt F) (Rect.unit (s := S128x4) ![0, 0] S128x1.size inb_S128x4_S128x1_0_0).toLoadRect X)
        (arg9.view.readAt (Elt F) (Rect.unit (s := S128x4x1408) ![0, 0, 1280] S128x1x128.size inb_S128x4x1408_S128x1x128_0_0_1280).toLoadRect f9))
    (P43 : Vec F S128x1x256 .f32) (hP43 : P43 = k0_pay6 wd R4 (arg4.view.readAt (Elt F) (Rect.unit (s := S128x4) ![0, 3] S128x1.size inb_S128x4_S128x1_0_3).toLoadRect X)
        (arg9.view.readAt (Elt F) (Rect.unit (s := S128x4x1408) ![0, 3, 1024] S128x1x256.size inb_S128x4x1408_S128x1x256_0_3_1024).toLoadRect f9))
    (P42 : Vec F S128x1x256 .f32) (hP42 : P42 = k0_pay6 wd R4 (arg4.view.readAt (Elt F) (Rect.unit (s := S128x4) ![0, 2] S128x1.size inb_S128x4_S128x1_0_2).toLoadRect X)
        (arg9.view.readAt (Elt F) (Rect.unit (s := S128x4x1408) ![0, 2, 1024] S128x1x256.size inb_S128x4x1408_S128x1x256_0_2_1024).toLoadRect f9))
    (P41 : Vec F S128x1x256 .f32) (hP41 : P41 = k0_pay6 wd R4 (arg4.view.readAt (Elt F) (Rect.unit (s := S128x4) ![0, 1] S128x1.size inb_S128x4_S128x1_0_1).toLoadRect X)
        (arg9.view.readAt (Elt F) (Rect.unit (s := S128x4x1408) ![0, 1, 1024] S128x1x256.size inb_S128x4x1408_S128x1x256_0_1_1024).toLoadRect f9))
    (P40 : Vec F S128x1x256 .f32) (hP40 : P40 = k0_pay6 wd R4 (arg4.view.readAt (Elt F) (Rect.unit (s := S128x4) ![0, 0] S128x1.size inb_S128x4_S128x1_0_0).toLoadRect X)
        (arg9.view.readAt (Elt F) (Rect.unit (s := S128x4x1408) ![0, 0, 1024] S128x1x256.size inb_S128x4x1408_S128x1x256_0_0_1024).toLoadRect f9))
    (P33 : Vec F S128x1x256 .f32) (hP33 : P33 = k0_pay6 wd R3 (arg4.view.readAt (Elt F) (Rect.unit (s := S128x4) ![0, 3] S128x1.size inb_S128x4_S128x1_0_3).toLoadRect X)
        (arg9.view.readAt (Elt F) (Rect.unit (s := S128x4x1408) ![0, 3, 768] S128x1x256.size inb_S128x4x1408_S128x1x256_0_3_768).toLoadRect f9))
    (P32 : Vec F S128x1x256 .f32) (hP32 : P32 = k0_pay6 wd R3 (arg4.view.readAt (Elt F) (Rect.unit (s := S128x4) ![0, 2] S128x1.size inb_S128x4_S128x1_0_2).toLoadRect X)
        (arg9.view.readAt (Elt F) (Rect.unit (s := S128x4x1408) ![0, 2, 768] S128x1x256.size inb_S128x4x1408_S128x1x256_0_2_768).toLoadRect f9))
    (P31 : Vec F S128x1x256 .f32) (hP31 : P31 = k0_pay6 wd R3 (arg4.view.readAt (Elt F) (Rect.unit (s := S128x4) ![0, 1] S128x1.size inb_S128x4_S128x1_0_1).toLoadRect X)
        (arg9.view.readAt (Elt F) (Rect.unit (s := S128x4x1408) ![0, 1, 768] S128x1x256.size inb_S128x4x1408_S128x1x256_0_1_768).toLoadRect f9))
    (P30 : Vec F S128x1x256 .f32) (hP30 : P30 = k0_pay6 wd R3 (arg4.view.readAt (Elt F) (Rect.unit (s := S128x4) ![0, 0] S128x1.size inb_S128x4_S128x1_0_0).toLoadRect X)
        (arg9.view.readAt (Elt F) (Rect.unit (s := S128x4x1408) ![0, 0, 768] S128x1x256.size inb_S128x4x1408_S128x1x256_0_0_768).toLoadRect f9))
    (P23 : Vec F S128x1x256 .f32) (hP23 : P23 = k0_pay6 wd R2 (arg4.view.readAt (Elt F) (Rect.unit (s := S128x4) ![0, 3] S128x1.size inb_S128x4_S128x1_0_3).toLoadRect X)
        (arg9.view.readAt (Elt F) (Rect.unit (s := S128x4x1408) ![0, 3, 512] S128x1x256.size inb_S128x4x1408_S128x1x256_0_3_512).toLoadRect f9))
    (P22 : Vec F S128x1x256 .f32) (hP22 : P22 = k0_pay6 wd R2 (arg4.view.readAt (Elt F) (Rect.unit (s := S128x4) ![0, 2] S128x1.size inb_S128x4_S128x1_0_2).toLoadRect X)
        (arg9.view.readAt (Elt F) (Rect.unit (s := S128x4x1408) ![0, 2, 512] S128x1x256.size inb_S128x4x1408_S128x1x256_0_2_512).toLoadRect f9))
    (P21 : Vec F S128x1x256 .f32) (hP21 : P21 = k0_pay6 wd R2 (arg4.view.readAt (Elt F) (Rect.unit (s := S128x4) ![0, 1] S128x1.size inb_S128x4_S128x1_0_1).toLoadRect X)
        (arg9.view.readAt (Elt F) (Rect.unit (s := S128x4x1408) ![0, 1, 512] S128x1x256.size inb_S128x4x1408_S128x1x256_0_1_512).toLoadRect f9))
    (P20 : Vec F S128x1x256 .f32) (hP20 : P20 = k0_pay6 wd R2 (arg4.view.readAt (Elt F) (Rect.unit (s := S128x4) ![0, 0] S128x1.size inb_S128x4_S128x1_0_0).toLoadRect X)
        (arg9.view.readAt (Elt F) (Rect.unit (s := S128x4x1408) ![0, 0, 512] S128x1x256.size inb_S128x4x1408_S128x1x256_0_0_512).toLoadRect f9))
    (P13 : Vec F S128x1x256 .f32) (hP13 : P13 = k0_pay6 wd R1 (arg4.view.readAt (Elt F) (Rect.unit (s := S128x4) ![0, 3] S128x1.size inb_S128x4_S128x1_0_3).toLoadRect X)
        (arg9.view.readAt (Elt F) (Rect.unit (s := S128x4x1408) ![0, 3, 256] S128x1x256.size inb_S128x4x1408_S128x1x256_0_3_256).toLoadRect f9))
    (P12 : Vec F S128x1x256 .f32) (hP12 : P12 = k0_pay6 wd R1 (arg4.view.readAt (Elt F) (Rect.unit (s := S128x4) ![0, 2] S128x1.size inb_S128x4_S128x1_0_2).toLoadRect X)
        (arg9.view.readAt (Elt F) (Rect.unit (s := S128x4x1408) ![0, 2, 256] S128x1x256.size inb_S128x4x1408_S128x1x256_0_2_256).toLoadRect f9))
    (P11 : Vec F S128x1x256 .f32) (hP11 : P11 = k0_pay6 wd R1 (arg4.view.readAt (Elt F) (Rect.unit (s := S128x4) ![0, 1] S128x1.size inb_S128x4_S128x1_0_1).toLoadRect X)
        (arg9.view.readAt (Elt F) (Rect.unit (s := S128x4x1408) ![0, 1, 256] S128x1x256.size inb_S128x4x1408_S128x1x256_0_1_256).toLoadRect f9))
    (P10 : Vec F S128x1x256 .f32) (hP10 : P10 = k0_pay6 wd R1 (arg4.view.readAt (Elt F) (Rect.unit (s := S128x4) ![0, 0] S128x1.size inb_S128x4_S128x1_0_0).toLoadRect X)
        (arg9.view.readAt (Elt F) (Rect.unit (s := S128x4x1408) ![0, 0, 256] S128x1x256.size inb_S128x4x1408_S128x1x256_0_0_256).toLoadRect f9))
    (P03 : Vec F S128x1x256 .f32) (hP03 : P03 = k0_pay6 wd R0 (arg4.view.readAt (Elt F) (Rect.unit (s := S128x4) ![0, 3] S128x1.size inb_S128x4_S128x1_0_3).toLoadRect X)
        (arg9.view.readAt (Elt F) (Rect.unit (s := S128x4x1408) ![0, 3, 0] S128x1x256.size inb_S128x4x1408_S128x1x256_0_3_0).toLoadRect f9))
    (P02 : Vec F S128x1x256 .f32) (hP02 : P02 = k0_pay6 wd R0 (arg4.view.readAt (Elt F) (Rect.unit (s := S128x4) ![0, 2] S128x1.size inb_S128x4_S128x1_0_2).toLoadRect X)
        (arg9.view.readAt (Elt F) (Rect.unit (s := S128x4x1408) ![0, 2, 0] S128x1x256.size inb_S128x4x1408_S128x1x256_0_2_0).toLoadRect f9))
    (P01 : Vec F S128x1x256 .f32) (hP01 : P01 = k0_pay6 wd R0 (arg4.view.readAt (Elt F) (Rect.unit (s := S128x4) ![0, 1] S128x1.size inb_S128x4_S128x1_0_1).toLoadRect X)
        (arg9.view.readAt (Elt F) (Rect.unit (s := S128x4x1408) ![0, 1, 0] S128x1x256.size inb_S128x4x1408_S128x1x256_0_1_0).toLoadRect f9))
    (P00 : Vec F S128x1x256 .f32) (hP00 : P00 = k0_pay6 wd R0 (arg4.view.readAt (Elt F) (Rect.unit (s := S128x4) ![0, 0] S128x1.size inb_S128x4_S128x1_0_0).toLoadRect X)
        (arg9.view.readAt (Elt F) (Rect.unit (s := S128x4x1408) ![0, 0, 0] S128x1x256.size inb_S128x4x1408_S128x1x256_0_0_0).toLoadRect f9))
    (f : Buf (Elt F) (arg9.view.loc (c : Thread nD τ)))
    (hf : f = arg9.view.writes (Elt F) f9 [
      ⟨Rect.unit (s := S128x4x1408) ![0, 3, 1280] S128x1x128.size inb_S128x4x1408_S128x1x128_0_3_1280, P53⟩,
      ⟨Rect.unit (s := S128x4x1408) ![0, 2, 1280] S128x1x128.size inb_S128x4x1408_S128x1x128_0_2_1280, P52⟩,
      ⟨Rect.unit (s := S128x4x1408) ![0, 1, 1280] S128x1x128.size inb_S128x4x1408_S128x1x128_0_1_1280, P51⟩,
      ⟨Rect.unit (s := S128x4x1408) ![0, 0, 1280] S128x1x128.size inb_S128x4x1408_S128x1x128_0_0_1280, P50⟩,
      ⟨Rect.unit (s := S128x4x1408) ![0, 3, 1024] S128x1x256.size inb_S128x4x1408_S128x1x256_0_3_1024, P43⟩,
      ⟨Rect.unit (s := S128x4x1408) ![0, 2, 1024] S128x1x256.size inb_S128x4x1408_S128x1x256_0_2_1024, P42⟩,
      ⟨Rect.unit (s := S128x4x1408) ![0, 1, 1024] S128x1x256.size inb_S128x4x1408_S128x1x256_0_1_1024, P41⟩,
      ⟨Rect.unit (s := S128x4x1408) ![0, 0, 1024] S128x1x256.size inb_S128x4x1408_S128x1x256_0_0_1024, P40⟩,
      ⟨Rect.unit (s := S128x4x1408) ![0, 3, 768] S128x1x256.size inb_S128x4x1408_S128x1x256_0_3_768, P33⟩,
      ⟨Rect.unit (s := S128x4x1408) ![0, 2, 768] S128x1x256.size inb_S128x4x1408_S128x1x256_0_2_768, P32⟩,
      ⟨Rect.unit (s := S128x4x1408) ![0, 1, 768] S128x1x256.size inb_S128x4x1408_S128x1x256_0_1_768, P31⟩,
      ⟨Rect.unit (s := S128x4x1408) ![0, 0, 768] S128x1x256.size inb_S128x4x1408_S128x1x256_0_0_768, P30⟩,
      ⟨Rect.unit (s := S128x4x1408) ![0, 3, 512] S128x1x256.size inb_S128x4x1408_S128x1x256_0_3_512, P23⟩,
      ⟨Rect.unit (s := S128x4x1408) ![0, 2, 512] S128x1x256.size inb_S128x4x1408_S128x1x256_0_2_512, P22⟩,
      ⟨Rect.unit (s := S128x4x1408) ![0, 1, 512] S128x1x256.size inb_S128x4x1408_S128x1x256_0_1_512, P21⟩,
      ⟨Rect.unit (s := S128x4x1408) ![0, 0, 512] S128x1x256.size inb_S128x4x1408_S128x1x256_0_0_512, P20⟩,
      ⟨Rect.unit (s := S128x4x1408) ![0, 3, 256] S128x1x256.size inb_S128x4x1408_S128x1x256_0_3_256, P13⟩,
      ⟨Rect.unit (s := S128x4x1408) ![0, 2, 256] S128x1x256.size inb_S128x4x1408_S128x1x256_0_2_256, P12⟩,
      ⟨Rect.unit (s := S128x4x1408) ![0, 1, 256] S128x1x256.size inb_S128x4x1408_S128x1x256_0_1_256, P11⟩,
      ⟨Rect.unit (s := S128x4x1408) ![0, 0, 256] S128x1x256.size inb_S128x4x1408_S128x1x256_0_0_256, P10⟩,
      ⟨Rect.unit (s := S128x4x1408) ![0, 3, 0] S128x1x256.size inb_S128x4x1408_S128x1x256_0_3_0, P03⟩,
      ⟨Rect.unit (s := S128x4x1408) ![0, 2, 0] S128x1x256.size inb_S128x4x1408_S128x1x256_0_2_0, P02⟩,
      ⟨Rect.unit (s := S128x4x1408) ![0, 1, 0] S128x1x256.size inb_S128x4x1408_S128x1x256_0_1_0, P01⟩,
      ⟨Rect.unit (s := S128x4x1408) ![0, 0, 0] S128x1x256.size inb_S128x4x1408_S128x1x256_0_0_0, P00⟩]) :
    arg9.view.read (Elt F) f = mix (arg4.view.read (Elt F) X) wd (delta v20 (hcM.view.read (Elt F) CC) (hsM.view.read (Elt F) CS) e) (arg9.view.read (Elt F) f9) := by
  subst hf
  funext y
  have a53 : ∀ x, P53 x = mix (arg4.view.read (Elt F) X) wd (delta v20 (hcM.view.read (Elt F) CC) (hsM.view.read (Elt F) CS) e) (arg9.view.read (Elt F) f9)
      ((Rect.unit (s := S128x4x1408) ![0, 3, 1280] S128x1x128.size inb_S128x4x1408_S128x1x128_0_3_1280).emb x) := fun x => by
    rw [hP53]; exact hitL c arg4 arg9 v20 _ _ e wd X f9 3 inb_S128x4x1408_S128x1x128_0_3_1280 inb_S128x4_S128x1_0_3 _ hR5 x
  have a52 : ∀ x, P52 x = mix (arg4.view.read (Elt F) X) wd (delta v20 (hcM.view.read (Elt F) CC) (hsM.view.read (Elt F) CS) e) (arg9.view.read (Elt F) f9)
      ((Rect.unit (s := S128x4x1408) ![0, 2, 1280] S128x1x128.size inb_S128x4x1408_S128x1x128_0_2_1280).emb x) := fun x => by
    rw [hP52]; exact hitL c arg4 arg9 v20 _ _ e wd X f9 2 inb_S128x4x1408_S128x1x128_0_2_1280 inb_S128x4_S128x1_0_2 _ hR5 x
  have a51 : ∀ x, P51 x = mix (arg4.view.read (Elt F) X) wd (delta v20 (hcM.view.read (Elt F) CC) (hsM.view.read (Elt F) CS) e) (arg9.view.read (Elt F) f9)
      ((Rect.unit (s := S128x4x1408) ![0, 1, 1280] S128x1x128.size inb_S128x4x1408_S128x1x128_0_1_1280).emb x) := fun x => by
    rw [hP51]; exact hitL c arg4 arg9 v20 _ _ e wd X f9 1 inb_S128x4x1408_S128x1x128_0_1_1280 inb_S128x4_S128x1_0_1 _ hR5 x
  have a50 : ∀ x, P50 x = mix (arg4.view.read (Elt F) X) wd (delta v20 (hcM.view.read (Elt F) CC) (hsM.view.read (Elt F) CS) e) (arg9.view.read (Elt F) f9)
      ((Rect.unit (s := S128x4x1408) ![0, 0, 1280] S128x1x128.size inb_S128x4x1408_S128x1x128_0_0_1280).emb x) := fun x => by
    rw [hP50]; exact hitL c arg4 arg9 v20 _ _ e wd X f9 0 inb_S128x4x1408_S128x1x128_0_0_1280 inb_S128x4_S128x1_0_0 _ hR5 x
  have a43 : ∀ x, P43 x = mix (arg4.view.read (Elt F) X) wd (delta v20 (hcM.view.read (Elt F) CC) (hsM.view.read (Elt F) CS) e) (arg9.view.read (Elt F) f9)
      ((Rect.unit (s := S128x4x1408) ![0, 3, 1024] S128x1x256.size inb_S128x4x1408_S128x1x256_0_3_1024).emb x) := fun x => by
    rw [hP43]; exact hitT c arg4 arg9 v20 _ _ e wd X f9 3 4 (by decide) inb_S128x4x1408_S128x1x256_0_3_1024 inb_S128x4_S128x1_0_3 _ hR4 x
  have a42 : ∀ x, P42 x = mix (arg4.view.read (Elt F) X) wd (delta v20 (hcM.view.read (Elt F) CC) (hsM.view.read (Elt F) CS) e) (arg9.view.read (Elt F) f9)
      ((Rect.unit (s := S128x4x1408) ![0, 2, 1024] S128x1x256.size inb_S128x4x1408_S128x1x256_0_2_1024).emb x) := fun x => by
    rw [hP42]; exact hitT c arg4 arg9 v20 _ _ e wd X f9 2 4 (by decide) inb_S128x4x1408_S128x1x256_0_2_1024 inb_S128x4_S128x1_0_2 _ hR4 x
  have a41 : ∀ x, P41 x = mix (arg4.view.read (Elt F) X) wd (delta v20 (hcM.view.read (Elt F) CC) (hsM.view.read (Elt F) CS) e) (arg9.view.read (Elt F) f9)
      ((Rect.unit (s := S128x4x1408) ![0, 1, 1024] S128x1x256.size inb_S128x4x1408_S128x1x256_0_1_1024).emb x) := fun x => by
    rw [hP41]; exact hitT c arg4 arg9 v20 _ _ e wd X f9 1 4 (by decide) inb_S128x4x1408_S128x1x256_0_1_1024 inb_S128x4_S128x1_0_1 _ hR4 x
  have a40 : ∀ x, P40 x = mix (arg4.view.read (Elt F) X) wd (delta v20 (hcM.view.read (Elt F) CC) (hsM.view.read (Elt F) CS) e) (arg9.view.read (Elt F) f9)
      ((Rect.unit (s := S128x4x1408) ![0, 0, 1024] S128x1x256.size inb_S128x4x1408_S128x1x256_0_0_1024).emb x) := fun x => by
    rw [hP40]; exact hitT c arg4 arg9 v20 _ _ e wd X f9 0 4 (by decide) inb_S128x4x1408_S128x1x256_0_0_1024 inb_S128x4_S128x1_0_0 _ hR4 x
  have a33 : ∀ x, P33 x = mix (arg4.view.read (Elt F) X) wd (delta v20 (hcM.view.read (Elt F) CC) (hsM.view.read (Elt F) CS) e) (arg9.view.read (Elt F) f9)
      ((Rect.unit (s := S128x4x1408) ![0, 3, 768] S128x1x256.size inb_S128x4x1408_S128x1x256_0_3_768).emb x) := fun x => by
    rw [hP33]; exact hitT c arg4 arg9 v20 _ _ e wd X f9 3 3 (by decide) inb_S128x4x1408_S128x1x256_0_3_768 inb_S128x4_S128x1_0_3 _ hR3 x
  have a32 : ∀ x, P32 x = mix (arg4.view.read (Elt F) X) wd (delta v20 (hcM.view.read (Elt F) CC) (hsM.view.read (Elt F) CS) e) (arg9.view.read (Elt F) f9)
      ((Rect.unit (s := S128x4x1408) ![0, 2, 768] S128x1x256.size inb_S128x4x1408_S128x1x256_0_2_768).emb x) := fun x => by
    rw [hP32]; exact hitT c arg4 arg9 v20 _ _ e wd X f9 2 3 (by decide) inb_S128x4x1408_S128x1x256_0_2_768 inb_S128x4_S128x1_0_2 _ hR3 x
  have a31 : ∀ x, P31 x = mix (arg4.view.read (Elt F) X) wd (delta v20 (hcM.view.read (Elt F) CC) (hsM.view.read (Elt F) CS) e) (arg9.view.read (Elt F) f9)
      ((Rect.unit (s := S128x4x1408) ![0, 1, 768] S128x1x256.size inb_S128x4x1408_S128x1x256_0_1_768).emb x) := fun x => by
    rw [hP31]; exact hitT c arg4 arg9 v20 _ _ e wd X f9 1 3 (by decide) inb_S128x4x1408_S128x1x256_0_1_768 inb_S128x4_S128x1_0_1 _ hR3 x
  have a30 : ∀ x, P30 x = mix (arg4.view.read (Elt F) X) wd (delta v20 (hcM.view.read (Elt F) CC) (hsM.view.read (Elt F) CS) e) (arg9.view.read (Elt F) f9)
      ((Rect.unit (s := S128x4x1408) ![0, 0, 768] S128x1x256.size inb_S128x4x1408_S128x1x256_0_0_768).emb x) := fun x => by
    rw [hP30]; exact hitT c arg4 arg9 v20 _ _ e wd X f9 0 3 (by decide) inb_S128x4x1408_S128x1x256_0_0_768 inb_S128x4_S128x1_0_0 _ hR3 x
  have a23 : ∀ x, P23 x = mix (arg4.view.read (Elt F) X) wd (delta v20 (hcM.view.read (Elt F) CC) (hsM.view.read (Elt F) CS) e) (arg9.view.read (Elt F) f9)
      ((Rect.unit (s := S128x4x1408) ![0, 3, 512] S128x1x256.size inb_S128x4x1408_S128x1x256_0_3_512).emb x) := fun x => by
    rw [hP23]; exact hitT c arg4 arg9 v20 _ _ e wd X f9 3 2 (by decide) inb_S128x4x1408_S128x1x256_0_3_512 inb_S128x4_S128x1_0_3 _ hR2 x
  have a22 : ∀ x, P22 x = mix (arg4.view.read (Elt F) X) wd (delta v20 (hcM.view.read (Elt F) CC) (hsM.view.read (Elt F) CS) e) (arg9.view.read (Elt F) f9)
      ((Rect.unit (s := S128x4x1408) ![0, 2, 512] S128x1x256.size inb_S128x4x1408_S128x1x256_0_2_512).emb x) := fun x => by
    rw [hP22]; exact hitT c arg4 arg9 v20 _ _ e wd X f9 2 2 (by decide) inb_S128x4x1408_S128x1x256_0_2_512 inb_S128x4_S128x1_0_2 _ hR2 x
  have a21 : ∀ x, P21 x = mix (arg4.view.read (Elt F) X) wd (delta v20 (hcM.view.read (Elt F) CC) (hsM.view.read (Elt F) CS) e) (arg9.view.read (Elt F) f9)
      ((Rect.unit (s := S128x4x1408) ![0, 1, 512] S128x1x256.size inb_S128x4x1408_S128x1x256_0_1_512).emb x) := fun x => by
    rw [hP21]; exact hitT c arg4 arg9 v20 _ _ e wd X f9 1 2 (by decide) inb_S128x4x1408_S128x1x256_0_1_512 inb_S128x4_S128x1_0_1 _ hR2 x
  have a20 : ∀ x, P20 x = mix (arg4.view.read (Elt F) X) wd (delta v20 (hcM.view.read (Elt F) CC) (hsM.view.read (Elt F) CS) e) (arg9.view.read (Elt F) f9)
      ((Rect.unit (s := S128x4x1408) ![0, 0, 512] S128x1x256.size inb_S128x4x1408_S128x1x256_0_0_512).emb x) := fun x => by
    rw [hP20]; exact hitT c arg4 arg9 v20 _ _ e wd X f9 0 2 (by decide) inb_S128x4x1408_S128x1x256_0_0_512 inb_S128x4_S128x1_0_0 _ hR2 x
  have a13 : ∀ x, P13 x = mix (arg4.view.read (Elt F) X) wd (delta v20 (hcM.view.read (Elt F) CC) (hsM.view.read (Elt F) CS) e) (arg9.view.read (Elt F) f9)
      ((Rect.unit (s := S128x4x1408) ![0, 3, 256] S128x1x256.size inb_S128x4x1408_S128x1x256_0_3_256).emb x) := fun x => by
    rw [hP13]; exact hitT c arg4 arg9 v20 _ _ e wd X f9 3 1 (by decide) inb_S128x4x1408_S128x1x256_0_3_256 inb_S128x4_S128x1_0_3 _ hR1 x
  have a12 : ∀ x, P12 x = mix (arg4.view.read (Elt F) X) wd (delta v20 (hcM.view.read (Elt F) CC) (hsM.view.read (Elt F) CS) e) (arg9.view.read (Elt F) f9)
      ((Rect.unit (s := S128x4x1408) ![0, 2, 256] S128x1x256.size inb_S128x4x1408_S128x1x256_0_2_256).emb x) := fun x => by
    rw [hP12]; exact hitT c arg4 arg9 v20 _ _ e wd X f9 2 1 (by decide) inb_S128x4x1408_S128x1x256_0_2_256 inb_S128x4_S128x1_0_2 _ hR1 x
  have a11 : ∀ x, P11 x = mix (arg4.view.read (Elt F) X) wd (delta v20 (hcM.view.read (Elt F) CC) (hsM.view.read (Elt F) CS) e) (arg9.view.read (Elt F) f9)
      ((Rect.unit (s := S128x4x1408) ![0, 1, 256] S128x1x256.size inb_S128x4x1408_S128x1x256_0_1_256).emb x) := fun x => by
    rw [hP11]; exact hitT c arg4 arg9 v20 _ _ e wd X f9 1 1 (by decide) inb_S128x4x1408_S128x1x256_0_1_256 inb_S128x4_S128x1_0_1 _ hR1 x
  have a10 : ∀ x, P10 x = mix (arg4.view.read (Elt F) X) wd (delta v20 (hcM.view.read (Elt F) CC) (hsM.view.read (Elt F) CS) e) (arg9.view.read (Elt F) f9)
      ((Rect.unit (s := S128x4x1408) ![0, 0, 256] S128x1x256.size inb_S128x4x1408_S128x1x256_0_0_256).emb x) := fun x => by
    rw [hP10]; exact hitT c arg4 arg9 v20 _ _ e wd X f9 0 1 (by decide) inb_S128x4x1408_S128x1x256_0_0_256 inb_S128x4_S128x1_0_0 _ hR1 x
  have a03 : ∀ x, P03 x = mix (arg4.view.read (Elt F) X) wd (delta v20 (hcM.view.read (Elt F) CC) (hsM.view.read (Elt F) CS) e) (arg9.view.read (Elt F) f9)
      ((Rect.unit (s := S128x4x1408) ![0, 3, 0] S128x1x256.size inb_S128x4x1408_S128x1x256_0_3_0).emb x) := fun x => by
    rw [hP03]; exact hitT c arg4 arg9 v20 _ _ e wd X f9 3 0 (by decide) inb_S128x4x1408_S128x1x256_0_3_0 inb_S128x4_S128x1_0_3 _ hR0 x
  have a02 : ∀ x, P02 x = mix (arg4.view.read (Elt F) X) wd (delta v20 (hcM.view.read (Elt F) CC) (hsM.view.read (Elt F) CS) e) (arg9.view.read (Elt F) f9)
      ((Rect.unit (s := S128x4x1408) ![0, 2, 0] S128x1x256.size inb_S128x4x1408_S128x1x256_0_2_0).emb x) := fun x => by
    rw [hP02]; exact hitT c arg4 arg9 v20 _ _ e wd X f9 2 0 (by decide) inb_S128x4x1408_S128x1x256_0_2_0 inb_S128x4_S128x1_0_2 _ hR0 x
  have a01 : ∀ x, P01 x = mix (arg4.view.read (Elt F) X) wd (delta v20 (hcM.view.read (Elt F) CC) (hsM.view.read (Elt F) CS) e) (arg9.view.read (Elt F) f9)
      ((Rect.unit (s := S128x4x1408) ![0, 1, 0] S128x1x256.size inb_S128x4x1408_S128x1x256_0_1_0).emb x) := fun x => by
    rw [hP01]; exact hitT c arg4 arg9 v20 _ _ e wd X f9 1 0 (by decide) inb_S128x4x1408_S128x1x256_0_1_0 inb_S128x4_S128x1_0_1 _ hR0 x
  have a00 : ∀ x, P00 x = mix (arg4.view.read (Elt F) X) wd (delta v20 (hcM.view.read (Elt F) CC) (hsM.view.read (Elt F) CS) e) (arg9.view.read (Elt F) f9)
      ((Rect.unit (s := S128x4x1408) ![0, 0, 0] S128x1x256.size inb_S128x4x1408_S128x1x256_0_0_0).emb x) := fun x => by
    rw [hP00]; exact hitT c arg4 arg9 v20 _ _ e wd X f9 0 0 (by decide) inb_S128x4x1408_S128x1x256_0_0_0 inb_S128x4_S128x1_0_0 _ hR0 x
  clear hP53 hP52 hP51 hP50 hP43 hP42 hP41 hP40 hP33 hP32 hP31 hP30 hP23 hP22 hP21 hP20 hP13 hP12 hP11 hP10 hP03 hP02 hP01 hP00 hR0 hR1 hR2 hR3 hR4 hR5
  generalize mix (arg4.view.read (Elt F) X) wd (delta v20 (hcM.view.read (Elt F) CC) (hsM.view.read (Elt F) CS) e) (arg9.view.read (Elt F) f9) = G at *
  refine View.read_writes_apply_of_pieces _ _ _ _ ?_ y (cover_pd _ ?_ ?_ y)
  · exact List.forall_mem_cons.mpr ⟨a53, List.forall_mem_cons.mpr ⟨a52, List.forall_mem_cons.mpr ⟨a51, List.forall_mem_cons.mpr ⟨a50, List.forall_mem_cons.mpr ⟨a43, List.forall_mem_cons.mpr ⟨a42, List.forall_mem_cons.mpr ⟨a41, List.forall_mem_cons.mpr ⟨a40, List.forall_mem_cons.mpr ⟨a33, List.forall_mem_cons.mpr ⟨a32, List.forall_mem_cons.mpr ⟨a31, List.forall_mem_cons.mpr ⟨a30, List.forall_mem_cons.mpr ⟨a23, List.forall_mem_cons.mpr ⟨a22, List.forall_mem_cons.mpr ⟨a21, List.forall_mem_cons.mpr ⟨a20, List.forall_mem_cons.mpr ⟨a13, List.forall_mem_cons.mpr ⟨a12, List.forall_mem_cons.mpr ⟨a11, List.forall_mem_cons.mpr ⟨a10, List.forall_mem_cons.mpr ⟨a03, List.forall_mem_cons.mpr ⟨a02, List.forall_mem_cons.mpr ⟨a01, List.forall_mem_cons.mpr ⟨a00, fun _ h => by cases h⟩⟩⟩⟩⟩⟩⟩⟩⟩⟩⟩⟩⟩⟩⟩⟩⟩⟩⟩⟩⟩⟩⟩⟩
  · intro k m hk hm
    interval_cases m <;> interval_cases k
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), inb_S128x4x1408_S128x1x256_0_0_0, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), inb_S128x4x1408_S128x1x256_0_1_0, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), inb_S128x4x1408_S128x1x256_0_2_0, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), inb_S128x4x1408_S128x1x256_0_3_0, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), inb_S128x4x1408_S128x1x256_0_0_256, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), inb_S128x4x1408_S128x1x256_0_1_256, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), inb_S128x4x1408_S128x1x256_0_2_256, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), inb_S128x4x1408_S128x1x256_0_3_256, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), inb_S128x4x1408_S128x1x256_0_0_512, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), inb_S128x4x1408_S128x1x256_0_1_512, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), inb_S128x4x1408_S128x1x256_0_2_512, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), inb_S128x4x1408_S128x1x256_0_3_512, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), inb_S128x4x1408_S128x1x256_0_0_768, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), inb_S128x4x1408_S128x1x256_0_1_768, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), inb_S128x4x1408_S128x1x256_0_2_768, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), inb_S128x4x1408_S128x1x256_0_3_768, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S128x4x1408_S128x1x256_0_0_1024, rfl⟩
    · exact ⟨_, List.mem_cons_of_mem _ (List.mem_cons_of_mem _ (List.mem_cons_of_mem _ (List.mem_cons_of_mem _ (List.mem_cons_of_mem _ (List.mem_cons_of_mem _ (List.mem_cons_self)))))), inb_S128x4x1408_S128x1x256_0_1_1024, rfl⟩
    · exact ⟨_, List.mem_cons_of_mem _ (List.mem_cons_of_mem _ (List.mem_cons_of_mem _ (List.mem_cons_of_mem _ (List.mem_cons_of_mem _ (List.mem_cons_self))))), inb_S128x4x1408_S128x1x256_0_2_1024, rfl⟩
    · exact ⟨_, List.mem_cons_of_mem _ (List.mem_cons_of_mem _ (List.mem_cons_of_mem _ (List.mem_cons_of_mem _ (List.mem_cons_self)))), inb_S128x4x1408_S128x1x256_0_3_1024, rfl⟩
  · intro k hk
    interval_cases k
    · exact ⟨_, List.mem_cons_of_mem _ (List.mem_cons_of_mem _ (List.mem_cons_of_mem _ (List.mem_cons_self))), inb_S128x4x1408_S128x1x128_0_0_1280, rfl⟩
    · exact ⟨_, List.mem_cons_of_mem _ (List.mem_cons_of_mem _ (List.mem_cons_self)), inb_S128x4x1408_S128x1x128_0_1_1280, rfl⟩
    · exact ⟨_, List.mem_cons_of_mem _ (List.mem_cons_self), inb_S128x4x1408_S128x1x128_0_2_1280, rfl⟩
    · exact ⟨_, List.mem_cons_self, inb_S128x4x1408_S128x1x128_0_3_1280, rfl⟩

theorem off25_val (v3 : BitVec 32) (h : v3.toNat ≤ 60) (t : Fin (k0_t4_loop v3).trips) : k0_off25 v3 t 0 = t.val := by
  have := Nat.lt_of_lt_of_eq t.isLt (t4_trips v3 h)
  show (Scalar.addi 0#32 (Scalar.muli (Scf.iv 0#32 1#32 t.val) 1#32)).toNat = _
  rw [iv_eq, BitVec.toNat_ofNat]; omega
theorem off18_val (v3 : BitVec 32) (h : v3.toNat ≤ 60) (t : Fin (k0_t4_loop v3).trips) : k0_off18 v3 t 0 = t.val + 1 := by
  have := Nat.lt_of_lt_of_eq t.isLt (t4_trips v3 h)
  show (Scalar.addi (Scalar.addi 0#32 (Scalar.muli (Scf.iv 0#32 1#32 t.val) 1#32)) 1#32).toNat = _
  rw [iv_eq, show Scalar.addi (BitVec.ofNat 32 t.val) 1#32 = BitVec.ofNat 32 (t.val + 1) from (BitVec.ofNat_add ..).symm, BitVec.toNat_ofNat]; omega

set_option maxHeartbeats 2000000 in
/-- A trip that another follows. -/
theorem trip_issue
    (CC : Buf (Elt F) (hcM.view.loc (c : Thread nD τ))) (CS : Buf (Elt F) (hsM.view.loc (c : Thread nD τ))) (v3 : BitVec 32) (h3 : v3.toNat ≤ 60) (h7 : k0_chk7 v3)
    (X : Buf (Elt F) (arg4.view.loc (c : Thread nD τ))) (f9 : Buf (Elt F) (arg9.view.loc (c : Thread nD τ))) (v20 : Vec F S128x2048 .bf16)
    (l : Buf (Elt F) (liveM.view.loc (c : Thread nD τ))) (t : Fin (k0_t4_loop v3).trips) (ht : t.val + 1 < 61)
    (h0 : (liveM.view.read (Elt F) l (ix1 ⟨t.val, by omega⟩)).toNat < 60)
    (h0' : (liveM.view.read (Elt F) l (ix1 ⟨t.val + 1, ht⟩)).toNat < 60) (h1 : k0_cond1 v3 t = 1#1) (W : Waits sig Unit) (Q : Unit → sProp 𝕄) :
    iprop(liveP c l ∗ Infl c CC CS (cur v3 h3 t) ⟨_, h0⟩ ∗ Free c CC CS (nxt v3 h3 t) ∗ (arg4.view.loc (c : Thread nD τ) ↦[arg4.view.set]{fullShare} X)
      ∗ (arg9.view.loc (c : Thread nD τ) ↦[arg9.view.set]{fullShare} f9) ∗ owes (c : Thread nD τ) 0 W
      ∗ (iprop(liveP c l ∗ Free c CC CS (cur v3 h3 t) ∗ Infl c CC CS (nxt v3 h3 t) ⟨_, h0'⟩ ∗ (arg4.view.loc (c : Thread nD τ) ↦[arg4.view.set]{fullShare} X)
        ∗ (∃ f, (arg9.view.loc (c : Thread nD τ) ↦[arg9.view.set]{fullShare} f) ∗ ⌜arg9.view.read (Elt F) f
            = mix (arg4.view.read (Elt F) X) (liveM.view.read (Elt F) l (ix1 ⟨t.val, by omega⟩))
                (delta v20 (hcM.view.read (Elt F) CC) (hsM.view.read (Elt F) CS) ⟨_, h0⟩) (arg9.view.read (Elt F) f9)⌝)
        ∗ ∃ W, owes (c : Thread nD τ) 0 W) -∗ Q ()))
      ⊢ wp frame (wpE defs₀ Variants.none (c : Thread nD τ) none) Set.univ (k0_t4_body arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v3 h7 v20 t ()) Q := by
  iintro ⟨H0, ⟨⟨%g1, I1⟩, I2, ⟨%g2, I3⟩, I4⟩, ⟨F1, F2, ⟨%g3, F3⟩, ⟨%g4, F4⟩, F5, F6⟩, H4, H9, HO, HQ⟩
  have i33 : cbM.view.setOn (Rect.unit (s := S2x1024x1408) (k0_off33 v3 t) S1x1024x256.size (k0_off33_inb v3 h7 t)).toLoadRect.set ⊆ (slC (cur v3 h3 t)).view.set := tileC_sub _ _ (by decide) rfl rfl
  have i34 : sbM.view.setOn (Rect.unit (s := S2x32x1408) (k0_off34 v3 t) S1x32x256.size (k0_off34_inb v3 h7 t)).toLoadRect.set ⊆ (slS (cur v3 h3 t)).view.set := tileS_sub _ _ (by decide) rfl rfl
  have i35 : cbM.view.setOn (Rect.unit (s := S2x1024x1408) (k0_off35 v3 t) S1x1024x256.size (k0_off35_inb v3 h7 t)).toLoadRect.set ⊆ (slC (cur v3 h3 t)).view.set := tileC_sub _ _ (by decide) rfl rfl
  have i36 : sbM.view.setOn (Rect.unit (s := S2x32x1408) (k0_off36 v3 t) S1x32x256.size (k0_off36_inb v3 h7 t)).toLoadRect.set ⊆ (slS (cur v3 h3 t)).view.set := tileS_sub _ _ (by decide) rfl rfl
  have i37 : cbM.view.setOn (Rect.unit (s := S2x1024x1408) (k0_off37 v3 t) S1x1024x256.size (k0_off37_inb v3 h7 t)).toLoadRect.set ⊆ (slC (cur v3 h3 t)).view.set := tileC_sub _ _ (by decide) rfl rfl
  have i38 : sbM.view.setOn (Rect.unit (s := S2x32x1408) (k0_off38 v3 t) S1x32x256.size (k0_off38_inb v3 h7 t)).toLoadRect.set ⊆ (slS (cur v3 h3 t)).view.set := tileS_sub _ _ (by decide) rfl rfl
  have i39 : cbM.view.setOn (Rect.unit (s := S2x1024x1408) (k0_off39 v3 t) S1x1024x256.size (k0_off39_inb v3 h7 t)).toLoadRect.set ⊆ (slC (cur v3 h3 t)).view.set := tileC_sub _ _ (by decide) rfl rfl
  have i40 : sbM.view.setOn (Rect.unit (s := S2x32x1408) (k0_off40 v3 t) S1x32x256.size (k0_off40_inb v3 h7 t)).toLoadRect.set ⊆ (slS (cur v3 h3 t)).view.set := tileS_sub _ _ (by decide) rfl rfl
  have i41 : cbM.view.setOn (Rect.unit (s := S2x1024x1408) (k0_off41 v3 t) S1x1024x256.size (k0_off41_inb v3 h7 t)).toLoadRect.set ⊆ (slC (cur v3 h3 t)).view.set := tileC_sub _ _ (by decide) rfl rfl
  have i42 : sbM.view.setOn (Rect.unit (s := S2x32x1408) (k0_off42 v3 t) S1x32x256.size (k0_off42_inb v3 h7 t)).toLoadRect.set ⊆ (slS (cur v3 h3 t)).view.set := tileS_sub _ _ (by decide) rfl rfl
  have i43 : cbM.view.setOn (Rect.unit (s := S2x1024x1408) (k0_off43 v3 t) S1x1024x128.size (k0_off43_inb v3 h7 t)).toLoadRect.set ⊆ (slC (cur v3 h3 t)).view.set := tileC_sub _ _ (by decide) rfl rfl
  have i44 : sbM.view.setOn (Rect.unit (s := S2x32x1408) (k0_off44 v3 t) S1x32x128.size (k0_off44_inb v3 h7 t)).toLoadRect.set ⊆ (slS (cur v3 h3 t)).view.set := tileS_sub _ _ (by decide) rfl rfl
  have o25 : k0_off25 v3 t 0 = t.val := off25_val v3 h3 t
  have o32 : k0_off32 v3 t 0 = t.val := off25_val v3 h3 t
  have w25 : ∀ i, (liveM.view.readAt (Elt F) (Rect.unit (s := S61) (k0_off25 v3 t) S1.size (k0_off25_inb v3 h7 t)).toLoadRect l i).toNat < 60 := fun i => by
    rw [live_word c l (k0_off25_inb v3 h7 t) t.val (by omega) o25]; exact h0
  have o18 : k0_off18 v3 t 0 = t.val + 1 := off18_val v3 h3 t
  have e18 : ∀ i, liveM.view.readAt (Elt F) (Rect.unit (s := S61) (k0_off18 v3 t) S1.size (k0_off18_inb v3 h7 t h1)).toLoadRect l i = liveM.view.read (Elt F) l (ix1 ⟨t.val + 1, ht⟩) :=
    live_word c l (k0_off18_inb v3 h7 t h1) (t.val + 1) ht o18
  have w18 : ∀ i, (liveM.view.readAt (Elt F) (Rect.unit (s := S61) (k0_off18 v3 t) S1.size (k0_off18_inb v3 h7 t h1)).toLoadRect l i).toNat < 60 := fun i => by
    rw [e18]; exact h0'
  unfold k0_t4_body
  sl_exec (disch := first | exact chk8_of _ _ _ (w18 _) | exact chk9_of _ (w25 _))
  sl_step
  iapply HQ
  isplitl [H0]; · iexact H0
  isplitl [I1 I3 I1_dst I3_dst I2 I4]
  · isplitl [I1]; · iexact I1
    isplitl [I3]; · iexact I3
    isplitl [I1_dst]; · iexists _; iexact I1_dst
    isplitl [I3_dst]; · iexists _; iexact I3_dst
    isplitl [I2]; · iexact I2
    iexact I4
  isplitl [F1 F2 F5 F6]
  · have he : (⟨_, h0'⟩ : Fin 60) = ⟨_, w18 (Shape.Idx.first (numel1_S1.symm ▸ Nat.one_pos))⟩ := Fin.ext (congrArg BitVec.toNat (e18 _).symm)
    rw [he]
    isplitl [F1]; · iexists _; iexact F1
    isplitl [F5]; · iexact F5
    isplitl [F2]; · iexists _; iexact F2
    iexact F6
  isplitl [H4]; · iexact H4
  isplitl [H9]
  · iexists _
    isplitl [H9]; · iexact H9
    ipureintro
    have ew := live_word c l (k0_off32_inb v3 h7 t) t.val (by omega) o32 (Shape.Idx.first (numel1_S1.symm ▸ Nat.one_pos))
    refine Eq.trans ?_ (congrArg (fun w => mix (arg4.view.read (Elt F) X) w (delta v20 (hcM.view.read (Elt F) CC) (hsM.view.read (Elt F) CS) ⟨_, h0⟩) (arg9.view.read (Elt F) f9)) ew)
    exact trip_pd c arg4 arg9 ⟨_, h0⟩ v20 CC CS X f9 _ _ _ _ _ _ _
      (loadT c v20 CC CS (cur v3 h3 t) ⟨_, h0⟩ _ _ 0 (by decide) (k0_off33_inb v3 h7 t) rfl rfl rfl (k0_off34_inb v3 h7 t) rfl rfl rfl)
      (loadT c v20 CC CS (cur v3 h3 t) ⟨_, h0⟩ _ _ 1 (by decide) (k0_off35_inb v3 h7 t) rfl rfl rfl (k0_off36_inb v3 h7 t) rfl rfl rfl)
      (loadT c v20 CC CS (cur v3 h3 t) ⟨_, h0⟩ _ _ 2 (by decide) (k0_off37_inb v3 h7 t) rfl rfl rfl (k0_off38_inb v3 h7 t) rfl rfl rfl)
      (loadT c v20 CC CS (cur v3 h3 t) ⟨_, h0⟩ _ _ 3 (by decide) (k0_off39_inb v3 h7 t) rfl rfl rfl (k0_off40_inb v3 h7 t) rfl rfl rfl)
      (loadT c v20 CC CS (cur v3 h3 t) ⟨_, h0⟩ _ _ 4 (by decide) (k0_off41_inb v3 h7 t) rfl rfl rfl (k0_off42_inb v3 h7 t) rfl rfl rfl)
      (loadL c v20 CC CS (cur v3 h3 t) ⟨_, h0⟩ _ _ (k0_off43_inb v3 h7 t) rfl rfl rfl (k0_off44_inb v3 h7 t) rfl rfl rfl)
      _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl
  iexists _; iexact HO

set_option maxHeartbeats 2000000 in
/-- A trip no other follows. -/
theorem trip_last
    (CC : Buf (Elt F) (hcM.view.loc (c : Thread nD τ))) (CS : Buf (Elt F) (hsM.view.loc (c : Thread nD τ))) (v3 : BitVec 32) (h3 : v3.toNat ≤ 60) (h7 : k0_chk7 v3)
    (X : Buf (Elt F) (arg4.view.loc (c : Thread nD τ))) (f9 : Buf (Elt F) (arg9.view.loc (c : Thread nD τ))) (v20 : Vec F S128x2048 .bf16)
    (l : Buf (Elt F) (liveM.view.loc (c : Thread nD τ))) (t : Fin (k0_t4_loop v3).trips) (ht : t.val + 1 < 61)
    (h0 : (liveM.view.read (Elt F) l (ix1 ⟨t.val, by omega⟩)).toNat < 60)
     (h1 : ¬ k0_cond1 v3 t = 1#1) (W : Waits sig Unit) (Q : Unit → sProp 𝕄) :
    iprop(liveP c l ∗ Infl c CC CS (cur v3 h3 t) ⟨_, h0⟩ ∗ Free c CC CS (nxt v3 h3 t) ∗ (arg4.view.loc (c : Thread nD τ) ↦[arg4.view.set]{fullShare} X)
      ∗ (arg9.view.loc (c : Thread nD τ) ↦[arg9.view.set]{fullShare} f9) ∗ owes (c : Thread nD τ) 0 W
      ∗ (iprop(liveP c l ∗ Free c CC CS (cur v3 h3 t) ∗ Free c CC CS (nxt v3 h3 t) ∗ (arg4.view.loc (c : Thread nD τ) ↦[arg4.view.set]{fullShare} X)
        ∗ (∃ f, (arg9.view.loc (c : Thread nD τ) ↦[arg9.view.set]{fullShare} f) ∗ ⌜arg9.view.read (Elt F) f
            = mix (arg4.view.read (Elt F) X) (liveM.view.read (Elt F) l (ix1 ⟨t.val, by omega⟩))
                (delta v20 (hcM.view.read (Elt F) CC) (hsM.view.read (Elt F) CS) ⟨_, h0⟩) (arg9.view.read (Elt F) f9)⌝)
        ∗ ∃ W, owes (c : Thread nD τ) 0 W) -∗ Q ()))
      ⊢ wp frame (wpE defs₀ Variants.none (c : Thread nD τ) none) Set.univ (k0_t4_body arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v3 h7 v20 t ()) Q := by
  iintro ⟨H0, ⟨⟨%g1, I1⟩, I2, ⟨%g2, I3⟩, I4⟩, ⟨F1, F2, ⟨%g3, F3⟩, ⟨%g4, F4⟩, F5, F6⟩, H4, H9, HO, HQ⟩
  have i33 : cbM.view.setOn (Rect.unit (s := S2x1024x1408) (k0_off33 v3 t) S1x1024x256.size (k0_off33_inb v3 h7 t)).toLoadRect.set ⊆ (slC (cur v3 h3 t)).view.set := tileC_sub _ _ (by decide) rfl rfl
  have i34 : sbM.view.setOn (Rect.unit (s := S2x32x1408) (k0_off34 v3 t) S1x32x256.size (k0_off34_inb v3 h7 t)).toLoadRect.set ⊆ (slS (cur v3 h3 t)).view.set := tileS_sub _ _ (by decide) rfl rfl
  have i35 : cbM.view.setOn (Rect.unit (s := S2x1024x1408) (k0_off35 v3 t) S1x1024x256.size (k0_off35_inb v3 h7 t)).toLoadRect.set ⊆ (slC (cur v3 h3 t)).view.set := tileC_sub _ _ (by decide) rfl rfl
  have i36 : sbM.view.setOn (Rect.unit (s := S2x32x1408) (k0_off36 v3 t) S1x32x256.size (k0_off36_inb v3 h7 t)).toLoadRect.set ⊆ (slS (cur v3 h3 t)).view.set := tileS_sub _ _ (by decide) rfl rfl
  have i37 : cbM.view.setOn (Rect.unit (s := S2x1024x1408) (k0_off37 v3 t) S1x1024x256.size (k0_off37_inb v3 h7 t)).toLoadRect.set ⊆ (slC (cur v3 h3 t)).view.set := tileC_sub _ _ (by decide) rfl rfl
  have i38 : sbM.view.setOn (Rect.unit (s := S2x32x1408) (k0_off38 v3 t) S1x32x256.size (k0_off38_inb v3 h7 t)).toLoadRect.set ⊆ (slS (cur v3 h3 t)).view.set := tileS_sub _ _ (by decide) rfl rfl
  have i39 : cbM.view.setOn (Rect.unit (s := S2x1024x1408) (k0_off39 v3 t) S1x1024x256.size (k0_off39_inb v3 h7 t)).toLoadRect.set ⊆ (slC (cur v3 h3 t)).view.set := tileC_sub _ _ (by decide) rfl rfl
  have i40 : sbM.view.setOn (Rect.unit (s := S2x32x1408) (k0_off40 v3 t) S1x32x256.size (k0_off40_inb v3 h7 t)).toLoadRect.set ⊆ (slS (cur v3 h3 t)).view.set := tileS_sub _ _ (by decide) rfl rfl
  have i41 : cbM.view.setOn (Rect.unit (s := S2x1024x1408) (k0_off41 v3 t) S1x1024x256.size (k0_off41_inb v3 h7 t)).toLoadRect.set ⊆ (slC (cur v3 h3 t)).view.set := tileC_sub _ _ (by decide) rfl rfl
  have i42 : sbM.view.setOn (Rect.unit (s := S2x32x1408) (k0_off42 v3 t) S1x32x256.size (k0_off42_inb v3 h7 t)).toLoadRect.set ⊆ (slS (cur v3 h3 t)).view.set := tileS_sub _ _ (by decide) rfl rfl
  have i43 : cbM.view.setOn (Rect.unit (s := S2x1024x1408) (k0_off43 v3 t) S1x1024x128.size (k0_off43_inb v3 h7 t)).toLoadRect.set ⊆ (slC (cur v3 h3 t)).view.set := tileC_sub _ _ (by decide) rfl rfl
  have i44 : sbM.view.setOn (Rect.unit (s := S2x32x1408) (k0_off44 v3 t) S1x32x128.size (k0_off44_inb v3 h7 t)).toLoadRect.set ⊆ (slS (cur v3 h3 t)).view.set := tileS_sub _ _ (by decide) rfl rfl
  have o25 : k0_off25 v3 t 0 = t.val := off25_val v3 h3 t
  have o32 : k0_off32 v3 t 0 = t.val := off25_val v3 h3 t
  have w25 : ∀ i, (liveM.view.readAt (Elt F) (Rect.unit (s := S61) (k0_off25 v3 t) S1.size (k0_off25_inb v3 h7 t)).toLoadRect l i).toNat < 60 := fun i => by
    rw [live_word c l (k0_off25_inb v3 h7 t) t.val (by omega) o25]; exact h0
  unfold k0_t4_body
  sl_exec (disch := first | exact chk8_of _ _ _ (w18 _) | exact chk9_of _ (w25 _))
  sl_step
  iapply HQ
  isplitl [H0]; · iexact H0
  isplitl [I1 I3 I1_dst I3_dst I2 I4]
  · isplitl [I1]; · iexact I1
    isplitl [I3]; · iexact I3
    isplitl [I1_dst]; · iexists _; iexact I1_dst
    isplitl [I3_dst]; · iexists _; iexact I3_dst
    isplitl [I2]; · iexact I2
    iexact I4
  isplitl [F1 F2 F3 F4 F5 F6]
  · isplitl [F1]; · iexact F1
    isplitl [F2]; · iexact F2
    isplitl [F3]; · iexists _; iexact F3
    isplitl [F4]; · iexists _; iexact F4
    isplitl [F5]; · iexact F5
    iexact F6
  isplitl [H4]; · iexact H4
  isplitl [H9]
  · iexists _
    isplitl [H9]; · iexact H9
    ipureintro
    have ew := live_word c l (k0_off32_inb v3 h7 t) t.val (by omega) o32 (Shape.Idx.first (numel1_S1.symm ▸ Nat.one_pos))
    refine Eq.trans ?_ (congrArg (fun w => mix (arg4.view.read (Elt F) X) w (delta v20 (hcM.view.read (Elt F) CC) (hsM.view.read (Elt F) CS) ⟨_, h0⟩) (arg9.view.read (Elt F) f9)) ew)
    exact trip_pd c arg4 arg9 ⟨_, h0⟩ v20 CC CS X f9 _ _ _ _ _ _ _
      (loadT c v20 CC CS (cur v3 h3 t) ⟨_, h0⟩ _ _ 0 (by decide) (k0_off33_inb v3 h7 t) rfl rfl rfl (k0_off34_inb v3 h7 t) rfl rfl rfl)
      (loadT c v20 CC CS (cur v3 h3 t) ⟨_, h0⟩ _ _ 1 (by decide) (k0_off35_inb v3 h7 t) rfl rfl rfl (k0_off36_inb v3 h7 t) rfl rfl rfl)
      (loadT c v20 CC CS (cur v3 h3 t) ⟨_, h0⟩ _ _ 2 (by decide) (k0_off37_inb v3 h7 t) rfl rfl rfl (k0_off38_inb v3 h7 t) rfl rfl rfl)
      (loadT c v20 CC CS (cur v3 h3 t) ⟨_, h0⟩ _ _ 3 (by decide) (k0_off39_inb v3 h7 t) rfl rfl rfl (k0_off40_inb v3 h7 t) rfl rfl rfl)
      (loadT c v20 CC CS (cur v3 h3 t) ⟨_, h0⟩ _ _ 4 (by decide) (k0_off41_inb v3 h7 t) rfl rfl rfl (k0_off42_inb v3 h7 t) rfl rfl rfl)
      (loadL c v20 CC CS (cur v3 h3 t) ⟨_, h0⟩ _ _ (k0_off43_inb v3 h7 t) rfl rfl rfl (k0_off44_inb v3 h7 t) rfl rfl rfl)
      _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl
  iexists _; iexact HO

end Cert.KernelIdeal.Run

end
-- ==== Proof.Stream.lean ====
/- The streaming loop: after each trip the elements of the output whose expert has been met hold their product. -/
module

public import proofs.«01_k».proof.Proof.Trip

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

/-- The product of token `t` with the weights of the expert the id `w` names. -/
def deltaW (v20 : Vec F S128x2048 .bf16) (A : Vec F S60x1024x1408 .i8) (B : Vec F S60x32x1408 .bf16) (w : BitVec 32) (t : Fin 128) (n : Fin 1408) : F .f32 :=
  delta v20 A B ⟨w.toNat % 60, Nat.mod_lt _ (by decide)⟩ t n

/-- After `i` trips: every element whose id is among the first `i` live experts holds its product. -/
def Done (ids : S128x4.Idx → BitVec 32) (lv : S61.Idx → BitVec 32) (d : BitVec 32 → Fin 128 → Fin 1408 → F .f32) (i : ℕ) (g : S128x4x1408.Idx → F .f32) : Prop :=
  ∀ y : S128x4x1408.Idx, (∃ j : S61.Idx, (j 0).val < i ∧ lv j = ids (ix2 (y 0) (y 1))) → g y = d (ids (ix2 (y 0) (y 1))) (y 0) (y 2)

/-- One more trip. -/
theorem done_step (ids : S128x4.Idx → BitVec 32) (lv : S61.Idx → BitVec 32) (v20 : Vec F S128x2048 .bf16) (A : Vec F S60x1024x1408 .i8) (B : Vec F S60x32x1408 .bf16)
    (i : ℕ) (hi : i < 61) (h0 : (lv (ix1 ⟨i, hi⟩)).toNat < 60) (g g' : S128x4x1408.Idx → F .f32) (h : Done ids lv (deltaW v20 A B) i g)
    (hg : g' = mix ids (lv (ix1 ⟨i, hi⟩)) (delta v20 A B ⟨_, h0⟩) g) : Done ids lv (deltaW v20 A B) (i + 1) g' := by
  rintro y ⟨j, hj, he⟩
  rw [hg]
  unfold mix
  by_cases hw : ids (ix2 (y 0) (y 1)) = lv (ix1 ⟨i, hi⟩)
  · rw [if_pos hw, hw]
    unfold deltaW
    congr 1
    exact Fin.ext (Nat.mod_eq_of_lt h0).symm
  · rw [if_neg hw]
    refine h y ⟨j, ?_, he⟩
    by_contra hn
    refine hw (he.symm.trans (congrArg lv (funext fun a => ?_)))
    have : a = 0 := Fin.ext (by have := a.isLt; show a.val = 0; change a.val < 1 at this; omega)
    subst this
    exact Fin.ext (show (j 0).val = i by omega)

/-- The slot of trip `i`. -/
abbrev sl (i : ℕ) : Fin 2 := ⟨i % 2, Nat.mod_lt _ (by decide)⟩

/-- The slot trip `i` reads: in flight with its expert, or idle when there is no such trip. -/
@[irreducible] def Slot (CC : Buf (Elt F) (hcM.view.loc (c : Thread nD τ))) (CS : Buf (Elt F) (hsM.view.loc (c : Thread nD τ))) (lv : S61.Idx → BitVec 32) (n i : ℕ) : sProp 𝕄 :=
  if h : ∃ hi : i < 61, i < n ∧ (lv (ix1 ⟨i, hi⟩)).toNat < 60 then Infl c CC CS (sl i) ⟨_, h.snd.2⟩ else Free c CC CS (sl i)

theorem slot_pos (CC : Buf (Elt F) (hcM.view.loc (c : Thread nD τ))) (CS : Buf (Elt F) (hsM.view.loc (c : Thread nD τ))) (lv : S61.Idx → BitVec 32) (n i : ℕ)
    (hi : i < 61) (hn : i < n) (h0 : (lv (ix1 ⟨i, hi⟩)).toNat < 60) (k : Fin 2) (hk : k.val = i % 2) : Slot c CC CS lv n i = Infl c CC CS k ⟨_, h0⟩ := by
  have : k = sl i := Fin.ext hk
  subst this
  unfold Slot
  exact dif_pos ⟨hi, hn, h0⟩
theorem slot_neg (CC : Buf (Elt F) (hcM.view.loc (c : Thread nD τ))) (CS : Buf (Elt F) (hsM.view.loc (c : Thread nD τ))) (lv : S61.Idx → BitVec 32) (n i : ℕ)
    (hn : ¬ i < n) (k : Fin 2) (hk : k.val = i % 2) : Slot c CC CS lv n i = Free c CC CS k := by
  have : k = sl i := Fin.ext hk
  subst this
  unfold Slot
  exact dif_neg fun h => hn h.snd.1

/-- What the streaming loop keeps. -/
abbrev streamInv (CC : Buf (Elt F) (hcM.view.loc (c : Thread nD τ))) (CS : Buf (Elt F) (hsM.view.loc (c : Thread nD τ)))
    (X : Buf (Elt F) (arg4.view.loc (c : Thread nD τ))) (v20 : Vec F S128x2048 .bf16) (l : Buf (Elt F) (liveM.view.loc (c : Thread nD τ))) (n i : ℕ) : sProp 𝕄 :=
  iprop(liveP c l ∗ Slot c CC CS (liveM.view.read (Elt F) l) n i ∗ Free c CC CS (sl (i + 1)) ∗ (arg4.view.loc (c : Thread nD τ) ↦[arg4.view.set]{fullShare} X)
    ∗ (∃ f, (arg9.view.loc (c : Thread nD τ) ↦[arg9.view.set]{fullShare} f)
      ∗ ⌜Done (arg4.view.read (Elt F) X) (liveM.view.read (Elt F) l) (deltaW v20 (hcM.view.read (Elt F) CC) (hsM.view.read (Elt F) CS)) i (arg9.view.read (Elt F) f)⌝)
    ∗ ∃ W, owes (c : Thread nD τ) 0 W)

set_option warn.classDefReducibility false in
/-- The streaming loop. -/
def loopInv_t4 (CC : Buf (Elt F) (hcM.view.loc (c : Thread nD τ))) (CS : Buf (Elt F) (hsM.view.loc (c : Thread nD τ))) (v3 : BitVec 32) (h7 : k0_chk7 v3)
    (X : Buf (Elt F) (arg4.view.loc (c : Thread nD τ))) (v20 : Vec F S128x2048 .bf16) (l : Buf (Elt F) (liveM.view.loc (c : Thread nD τ)))
    (h3 : v3.toNat ≤ 60) (hl : ∀ j : S61.Idx, (j 0).val < v3.toNat → (liveM.view.read (Elt F) l j).toNat < 60) :
    LoopInvTy_k0_t4 (F := F) Unit ℕ (Pipeline.UD sig nD τ) ℕ Variants.none c none Set.univ arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v3 h7 v20 where
  inv i _ := streamInv c arg4 arg9 CC CS X v20 l v3.toNat i
  step t _ := by
    have ht : t.val < v3.toNat := Nat.lt_of_lt_of_eq t.isLt (t4_trips v3 h3)
    have h0 : (liveM.view.read (Elt F) l (ix1 ⟨t.val, by omega⟩)).toNat < 60 := hl _ ht
    have e2 : sl (t.val + 1) = nxt v3 h3 t := Fin.ext (nxt_lt v3 h3 t).symm
    have e3 : sl (t.val + 1 + 1) = cur v3 h3 t := Fin.ext (by rw [show (cur v3 h3 t).val = t.val % 2 from cur_lt v3 h3 t]; show (t.val + 1 + 1) % 2 = _; omega)
    unfold streamInv
    rw [slot_pos c CC CS _ _ _ (by omega) ht h0 (cur v3 h3 t) (cur_lt v3 h3 t), e2, e3]
    by_cases hn : t.val + 1 < v3.toNat
    · have h0' : (liveM.view.read (Elt F) l (ix1 ⟨t.val + 1, by omega⟩)).toNat < 60 := hl _ hn
      rw [slot_pos c CC CS _ _ _ (by omega) hn h0' (nxt v3 h3 t) (nxt_lt v3 h3 t)]
      iintro ⟨H0, HI, HF, H4, ⟨%f, H9, %hf⟩, %W, HO⟩
      iapply (trip_issue c arg0 harg0 arg1 harg1 arg2 harg2 arg3 harg3 arg4 harg4 arg5 harg5 arg8 harg8 arg9 harg9 CC CS v3 h3 h7 X f v20 l t (by omega) h0 h0' ((cond1_iff v3 h3 t).mpr hn) W _)
      isplitl [H0]; · iexact H0
      isplitl [HI]; · iexact HI
      isplitl [HF]; · iexact HF
      isplitl [H4]; · iexact H4
      isplitl [H9]; · iexact H9
      isplitl [HO]; · iexact HO
      iintro ⟨H0, HF, HI, H4, ⟨%f', H9, %hf'⟩, HO⟩
      isplitl [H0]; · iexact H0
      isplitl [HI]; · iexact HI
      isplitl [HF]; · iexact HF
      isplitl [H4]; · iexact H4
      isplitl [H9]
      · iexists f'
        isplitl [H9]; · iexact H9
        ipureintro
        exact done_step _ _ v20 _ _ t.val (by omega) h0 _ _ hf hf'
      iexact HO
    · rw [slot_neg c CC CS _ _ _ hn (nxt v3 h3 t) (nxt_lt v3 h3 t)]
      iintro ⟨H0, HI, HF, H4, ⟨%f, H9, %hf⟩, %W, HO⟩
      iapply (trip_last c arg0 harg0 arg1 harg1 arg2 harg2 arg3 harg3 arg4 harg4 arg5 harg5 arg8 harg8 arg9 harg9 CC CS v3 h3 h7 X f v20 l t (by omega) h0 (fun h => hn ((cond1_iff v3 h3 t).mp h)) W _)
      isplitl [H0]; · iexact H0
      isplitl [HI]; · iexact HI
      isplitl [HF]; · iexact HF
      isplitl [H4]; · iexact H4
      isplitl [H9]; · iexact H9
      isplitl [HO]; · iexact HO
      iintro ⟨H0, HF, HI, H4, ⟨%f', H9, %hf'⟩, HO⟩
      isplitl [H0]; · iexact H0
      isplitl [HI]; · iexact HI
      isplitl [HF]; · iexact HF
      isplitl [H4]; · iexact H4
      isplitl [H9]
      · iexists f'
        isplitl [H9]; · iexact H9
        ipureintro
        exact done_step _ _ v20 _ _ t.val (by omega) h0 _ _ hf hf'
      iexact HO

end Cert.KernelIdeal.Run

end
-- ==== Proof.Open.lean ====
/- The prologue: it lists the live experts and starts the first one's transfers. -/
module

public import proofs.«01_k».proof.Proof.Stream

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

/-- What the prologue leaves. -/
abbrev post25 (CC : Buf (Elt F) (hcM.view.loc (c : Thread nD τ))) (CS : Buf (Elt F) (hsM.view.loc (c : Thread nD τ)))
    (X0 : Buf (Elt F) (arg0.view.loc (c : Thread nD τ))) (x1 : Buf (Elt F) (arg1.view.loc (c : Thread nD τ)))
    (r : Σ' (v3 : BitVec 32) (k0_hw7 : k0_chk7 v3), Vec F S128x2048 .bf16) : sProp 𝕄 :=
  iprop(⌜r.2.2 = arg1.view.readAt (Elt F) (Rect.unit (s := S128x2048) ![0, 0] S128x2048.size inb_S128x2048_S128x2048_0_0).toLoadRect x1⌝
    ∗ idsP c arg0 X0 ∗ (∃ f, flagP c f)
    ∗ (∃ l, ⌜Live (arg0.view.read (Elt F) X0) 60 r.1 (liveM.view.read (Elt F) l)⌝ ∗ liveP c l ∗ Slot c CC CS (liveM.view.read (Elt F) l) r.1.toNat 0)
    ∗ Free c CC CS (sl (0 + 1)) ∗ (arg1.view.loc (c : Thread nD τ) ↦[arg1.view.set]{fullShare} x1)
    ∗ (∃ f, arg9.view.loc (c : Thread nD τ) ↦[arg9.view.set]{fullShare} f) ∗ ∃ W, owes (c : Thread nD τ) 0 W)

/-- The prologue's run. -/
theorem run25 (CC : Buf (Elt F) (hcM.view.loc (c : Thread nD τ))) (CS : Buf (Elt F) (hsM.view.loc (c : Thread nD τ)))
    (X0 : Buf (Elt F) (arg0.view.loc (c : Thread nD τ))) (hX : ∀ i, (arg0.view.read (Elt F) X0 i).toNat < 60) (x1 : Buf (Elt F) (arg1.view.loc (c : Thread nD τ)))
    (f9 : Buf (Elt F) (arg9.view.loc (c : Thread nD τ))) (W : Waits sig Unit) :
    iprop(idsP c arg0 X0 ∗ (∃ f, flagP c f) ∗ (∃ f, liveP c f) ∗ Free c CC CS 0 ∗ Free c CC CS 1 ∗ (arg1.view.loc (c : Thread nD τ) ↦[arg1.view.set]{fullShare} x1)
      ∗ (arg9.view.loc (c : Thread nD τ) ↦[arg9.view.set]{fullShare} f9) ∗ owes (c : Thread nD τ) 0 W)
      ⊢ wp frame (wpE defs₀ Variants.none (c : Thread nD τ) none) Set.univ (k0_part25 arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) (fun r => post25 c arg0 arg1 arg9 CC CS X0 x1 r) := by
  iintro ⟨H0, ⟨%fl, Hf⟩, ⟨%fv, Hl⟩, ⟨F1, F2, ⟨%g3, F3⟩, ⟨%g4, F4⟩, F5, F6⟩, HF, H1, H9, HO⟩
  have hfl : ∀ f : Buf (Elt F) (flagM.view.loc (c : Thread nD τ)), (∀ e : S60.Idx, (e 0).val < 60 → flagM.view.read (Elt F) f e = 0#32) → Flag (arg0.view.read (Elt F) X0) 0 (flagM.view.read (Elt F) f) := fun f h e => by
    rw [h e (e 0).isLt, if_neg]
    rintro ⟨i, hi, _⟩
    exact absurd hi (Nat.not_lt_zero _)
  have hlv : Live (arg0.view.read (Elt F) X0) 0 0#32 (liveM.view.read (Elt F) fv) :=
    ⟨Nat.le_refl _, fun j h => absurd h (Nat.not_lt_zero _), fun i h => absurd h (Nat.not_lt_zero _)⟩
  rw [k0_part25_eq_skeleton]
  unfold k0_part25_skel
  sl_exec
  have hz := hfl _ ‹_›
  let I2 := loopInv_t2 (F := F) c arg0 harg0 arg1 harg1 arg2 harg2 arg3 harg3 arg4 harg4 arg5 harg5 arg8 harg8 arg9 harg9 X0 hX
  sl_exec
  have hf2 : Flag (arg0.view.read (Elt F) X0) 128 _ := hL2
  let I3 := loopInv_t3 (F := F) c arg0 harg0 arg1 harg1 arg2 harg2 arg3 harg3 arg4 harg4 arg5 harg5 arg8 harg8 arg9 harg9 (arg0.view.read (Elt F) X0) _ hf2
  sl_exec
  rename_i n
  have hLv : Live (arg0.view.read (Elt F) X0) 60 n (liveM.view.read (Elt F) fL0) := hL2
  have hpos : 0 < n.toNat := by
    obtain ⟨j, hj, _⟩ := hLv.2.2 (ix2 0 0) (hX _)
    omega
  have h0 : (liveM.view.read (Elt F) fL0 (ix1 ⟨0, by decide⟩)).toNat < 60 := hLv.2.1 _ hpos
  have e0 : ∀ i, liveM.view.readAt (Elt F) (Rect.unit (s := S61) ![0] S1.size inb_S61_S1_0).toLoadRect fL0 i = liveM.view.read (Elt F) fL0 (ix1 ⟨0, by decide⟩) :=
    live_word c fL0 inb_S61_S1_0 0 (by decide) rfl
  have w0 : ∀ i, (liveM.view.readAt (Elt F) (Rect.unit (s := S61) ![0] S1.size inb_S61_S1_0).toLoadRect fL0 i).toNat < 60 := fun i => by
    rw [e0]; exact h0
  sl_exec (disch := first | exact chk7_of _ hLv.1 | exact chk6_of _ (w0 _))
  sl_step
  isplitr
  · ipureintro; rfl
  isplitl [H0]; · iexact H0
  isplitl [Hf]; · iexists _; iexact Hf
  isplitl [Hl F1 F2 F5 F6]
  · iexists fL0
    isplitr
    · ipureintro; exact hLv
    isplitl [Hl]; · iexact Hl
    have he : (⟨_, h0⟩ : Fin 60) = ⟨_, w0 (Shape.Idx.first (numel1_S1.symm ▸ Nat.one_pos))⟩ := Fin.ext (congrArg BitVec.toNat (e0 _).symm)
    rw [slot_pos c CC CS _ _ 0 (by decide) hpos h0 0 rfl, he]
    isplitl [F1]; · iexists _; iexact F1
    isplitl [F5]; · iexact F5
    isplitl [F2]; · iexists _; iexact F2
    iexact F6
  isplitl [HF]; · iexact HF
  isplitl [H1]; · iexact H1
  isplitl [H9]; · iexists _; iexact H9
  iexists _; iexact HO

end Cert.KernelIdeal.Run

end
-- ==== Proof.Outs.lean ====
/- The two outputs as functions of the inputs. -/
module

public import proofs.«01_k».proof.Proof.Open
public import Idealize.ShloMosaic.Lib.LoopRemainder

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

/-- The elements of `V` under a rectangle. -/
abbrev sub {s : Shape} {e : EltTy} (r : Rect s) (V : Vec F s e) : Vec F r.shape e := fun x => V (r.emb x)

/-- The second output: every token's product with the weights of the expert each of its ids names. -/
def pdV (ids : S128x4.Idx → BitVec 32) (v20 : Vec F S128x2048 .bf16) (A : Vec F S60x1024x1408 .i8) (B : Vec F S60x32x1408 .bf16) : Vec F S128x4x1408 .f32 :=
  fun y => deltaW v20 A B (ids (ix2 (y 0) (y 1))) (y 0) (y 2)

/-- A gate column. -/
abbrev gcol (g : Vec F S128x4 .f32) (k : ℕ) (h : ∀ a, (![0, k] : Fin 2 → ℕ) a + S128x1.size a ≤ S128x4.size a) : Vec F S128x1 .f32 := sub (Rect.unit (s := S128x4) ![0, k] S128x1.size h) g

theorem inb_pd (k m : ℕ) (hk : k < 4) (hm : m < 5) : ∀ a, (![0, k, 256 * m] : Fin 3 → ℕ) a + S128x1x256.size a ≤ S128x4x1408.size a := by
  intro a; fin_cases a
  · show 0 + 128 ≤ 128; omega
  · show k + 1 ≤ 4; omega
  · show 256 * m + 256 ≤ 1408; omega
theorem inb_w0 (m : ℕ) (hm : m < 5) : ∀ a, (![0, 256 * m] : Fin 2 → ℕ) a + S2048x256.size a ≤ S2048x1408.size a := by
  intro a; fin_cases a
  · show 0 + 2048 ≤ 2048; omega
  · show 256 * m + 256 ≤ 1408; omega
theorem inb_ws (m : ℕ) (hm : m < 5) : ∀ a, (![0, 4 * m] : Fin 2 → ℕ) a + S32x4.size a ≤ S32x22.size a := by
  intro a; fin_cases a
  · show 0 + 32 ≤ 32; omega
  · show 4 * m + 4 ≤ 22; omega

/-- Columns `256 m` to `256 m + 255` of the first output. -/
def yT (v20 : Vec F S128x2048 .bf16) (g : Vec F S128x4 .f32) (w0 : Vec F S2048x1408 .fp8e4m3) (ws : Vec F S32x22 .f32) (pd : Vec F S128x4x1408 .f32) (m : ℕ) (hm : m < 5) : Vec F S128x256 .bf16 :=
  k0_pay93 (k0_pay88 (sub (Rect.unit (s := S128x4) ![0, 0] S128x4.size inb_S128x4_S128x4_0_0) g))
    (k0_pay92 (k0_pay85 v20) (sub (Rect.unit (s := S32x22) ![0, 4 * m] S32x4.size (inb_ws m hm)) ws) (sub (Rect.unit (s := S2048x1408) ![0, 256 * m] S2048x256.size (inb_w0 m hm)) w0))
    (gcol g 0 inb_S128x4_S128x1_0_0) (sub (Rect.unit (s := S128x4x1408) ![0, 0, 256 * m] S128x1x256.size (inb_pd 0 m (by decide) hm)) pd)
    (gcol g 1 inb_S128x4_S128x1_0_1) (sub (Rect.unit (s := S128x4x1408) ![0, 1, 256 * m] S128x1x256.size (inb_pd 1 m (by decide) hm)) pd)
    (gcol g 2 inb_S128x4_S128x1_0_2) (sub (Rect.unit (s := S128x4x1408) ![0, 2, 256 * m] S128x1x256.size (inb_pd 2 m (by decide) hm)) pd)
    (gcol g 3 inb_S128x4_S128x1_0_3) (sub (Rect.unit (s := S128x4x1408) ![0, 3, 256 * m] S128x1x256.size (inb_pd 3 m (by decide) hm)) pd)

/-- The last 128 columns of the first output. -/
def yL (v20 : Vec F S128x2048 .bf16) (g : Vec F S128x4 .f32) (w0 : Vec F S2048x1408 .fp8e4m3) (ws : Vec F S32x22 .f32) (pd : Vec F S128x4x1408 .f32) : Vec F S128x128 .bf16 :=
  k0_pay1 (k0_pay105 (k0_pay85 v20) (k0_pay88 (sub (Rect.unit (s := S128x4) ![0, 0] S128x4.size inb_S128x4_S128x4_0_0) g))
      (sub (Rect.unit (s := S32x22) ![0, 20] S32x2.size inb_S32x22_S32x2_0_20) ws) (sub (Rect.unit (s := S2048x1408) ![0, 1280] S2048x128.size inb_S2048x1408_S2048x128_0_1280) w0))
    (k0_pay106 (gcol g 0 inb_S128x4_S128x1_0_0)) (sub (Rect.unit (s := S128x4x1408) ![0, 0, 1280] S128x1x128.size inb_S128x4x1408_S128x1x128_0_0_1280) pd)
    (gcol g 1 inb_S128x4_S128x1_0_1) (sub (Rect.unit (s := S128x4x1408) ![0, 1, 1280] S128x1x128.size inb_S128x4x1408_S128x1x128_0_1_1280) pd)
    (gcol g 2 inb_S128x4_S128x1_0_2) (sub (Rect.unit (s := S128x4x1408) ![0, 2, 1280] S128x1x128.size inb_S128x4x1408_S128x1x128_0_2_1280) pd)
    (gcol g 3 inb_S128x4_S128x1_0_3) (sub (Rect.unit (s := S128x4x1408) ![0, 3, 1280] S128x1x128.size inb_S128x4x1408_S128x1x128_0_3_1280) pd)

/-- The first output. -/
def yV (v20 : Vec F S128x2048 .bf16) (g : Vec F S128x4 .f32) (w0 : Vec F S2048x1408 .fp8e4m3) (ws : Vec F S32x22 .f32) (pd : Vec F S128x4x1408 .f32) : Vec F S128x1408 .bf16 :=
  fun y => if h : (y 1).val < 1280 then yT v20 g w0 ws pd ((y 1).val / 256) (by omega) (ix2 (y 0) ⟨(y 1).val % 256, Nat.mod_lt _ (by decide)⟩)
    else yL v20 g w0 ws pd (ix2 (y 0) ⟨(y 1).val - 1280, by have : (y 1).val < 1408 := (y 1).isLt; omega⟩)

theorem yV_T (v20 : Vec F S128x2048 .bf16) (g : Vec F S128x4 .f32) (w0 : Vec F S2048x1408 .fp8e4m3) (ws : Vec F S32x22 .f32) (pd : Vec F S128x4x1408 .f32) (m : ℕ) (hm : m < 5)
    (inb : ∀ a, (![0, 256 * m] : Fin 2 → ℕ) a + S128x256.size a ≤ S128x1408.size a) (x : S128x256.Idx) :
    yT v20 g w0 ws pd m hm x = yV v20 g w0 ws pd ((Rect.unit (s := S128x1408) ![0, 256 * m] S128x256.size inb).emb x) := by
  idx_vars x
  have hx := x1.isLt
  have same : ∀ n (hn : n < 5) (z : Fin 256), n = m → z = x1 → yT v20 g w0 ws pd m hm (ix2 x0 x1) = yT v20 g w0 ws pd n hn (ix2 x0 z) := by
    rintro n hn z rfl rfl; rfl
  have key : ∀ z : S128x1408.Idx, z 0 = x0 → (z 1).val = 256 * m + x1.val → yT v20 g w0 ws pd m hm (ix2 x0 x1) = yV v20 g w0 ws pd z := fun z h0 h1 => by
    unfold yV
    rw [dif_pos (by omega), h0]
    exact same _ _ _ (by omega) (Fin.ext (by show _ % 256 = _; omega))
  exact key _ (Fin.ext (by show 0 + 1 * x0.val = _; omega)) (by show 256 * m + 1 * x1.val = _; omega)

theorem yV_L (v20 : Vec F S128x2048 .bf16) (g : Vec F S128x4 .f32) (w0 : Vec F S2048x1408 .fp8e4m3) (ws : Vec F S32x22 .f32) (pd : Vec F S128x4x1408 .f32)
    (inb : ∀ a, (![0, 1280] : Fin 2 → ℕ) a + S128x128.size a ≤ S128x1408.size a) (x : S128x128.Idx) :
    yL v20 g w0 ws pd x = yV v20 g w0 ws pd ((Rect.unit (s := S128x1408) ![0, 1280] S128x128.size inb).emb x) := by
  idx_vars x
  have hx := x1.isLt
  have same : ∀ z : Fin 128, z = x1 → yL v20 g w0 ws pd (ix2 x0 x1) = yL v20 g w0 ws pd (ix2 x0 z) := by
    rintro z rfl; rfl
  have key : ∀ z : S128x1408.Idx, z 0 = x0 → (z 1).val = 1280 + x1.val → yL v20 g w0 ws pd (ix2 x0 x1) = yV v20 g w0 ws pd z := fun z h0 h1 => by
    unfold yV
    rw [dif_neg (by omega), h0]
    exact same _ (Fin.ext (by show _ - 1280 = _; omega))
  exact key _ (Fin.ext (by show 0 + 1 * x0.val = _; omega)) (by show 1280 + 1 * x1.val = _; omega)

/-- What the six stores leave in the first output. -/
theorem read_y (f8 : Buf (Elt F) (arg8.view.loc (c : Thread nD τ))) (v20 : Vec F S128x2048 .bf16) (g : Vec F S128x4 .f32) (w0 : Vec F S2048x1408 .fp8e4m3) (ws : Vec F S32x22 .f32) (pd : Vec F S128x4x1408 .f32)
    (P5 : Vec F S128x128 .bf16) (P4 P3 P2 P1 P0 : Vec F S128x256 .bf16) (h5 : P5 = yL v20 g w0 ws pd)
    (h4 : P4 = yT v20 g w0 ws pd 4 (by decide)) (h3 : P3 = yT v20 g w0 ws pd 3 (by decide)) (h2 : P2 = yT v20 g w0 ws pd 2 (by decide))
    (h1 : P1 = yT v20 g w0 ws pd 1 (by decide)) (h0 : P0 = yT v20 g w0 ws pd 0 (by decide)) :
    arg8.view.read (Elt F) (arg8.view.writes (Elt F) f8 [
      ⟨Rect.unit (s := S128x1408) ![0, 1280] S128x128.size inb_S128x1408_S128x128_0_1280, P5⟩,
      ⟨Rect.unit (s := S128x1408) ![0, 1024] S128x256.size inb_S128x1408_S128x256_0_1024, P4⟩,
      ⟨Rect.unit (s := S128x1408) ![0, 768] S128x256.size inb_S128x1408_S128x256_0_768, P3⟩,
      ⟨Rect.unit (s := S128x1408) ![0, 512] S128x256.size inb_S128x1408_S128x256_0_512, P2⟩,
      ⟨Rect.unit (s := S128x1408) ![0, 256] S128x256.size inb_S128x1408_S128x256_0_256, P1⟩,
      ⟨Rect.unit (s := S128x1408) ![0, 0] S128x256.size inb_S128x1408_S128x256_0_0, P0⟩]) = yV v20 g w0 ws pd := by
  have a5 := fun x => (congrFun h5 x).trans (yV_L v20 g w0 ws pd inb_S128x1408_S128x128_0_1280 x)
  have a4 := fun x => (congrFun h4 x).trans (yV_T v20 g w0 ws pd 4 (by decide) inb_S128x1408_S128x256_0_1024 x)
  have a3 := fun x => (congrFun h3 x).trans (yV_T v20 g w0 ws pd 3 (by decide) inb_S128x1408_S128x256_0_768 x)
  have a2 := fun x => (congrFun h2 x).trans (yV_T v20 g w0 ws pd 2 (by decide) inb_S128x1408_S128x256_0_512 x)
  have a1 := fun x => (congrFun h1 x).trans (yV_T v20 g w0 ws pd 1 (by decide) inb_S128x1408_S128x256_0_256 x)
  have a0 := fun x => (congrFun h0 x).trans (yV_T v20 g w0 ws pd 0 (by decide) inb_S128x1408_S128x256_0_0 x)
  clear h0 h1 h2 h3 h4 h5
  generalize yV v20 g w0 ws pd = G at *
  funext y
  refine View.read_writes_apply_of_pieces _ _ _ _ ?_ y ?_
  · exact List.forall_mem_cons.mpr ⟨a5, List.forall_mem_cons.mpr ⟨a4, List.forall_mem_cons.mpr ⟨a3, List.forall_mem_cons.mpr ⟨a2, List.forall_mem_cons.mpr ⟨a1,
      List.forall_mem_cons.mpr ⟨a0, fun _ h => by cases h⟩⟩⟩⟩⟩⟩
  · idx_vars y
    have h0 := y0.isLt
    have h1 := y1.isLt
    have mem : ∀ (o w : ℕ) (inb : ∀ a, (![0, o] : Fin 2 → ℕ) a + (![128, w] : Fin 2 → ℕ) a ≤ S128x1408.size a), o ≤ y1.val → y1.val < o + w →
        (ix2 y0 y1 : S128x1408.Idx) ∈ (Rect.unit (s := S128x1408) ![0, o] ![128, w] inb).set := fun o w inb ha hb => by
      rw [Rect.mem_set_unit]
      intro a
      fin_cases a
      · show 0 ≤ y0.val ∧ y0.val < 0 + 128; omega
      · show o ≤ y1.val ∧ y1.val < o + w; omega
    by_cases c5 : 1280 ≤ y1.val
    · exact ⟨_, List.mem_cons_self, mem 1280 128 inb_S128x1408_S128x128_0_1280 c5 (by omega)⟩
    by_cases c4 : 1024 ≤ y1.val
    · exact ⟨_, List.mem_cons_of_mem _ List.mem_cons_self, mem 1024 256 inb_S128x1408_S128x256_0_1024 c4 (by omega)⟩
    by_cases c3 : 768 ≤ y1.val
    · exact ⟨_, List.mem_cons_of_mem _ (List.mem_cons_of_mem _ List.mem_cons_self), mem 768 256 inb_S128x1408_S128x256_0_768 c3 (by omega)⟩
    by_cases c2 : 512 ≤ y1.val
    · exact ⟨_, List.mem_cons_of_mem _ (List.mem_cons_of_mem _ (List.mem_cons_of_mem _ List.mem_cons_self)), mem 512 256 inb_S128x1408_S128x256_0_512 c2 (by omega)⟩
    by_cases c1 : 256 ≤ y1.val
    · exact ⟨_, List.mem_cons_of_mem _ (List.mem_cons_of_mem _ (List.mem_cons_of_mem _ (List.mem_cons_of_mem _ List.mem_cons_self))), mem 256 256 inb_S128x1408_S128x256_0_256 c1 (by omega)⟩
    · exact ⟨_, List.mem_cons_of_mem _ (List.mem_cons_of_mem _ (List.mem_cons_of_mem _ (List.mem_cons_of_mem _ (List.mem_cons_of_mem _ List.mem_cons_self)))),
        mem 0 256 inb_S128x1408_S128x256_0_0 (Nat.zero_le _) (by omega)⟩

/-- When every id has been met, the second output is complete. -/
theorem done_all (ids : S128x4.Idx → BitVec 32) (hX : ∀ i, (ids i).toNat < 60) (lv : S61.Idx → BitVec 32) (n : BitVec 32) (hL : Live ids 60 n lv)
    (v20 : Vec F S128x2048 .bf16) (A : Vec F S60x1024x1408 .i8) (B : Vec F S60x32x1408 .bf16) (g : S128x4x1408.Idx → F .f32)
    (h : Done ids lv (deltaW v20 A B) n.toNat g) : g = pdV ids v20 A B :=
  funext fun y => h y (hL.2.2 _ (hX _))

end Cert.KernelIdeal.Run

end
-- ==== Proof.Body.lean ====
/- The whole body: what it leaves in its two outputs. -/
module

public import proofs.«01_k».proof.Proof.Outs
public import Idealize.ShloMosaic.Lib.LoopRemainder

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

/-- The body's resources before and after: its staged inputs, its scratch, its transfers' tokens and idle cells. -/
abbrev bodyRes (CC : Buf (Elt F) (hcM.view.loc (c : Thread nD τ))) (CS : Buf (Elt F) (hsM.view.loc (c : Thread nD τ)))
    (X0 : Buf (Elt F) (arg0.view.loc (c : Thread nD τ))) (x1 : Buf (Elt F) (arg1.view.loc (c : Thread nD τ))) (x2 : Buf (Elt F) (arg2.view.loc (c : Thread nD τ)))
    (x3 : Buf (Elt F) (arg3.view.loc (c : Thread nD τ))) (X4 : Buf (Elt F) (arg4.view.loc (c : Thread nD τ))) (x5 : Buf (Elt F) (arg5.view.loc (c : Thread nD τ)))
    (P8 : Vec F S128x1408 .bf16 → Prop) (P9 : Vec F S128x4x1408 .f32 → Prop) : sProp 𝕄 :=
  iprop(idsP c arg0 X0 ∗ (∃ f, flagP c f) ∗ (∃ f, liveP c f) ∗ (Free c CC CS 0 ∗ Free c CC CS 1)
    ∗ (arg1.view.loc (c : Thread nD τ) ↦[arg1.view.set]{fullShare} x1) ∗ (arg2.view.loc (c : Thread nD τ) ↦[arg2.view.set]{fullShare} x2)
    ∗ (arg3.view.loc (c : Thread nD τ) ↦[arg3.view.set]{fullShare} x3) ∗ (arg4.view.loc (c : Thread nD τ) ↦[arg4.view.set]{fullShare} X4)
    ∗ (arg5.view.loc (c : Thread nD τ) ↦[arg5.view.set]{fullShare} x5)
    ∗ (∃ f, (arg8.view.loc (c : Thread nD τ) ↦[arg8.view.set]{fullShare} f) ∗ ⌜P8 (arg8.view.read (Elt F) f)⌝)
    ∗ (∃ f, (arg9.view.loc (c : Thread nD τ) ↦[arg9.view.set]{fullShare} f) ∗ ⌜P9 (arg9.view.read (Elt F) f)⌝)
    ∗ ∃ W, owes (c : Thread nD τ) 0 W)

/-- The token activations as the body reads them. -/
abbrev xin (x1 : Buf (Elt F) (arg1.view.loc (c : Thread nD τ))) : Vec F S128x2048 .bf16 :=
  sub (Rect.unit (s := S128x2048) ![0, 0] S128x2048.size inb_S128x2048_S128x2048_0_0) (arg1.view.read (Elt F) x1)

theorem free_to (CC : Buf (Elt F) (hcM.view.loc (c : Thread nD τ))) (CS : Buf (Elt F) (hsM.view.loc (c : Thread nD τ))) (k k' : Fin 2) (h : k = k') :
    Free c CC CS k ⊢ (Free c CC CS k' : sProp 𝕄) := by
  subst h; exact .rfl

theorem slot_to (CC : Buf (Elt F) (hcM.view.loc (c : Thread nD τ))) (CS : Buf (Elt F) (hsM.view.loc (c : Thread nD τ))) (lv : S61.Idx → BitVec 32) (n i : ℕ) (hn : ¬ i < n) (k : Fin 2) (h : sl i = k) :
    Slot c CC CS lv n i ⊢ (Free c CC CS k : sProp 𝕄) := by
  subst h; rw [slot_neg c CC CS lv n i hn (sl i) rfl]

set_option maxHeartbeats 2000000 in
/-- The body's run: under ids in range it ends with both outputs at their values. -/
theorem run_body (CC : Buf (Elt F) (hcM.view.loc (c : Thread nD τ))) (CS : Buf (Elt F) (hsM.view.loc (c : Thread nD τ)))
    (X0 : Buf (Elt F) (arg0.view.loc (c : Thread nD τ))) (hX : ∀ i, (arg0.view.read (Elt F) X0 i).toNat < 60) (x1 : Buf (Elt F) (arg1.view.loc (c : Thread nD τ))) (x2 : Buf (Elt F) (arg2.view.loc (c : Thread nD τ)))
    (x3 : Buf (Elt F) (arg3.view.loc (c : Thread nD τ))) (X4 : Buf (Elt F) (arg4.view.loc (c : Thread nD τ))) (x5 : Buf (Elt F) (arg5.view.loc (c : Thread nD τ)))
    (h04 : arg4.view.read (Elt F) X4 = arg0.view.read (Elt F) X0) :
    bodyRes c arg0 arg1 arg2 arg3 arg4 arg5 arg8 arg9 CC CS X0 x1 x2 x3 X4 x5 (fun _ => True) (fun _ => True)
      ⊢ wp frame (wpE defs₀ Variants.none (c : Thread nD τ) none) Set.univ (cc0_moe_delta arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) (fun _ =>
        bodyRes c arg0 arg1 arg2 arg3 arg4 arg5 arg8 arg9 CC CS X0 x1 x2 x3 X4 x5
          (fun y => y = yV (xin c arg1 x1) (arg5.view.read (Elt F) x5) (arg2.view.read (Elt F) x2) (arg3.view.read (Elt F) x3) (pdV (arg4.view.read (Elt F) X4) (xin c arg1 x1) (hcM.view.read (Elt F) CC) (hsM.view.read (Elt F) CS)))
          (fun y => y = pdV (arg4.view.read (Elt F) X4) (xin c arg1 x1) (hcM.view.read (Elt F) CC) (hsM.view.read (Elt F) CS))) := by
  iintro ⟨H0, ⟨%fl, Hf⟩, ⟨%fv, Hl⟩, ⟨⟨A1, A2, ⟨%g1, A3⟩, ⟨%g2, A4⟩, A5, A6⟩, ⟨B1, B2, ⟨%g3, B3⟩, ⟨%g4, B4⟩, B5, B6⟩⟩, H1, H2, H3, H4, H5, ⟨%f8, H8, -⟩, ⟨%f9, H9, -⟩, ⟨%W, HO⟩⟩
  have hcut := run25 c arg0 harg0 arg1 harg1 arg2 harg2 arg3 harg3 arg4 harg4 arg5 harg5 arg8 harg8 arg9 harg9 CC CS X0 hX x1 f9 W
  rw [cc0_moe_delta_eq_skeleton]
  unfold cc0_moe_delta_skel
  sl_exec
  have e20 : v20 = xin c arg1 x1 := hk0_part25_0
  subst e20
  have hL : Live (arg0.view.read (Elt F) X0) 60 v3 (liveM.view.read (Elt F) lk0_part25_1) := hk0_part25_3
  have h3 : v3.toNat ≤ 60 := hL.1
  have hd0 : Done (arg4.view.read (Elt F) X4) (liveM.view.read (Elt F) lk0_part25_1) (deltaW (xin c arg1 x1) (hcM.view.read (Elt F) CC) (hsM.view.read (Elt F) CS)) 0 (arg9.view.read (Elt F) fk0_part25_4) :=
    fun y ⟨j, hj, _⟩ => absurd hj (Nat.not_lt_zero _)
  let I4 := loopInv_t4 (F := F) c arg0 harg0 arg1 harg1 arg2 harg2 arg3 harg3 arg4 harg4 arg5 harg5 arg8 harg8 arg9 harg9 CC CS v3 k0_hw7 X4 (xin c arg1 x1) lk0_part25_1 h3 hL.2.1
  sl_exec
  have htr : Scf.trips (k0_t4_loop v3).lb (k0_t4_loop v3).ub (k0_t4_loop v3).st = v3.toNat := t4_trips v3 h3
  have hpd : arg9.view.read (Elt F) fL2 = pdV (arg4.view.read (Elt F) X4) (xin c arg1 x1) (hcM.view.read (Elt F) CC) (hsM.view.read (Elt F) CS) :=
    done_all _ (h04 ▸ hX) _ v3 (h04 ▸ hL) _ _ _ _ (htr ▸ hL10)
  have hpar : (sl (Scf.trips (k0_t4_loop v3).lb (k0_t4_loop v3).ub (k0_t4_loop v3).st) = 0 ∧ sl (Scf.trips (k0_t4_loop v3).lb (k0_t4_loop v3).ub (k0_t4_loop v3).st + 1) = 1)
      ∨ (sl (Scf.trips (k0_t4_loop v3).lb (k0_t4_loop v3).ub (k0_t4_loop v3).st) = 1 ∧ sl (Scf.trips (k0_t4_loop v3).lb (k0_t4_loop v3).ub (k0_t4_loop v3).st + 1) = 0) := by
    generalize Scf.trips (k0_t4_loop v3).lb (k0_t4_loop v3).ub (k0_t4_loop v3).st = n
    rcases Nat.mod_two_eq_zero_or_one n with h | h
    · exact Or.inl ⟨Fin.ext h, Fin.ext (by show (n + 1) % 2 = 1; omega)⟩
    · exact Or.inr ⟨Fin.ext h, Fin.ext (by show (n + 1) % 2 = 0; omega)⟩
  sl_step
  isplitl [Hk0_part25_1]; · iexact Hk0_part25_1
  isplitl [Hk0_part25_2]; · iexists _; iexact Hk0_part25_2
  isplitl [Hk0_part25_4]; · iexists _; iexact Hk0_part25_4
  isplitl [Hk0_part25_5 Hk0_part25_6 Hk0_part25_7 Hk0_part25_8 Hk0_part25_9 Hk0_part25_10 Hk0_part25_11]
  · rcases hpar with ⟨p0, p1⟩ | ⟨p0, p1⟩
    · isplitl [Hk0_part25_5]
      · iapply (slot_to c CC CS _ v3.toNat _ (Nat.not_lt.mpr (Nat.le_of_eq htr.symm)) _ p0); iexact Hk0_part25_5
      iapply (free_to c CC CS _ _ p1)
      isplitl [Hk0_part25_6]; · iexact Hk0_part25_6
      isplitl [Hk0_part25_7]; · iexact Hk0_part25_7
      isplitl [Hk0_part25_8]; · iexists _; iexact Hk0_part25_8
      isplitl [Hk0_part25_9]; · iexists _; iexact Hk0_part25_9
      isplitl [Hk0_part25_10]; · iexact Hk0_part25_10
      iexact Hk0_part25_11
    · isplitl [Hk0_part25_6 Hk0_part25_7 Hk0_part25_8 Hk0_part25_9 Hk0_part25_10 Hk0_part25_11]
      · iapply (free_to c CC CS _ _ p1)
        isplitl [Hk0_part25_6]; · iexact Hk0_part25_6
        isplitl [Hk0_part25_7]; · iexact Hk0_part25_7
        isplitl [Hk0_part25_8]; · iexists _; iexact Hk0_part25_8
        isplitl [Hk0_part25_9]; · iexists _; iexact Hk0_part25_9
        isplitl [Hk0_part25_10]; · iexact Hk0_part25_10
        iexact Hk0_part25_11
      iapply (slot_to c CC CS _ v3.toNat _ (Nat.not_lt.mpr (Nat.le_of_eq htr.symm)) _ p0); iexact Hk0_part25_5
  isplitl [Hk0_part25_12]; · iexact Hk0_part25_12
  isplitl [H2]; · iexact H2
  isplitl [H3]; · iexact H3
  isplitl [H4]; · iexact H4
  isplitl [H5]; · iexact H5
  isplitl [H8]
  · iexists _
    isplitl [H8]; · iexact H8
    ipureintro
    refine Eq.trans (read_y c arg8 f8 (xin c arg1 x1) (arg5.view.read (Elt F) x5) (arg2.view.read (Elt F) x2) (arg3.view.read (Elt F) x3) (arg9.view.read (Elt F) fL2) _ _ _ _ _ _ ?_ ?_ ?_ ?_ ?_ ?_) (by rw [hpd])
    · rfl
    · rfl
    · rfl
    · rfl
    · rfl
    · rfl
  isplitl [Hk0_part25_13]
  · iexists _
    isplitl [Hk0_part25_13]; · iexact Hk0_part25_13
    ipureintro
    exact hpd
  iexists _; iexact Hk0_part25_14

end Cert.KernelIdeal.Run

end
-- ==== Proof.Whole.lean ====
/- The whole program around the body's run: what the region is launched with, the scratch cut into the ring's slots and put
   back, and what every array holds at the end. -/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameSuffixV
public import Idealize.ShloMosaic.Lib.Pipeline.ValueKit
public import Idealize.ShloMosaic.Lib.Claim

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

/-- The resource algebra of the run: the pipeline's, with the counters of the kernel's own transfers. -/
local notation "𝕄" => MT nD τ sig Unit (Elt F) ℕ (Pipeline.UD sig nD τ) ℕ

variable (m : (ℓ : Loc nD τ sig) → Buf (Elt F) ℓ) (ρ : Dev nD → PrngReg) (c : Dev nD)

/-! ## The ring buffers cut into slots -/

theorem mem_slC (k : Fin 2) (i : S2x1024x1408.Idx) : i ∈ (slC k).view.set ↔ (i 0).val = k.val := by
  unfold slC
  rw [Memref.set_view_squeeze]
  refine Iff.trans (Finset.ext_iff.mp (View.set_slice_whole cc0_scratch0 (Rect.unit (s := S2x1024x1408) ![k.val, 0, 0] S1x1024x1408.size (inbC k))) i) ?_
  rw [Rect.mem_set_unit]
  constructor
  · intro h
    have h0 : k.val ≤ (i 0).val ∧ (i 0).val < k.val + 1 := h 0
    omega
  · intro h a
    fin_cases a
    · show k.val ≤ (i 0).val ∧ (i 0).val < k.val + 1
      omega
    · show 0 ≤ (i 1).val ∧ (i 1).val < 0 + 1024
      have : (i 1).val < 1024 := (i 1).isLt
      omega
    · show 0 ≤ (i 2).val ∧ (i 2).val < 0 + 1408
      have : (i 2).val < 1408 := (i 2).isLt
      omega
theorem mem_slS (k : Fin 2) (i : S2x32x1408.Idx) : i ∈ (slS k).view.set ↔ (i 0).val = k.val := by
  unfold slS
  rw [Memref.set_view_squeeze]
  refine Iff.trans (Finset.ext_iff.mp (View.set_slice_whole cc0_scratch1 (Rect.unit (s := S2x32x1408) ![k.val, 0, 0] S1x32x1408.size (inbS k))) i) ?_
  rw [Rect.mem_set_unit]
  constructor
  · intro h
    have h0 : k.val ≤ (i 0).val ∧ (i 0).val < k.val + 1 := h 0
    omega
  · intro h a
    fin_cases a
    · show k.val ≤ (i 0).val ∧ (i 0).val < k.val + 1
      omega
    · show 0 ≤ (i 1).val ∧ (i 1).val < 0 + 32
      have : (i 1).val < 32 := (i 1).isLt
      omega
    · show 0 ≤ (i 2).val ∧ (i 2).val < 0 + 1408
      have : (i 2).val < 1408 := (i 2).isLt
      omega

/-- The elements of code slot `k`. -/
abbrev setC (k : Fin 2) : Finset (Idx ((c : Thread nD τ).loc cc0_scratch0)) := (slC k).view.set
/-- The elements of scale slot `k`. -/
abbrev setS (k : Fin 2) : Finset (Idx ((c : Thread nD τ).loc cc0_scratch1)) := (slS k).view.set
theorem setC_disj : ∀ k k' : Fin 2, k ≠ k' → Disjoint (setC c k) (setC c k') := fun k k' h =>
  Finset.disjoint_left.mpr fun i hi hi' => h (Fin.ext (((mem_slC k i).mp hi).symm.trans ((mem_slC k' i).mp hi')))
theorem setS_disj : ∀ k k' : Fin 2, k ≠ k' → Disjoint (setS c k) (setS c k') := fun k k' h =>
  Finset.disjoint_left.mpr fun i hi hi' => h (Fin.ext (((mem_slS k i).mp hi).symm.trans ((mem_slS k' i).mp hi')))
theorem setC_cover : Finset.univ.biUnion (setC c) = Finset.univ :=
  Finset.eq_univ_iff_forall.mpr fun i => Finset.mem_biUnion.mpr ⟨⟨(i (0 : Fin 3)).val, (i (0 : Fin 3)).isLt⟩, Finset.mem_univ _, (mem_slC _ i).mpr rfl⟩
theorem setS_cover : Finset.univ.biUnion (setS c) = Finset.univ :=
  Finset.eq_univ_iff_forall.mpr fun i => Finset.mem_biUnion.mpr ⟨⟨(i (0 : Fin 3)).val, (i (0 : Fin 3)).isLt⟩, Finset.mem_univ _, (mem_slS _ i).mpr rfl⟩

theorem sep_two (Φ : Fin 2 → sProp 𝕄) : bigSep Finset.univ Φ = iprop(Φ 0 ∗ Φ 1) :=
  bigSep_univ_eq_bigSepL [(0 : Fin 2), (1 : Fin 2)] (by decide) (by decide) Φ

theorem cutC (f : Buf (Elt F) ((c : Thread nD τ).loc cc0_scratch0)) :
    (((c : Thread nD τ).loc cc0_scratch0) ↦{fullShare} f : sProp 𝕄) ⊢ iprop((∃ f, slotC c 0 f) ∗ ∃ f, slotC c 1 f) := by
  rw [Ring.pointsTo_blocks (setC c) (setC_disj c) (setC_cover c) f, sep_two]
  iintro ⟨A, B⟩
  isplitl [A]
  · iexists _; iexact A
  · iexists _; iexact B
theorem cutS (f : Buf (Elt F) ((c : Thread nD τ).loc cc0_scratch1)) :
    (((c : Thread nD τ).loc cc0_scratch1) ↦{fullShare} f : sProp 𝕄) ⊢ iprop((∃ f, slotS c 0 f) ∗ ∃ f, slotS c 1 f) := by
  rw [Ring.pointsTo_blocks (setS c) (setS_disj c) (setS_cover c) f, sep_two]
  iintro ⟨A, B⟩
  isplitl [A]
  · iexists _; iexact A
  · iexists _; iexact B
theorem glueC : iprop((∃ f, slotC c 0 f) ∗ ∃ f, slotC c 1 f) ⊢ (iprop(∃ f, ((c : Thread nD τ).loc cc0_scratch0) ↦{fullShare} f) : sProp 𝕄) := by
  iintro ⟨⟨%f, A⟩, B⟩
  iapply (Ring.pointsTo_blocks_join_exists (setC c) (setC_disj c) (setC_cover c) (q := fullShare) f)
  rw [sep_two]
  isplitl [A]
  · iexists f; iexact A
  · iexact B
theorem glueS : iprop((∃ f, slotS c 0 f) ∗ ∃ f, slotS c 1 f) ⊢ (iprop(∃ f, ((c : Thread nD τ).loc cc0_scratch1) ↦{fullShare} f) : sProp 𝕄) := by
  iintro ⟨⟨%f, A⟩, B⟩
  iapply (Ring.pointsTo_blocks_join_exists (setS c) (setS_disj c) (setS_cover c) (q := fullShare) f)
  rw [sep_two]
  isplitl [A]
  · iexists f; iexact A
  · iexact B

/-! ## The kernel's own cells and the tables it reads by its own transfers -/

/-- The ring's four cells. -/
abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(semVal ((c : Thread nD τ), cell 0 0) 0 ∗ semVal ((c : Thread nD τ), cell 0 1) 0
          ∗ semVal ((c : Thread nD τ), cell 1 0) 0 ∗ semVal ((c : Thread nD τ), cell 1 1) 0) := by
  rw [Pipeline.ownSems0_eq_of_list c osem0 [0, 1, 2, 3] (by decide) (by decide)]; rfl
/-- The two expert tables. -/
def H0 : Finset (Ref sig .tc) := {main_arg3, main_arg4}
theorem H0_sub : H0 ⊆ Pipeline.restRefsP sig Pipeline.Prefetch.none spec0 := by decide
theorem tables_eq :
    (bigSep H0 (fun b => ((c : Thread nD τ).loc b) ↦{fullShare} V m c b) : sProp 𝕄)
      = iprop((((c : Thread nD τ).loc main_arg3) ↦{fullShare} V m c main_arg3) ∗ (((c : Thread nD τ).loc main_arg4) ↦{fullShare} V m c main_arg4)) := by
  rw [BI.bigSep_eq_bigSepL_of_eq [main_arg3, main_arg4] (by decide) (by decide)]; rfl

/-- What the body's invariant holds at both ends. -/
abbrev Phi : sProp 𝕄 := Pipeline.ΦDRV osem0 spec0 H0 ∅ (V m) (V m) c

/-- The parts of the tables' shares that no transfer borrows. -/
abbrev kept : sProp 𝕄 :=
  iprop((((c : Thread nD τ).loc main_arg3) ↦{Transfers.shareDrop fullShare 2} V m c main_arg3) ∗ (((c : Thread nD τ).loc main_arg4) ↦{Transfers.shareDrop fullShare 2} V m c main_arg4))

theorem toks3 : (((c : Thread nD τ).loc main_arg3) ↦{fullShare} V m c main_arg3 : sProp 𝕄)
    = iprop((((c : Thread nD τ).loc main_arg3) ↦{Transfers.shareDrop fullShare 2} V m c main_arg3) ∗ tokC c 0 Finset.univ (V m c main_arg3) ∗ tokC c 1 Finset.univ (V m c main_arg3)) := by
  have h := Transfers.pointsTo_toks (Ix := Unit) (Name := ℕ) (U := Pipeline.UD sig nD τ) (Lvl := ℕ) (ℓ := (c : Thread nD τ).loc main_arg3) (S := Finset.univ) (f := V m c main_arg3) fullShare 2
  rw [sep_two] at h
  exact BI.equiv_iff.mp ⟨h.1, h.2⟩
theorem toks4 : (((c : Thread nD τ).loc main_arg4) ↦{fullShare} V m c main_arg4 : sProp 𝕄)
    = iprop((((c : Thread nD τ).loc main_arg4) ↦{Transfers.shareDrop fullShare 2} V m c main_arg4) ∗ tokS c 0 Finset.univ (V m c main_arg4) ∗ tokS c 1 Finset.univ (V m c main_arg4)) := by
  have h := Transfers.pointsTo_toks (Ix := Unit) (Name := ℕ) (U := Pipeline.UD sig nD τ) (Lvl := ℕ) (ℓ := (c : Thread nD τ).loc main_arg4) (S := Finset.univ) (f := V m c main_arg4) fullShare 2
  rw [sep_two] at h
  exact BI.equiv_iff.mp ⟨h.1, h.2⟩

/-- The launch's resources as the body holds them, -/
theorem enter : Phi m c ⊢ iprop((∃ f, flagP c f) ∗ (∃ f, liveP c f) ∗ (Free c (V m c main_arg3) (V m c main_arg4) 0 ∗ Free c (V m c main_arg3) (V m c main_arg4) 1) ∗ kept m c) := by
  unfold Phi Pipeline.ΦDRV
  rw [scopedRest0_eq, ownSems00_eq, tables_eq, BI.bigSep_empty, toks3, toks4]
  iintro ⟨⟨⟨%f0, S0⟩, ⟨%f1, S1⟩, ⟨%f2, S2⟩, ⟨%f3, S3⟩⟩, ⟨Q00, Q01, Q10, Q11⟩, ⟨⟨K3, A3, B3⟩, ⟨K4, A4, B4⟩⟩, -⟩
  ihave S0' := (cutC c f0) $$ S0
  ihave S1' := (cutS c f1) $$ S1
  icases S0' with ⟨C0, C1⟩
  icases S1' with ⟨D0, D1⟩
  isplitl [S3]
  · iexists f3; iexact S3
  isplitl [S2]
  · iexists f2; iexact S2
  isplitl [Q00 Q01 Q10 Q11 A3 B3 A4 B4 C0 C1 D0 D1]
  · isplitl [Q00 Q01 A3 A4 C0 D0]
    · iframe Q00 Q01 C0 D0 A3 A4
    · iframe Q10 Q11 C1 D1 B3 B4
  · iframe K3 K4

/-- and back. -/
theorem leave : iprop((∃ f, flagP c f) ∗ (∃ f, liveP c f) ∗ (Free c (V m c main_arg3) (V m c main_arg4) 0 ∗ Free c (V m c main_arg3) (V m c main_arg4) 1) ∗ kept m c) ⊢ Phi m c := by
  unfold Phi Pipeline.ΦDRV
  rw [scopedRest0_eq, ownSems00_eq, tables_eq, BI.bigSep_empty, toks3, toks4]
  iintro ⟨⟨%f3, S3⟩, ⟨%f2, S2⟩, ⟨⟨Q00, Q01, C0, D0, A3, A4⟩, ⟨Q10, Q11, C1, D1, B3, B4⟩⟩, ⟨K3, K4⟩⟩
  isplitl [C0 C1 D0 D1 S2 S3]
  · isplitl [C0 C1]
    · iapply (glueC (F := F) c)
      iframe C0 C1
    isplitl [D0 D1]
    · iapply (glueS (F := F) c)
      iframe D0 D1
    isplitl [S2]
    · iexists f2; iexact S2
    · iexists f3; iexact S3
  isplitl [Q00 Q01 Q10 Q11]
  · iframe Q00 Q01 Q10 Q11
  isplitl [K3 K4 A3 B3 A4 B4]
  · isplitl [K3 A3 B3]
    · iframe K3 A3 B3
    · iframe K4 A4 B4
  · iempintro

/-! ## The proof data -/

/-- The ids, as the region finds them. -/
abbrev idsV : Vec F S128x4 .i32 := V m c main_v0
/-- The activations. -/
abbrev xV : Vec F S128x2048 .bf16 := sub (Rect.unit (s := S128x2048) ![0, 0] S128x2048.size inb_S128x2048_S128x2048_0_0) (V m c main_v1)
/-- The pair products the run leaves. -/
def pF : Vec F S128x4x1408 .f32 := pdV (idsV m c) (xV m c) (hcM.view.read (Elt F) (V m c main_arg3)) (hsM.view.read (Elt F) (V m c main_arg4))
/-- The mixed output the run leaves. -/
def yF : Vec F S128x1408 .bf16 := yV (xV m c) (V m c main_v2) (V m c main_arg1) (V m c main_arg2) (pF m c)

/-- The proof data: inputs left in place, the two outputs at their values. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yF m c
    | ⟨7, _⟩ => pF m c
    | ⟨_ + 8, h⟩ => absurd h (Nat.not_lt.2 (Nat.le_add_left _ _))
  Φ _ := Phi m c
  q := Pipeline.shareOf spec0
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = yF m c := by dsimp only [dats]
theorem after_7 (c : Dev nD) (t : Fin cfg0.N) : (dats m 0 c).after 7 t = pF m c := by dsimp only [dats]

theorem before_0 (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- A window's block is its whole array. -/
theorem iblk_0 (t : Fin cfg0.N) : iblk m c 0 t = V m c main_v0 := by
  rw [fin_N0 t]; funext y; unfold iblk; blk_simp; exact congrArg _ (funext fun a => Fin.ext (by fin_cases a <;> blk_simp <;> exact (congrArg (· + _) (Nat.zero_mul _)).trans (Nat.zero_add _)))
theorem iblk_1 (t : Fin cfg0.N) : iblk m c 1 t = V m c main_v1 := by
  rw [fin_N0 t]; funext y; unfold iblk; blk_simp; exact congrArg _ (funext fun a => Fin.ext (by fin_cases a <;> blk_simp <;> exact (congrArg (· + _) (Nat.zero_mul _)).trans (Nat.zero_add _)))
theorem iblk_2 (t : Fin cfg0.N) : iblk m c 2 t = V m c main_arg1 := by
  rw [fin_N0 t]; funext y; unfold iblk; blk_simp; exact congrArg _ (funext fun a => Fin.ext (by fin_cases a <;> blk_simp <;> exact (congrArg (· + _) (Nat.zero_mul _)).trans (Nat.zero_add _)))
theorem iblk_3 (t : Fin cfg0.N) : iblk m c 3 t = V m c main_arg2 := by
  rw [fin_N0 t]; funext y; unfold iblk; blk_simp; exact congrArg _ (funext fun a => Fin.ext (by fin_cases a <;> blk_simp <;> exact (congrArg (· + _) (Nat.zero_mul _)).trans (Nat.zero_add _)))
theorem iblk_4 (t : Fin cfg0.N) : iblk m c 4 t = V m c main_v0 := by
  rw [fin_N0 t]; funext y; unfold iblk; blk_simp; exact congrArg _ (funext fun a => Fin.ext (by fin_cases a <;> blk_simp <;> exact (congrArg (· + _) (Nat.zero_mul _)).trans (Nat.zero_add _)))
theorem iblk_5 (t : Fin cfg0.N) : iblk m c 5 t = V m c main_v2 := by
  rw [fin_N0 t]; funext y; unfold iblk; blk_simp; exact congrArg _ (funext fun a => Fin.ext (by fin_cases a <;> blk_simp <;> exact (congrArg (· + _) (Nat.zero_mul _)).trans (Nat.zero_add _)))

/-! ## The body obligation -/

/-- The body's precondition at the one point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
/-- and its postcondition. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- A run followed by a weaker postcondition, with a frame kept aside. -/
theorem wp_keep {A : Type} (e : Prog (TpuEff nD τ sig (Elt F) Λ₀ .tc) A) (P K : sProp 𝕄) (Q Q' : A → sProp 𝕄)
    (h : P ⊢ wp frame (wpE (defs₀ (F := F)) Variants.none (c : Thread nD τ) none) Set.univ e Q) (hQ : ∀ a, iprop(Q a ∗ K) ⊢ Q' a) :
    iprop(P ∗ K) ⊢ wp frame (wpE (defs₀ (F := F)) Variants.none (c : Thread nD τ) none) Set.univ e Q' :=
  (BI.Laws.sep_mono h .rfl).trans ((wp_frame_r _ _ _).trans (wp_mono _ _ _ hQ))

set_option maxHeartbeats 1000000 in
theorem sound_body (hids : ∀ i, ((idsV m c) i).toNat < 60) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Phi m c from rfl, show (dats m 0 c).Φ t.castSucc = Phi m c from rfl]
  rw [after_0, after_1, after_2, after_3, after_4, after_5, after_6, after_7]
  simp only [before_0, before_1, before_2, before_3, before_4, before_5]
  unfold Dat.owesAt Pipeline.owesWithin
  rw [show (dats m 0 c).owed t.castSucc = 0 from rfl, show (dats m 0 c).owed t.succ = 0 from rfl]
  unfold owns
  iintro ⟨HP, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, -, H6⟩, ⟨%d7, %f7, -, H7⟩⟩
  ihave HP' := (enter m c) $$ HP
  icases HP' with ⟨Hf, Hl, HF, HK⟩
  have hr := run_body c (st0_0 t) (hstage0_0 0) (st0_1 t) (hstage0_1 0) (st0_2 t) (hstage0_2 0) (st0_3 t) (hstage0_3 0) (st0_4 t) (hstage0_4 0) (st0_5 t) (hstage0_5 0)
    (st0_6 t) (hstage0_6 0) (st0_7 t) (hstage0_7 0) (V m c main_arg3) (V m c main_arg4) f0 (by rw [e0, iblk_0]; exact hids) f1 f2 f3 f4 f5 (by rw [e4, e0, iblk_4, iblk_0])
  iapply (wp_keep c _ _ (kept m c) _ _ hr ?_)
  swap
  · isplitl [H0 Hf Hl HF H1 H2 H3 H4 H5 H6 H7 HW]
    · isplitl [H0]; · iexact H0
      isplitl [Hf]; · iexact Hf
      isplitl [Hl]; · iexact Hl
      isplitl [HF]; · iexact HF
      isplitl [H1]; · iexact H1
      isplitl [H2]; · iexact H2
      isplitl [H3]; · iexact H3
      isplitl [H4]; · iexact H4
      isplitl [H5]; · iexact H5
      isplitl [H6]
      · iexists f6
        isplitl [H6]; · iexact H6
        ipureintro; trivial
      isplitl [H7]
      · iexists f7
        isplitl [H7]; · iexact H7
        ipureintro; trivial
      iexists W; iexact HW
    · iexact HK
  intro a
  iintro ⟨⟨H0, Hf, Hl, HF, H1, H2, H3, H4, H5, ⟨%g6, H6, %e6⟩, ⟨%g7, H7, %e7⟩, ⟨%W', HW'⟩⟩, HK⟩
  isplitl [Hf Hl HF HK]
  · iapply (leave m c)
    iframe Hf Hl HF HK
  isplitl [HW']
  · iexists W'; isplitr; · ipureintro; exact fun _ _ => Or.inl trivial
    iexact HW'
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  have x1 : View.read (Elt F) (st0_1 t).view f1 = V m c main_v1 := e1.trans (iblk_1 m c t)
  have x2 : View.read (Elt F) (st0_2 t).view f2 = V m c main_arg1 := e2.trans (iblk_2 m c t)
  have x3 : View.read (Elt F) (st0_3 t).view f3 = V m c main_arg2 := e3.trans (iblk_3 m c t)
  have x4 : View.read (Elt F) (st0_4 t).view f4 = V m c main_v0 := e4.trans (iblk_4 m c t)
  have x5 : View.read (Elt F) (st0_5 t).view f5 = V m c main_v2 := e5.trans (iblk_5 m c t)
  have hx : xin c (st0_1 t) f1 = xV m c := by unfold xin; rw [x1]
  rw [hx, x4] at e7
  rw [hx, x2, x3, x4, x5] at e6
  isplitl [H6]
  · iexists g6; isplitr; · ipureintro; exact e6
    iexact H6
  · iexists g7; isplitr; · ipureintro; exact e7
    iexact H7

theorem defs₀_row (t : Fin cfg0.N) :
    defs₀ (F := F) .tc cfg0.body (cfg0.bodyArgs t (cfg0.slots t)) = bodyAt0 t := by
  unfold defs₀; rw [Defs.onTc_tc]

theorem body_obligation (hids : ∀ i, ((idsV m c) i).toNat < 60) : BodyObligation (dats (F := F) m 0 c) (defs₀ (F := F)) Variants.none () Set.univ := fun t => by
  rw [bigSep_W0, bigSep_W0, defs₀_row]
  exact triple_restated (sound_body m c hids t) rfl .rfl fun _ => .rfl

/-! ## The arrays at the end -/

theorem arr_6 : (dats m 0 c).arrAt 6 cfg0.N = yF m c :=
  (dats m 0 c).arrAt_eq_of_after_last 6 t0_0 (by decide +kernel) _ fun j => by
    rw [after_6]
    blk_simp
theorem arr_7 : (dats m 0 c).arrAt 7 cfg0.N = pF m c :=
  (dats m 0 c).arrAt_eq_of_after_last 7 t0_0 (by decide +kernel) _ fun j => by
    rw [after_7]
    blk_simp

/-- A buffer that no window stages and no host line writes after the region ends as the region found it. -/
theorem tail_arg (A : (w : Fin 8) → Buf (Elt F) ((spec0 w).arr.view.loc (c.tc : Thread nD τ))) (b : Ref sig .tc)
    (h4 : b ≠ main_v4) (h5 : b ≠ main_v5) (hw : ∀ w, Pipeline.arrRef spec0 w ≠ b) :
    StableHlo.after ([hostOps1] : List (List (HloOp τ sig (Elt F)))).flatten (Pipeline.withArrays spec0 c (Pipeline.withR (V0 m c) ∅ c (V m c)) A) (Proc.devRef .tc b) = V m c b := by
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact ⟨StableHlo.devRef_ne_of_ne h4, StableHlo.devRef_ne_of_ne h5⟩)),
    Pipeline.withArrays_of_ne _ c _ _ b hw, Pipeline.withR_of_not_mem _ _ _ _ b (Finset.notMem_empty _)]

/-- Windows that share an array are inputs, and an input's array is as the region found it. -/
theorem arrs_shared : ∀ w w' : Fin 8, w ≠ w' → Pipeline.arrRef spec0 w = Pipeline.arrRef spec0 w' →
    (dats m 0 c).arrAt w cfg0.N = Pipeline.withR (V0 m c) ∅ c (V m c) (Proc.devRef .tc (Pipeline.arrRef spec0 w)) := by
  intro w w' hne he
  rw [Pipeline.withR_of_not_mem _ _ _ _ _ (Finset.notMem_empty _)]
  have hi : (cfg0.win w).isOut = false := by
    revert w w'
    decide
  rw [Dat.arrAt_in _ _ hi]
  exact A_eq m c w

theorem tail_v4 :
    StableHlo.after ([hostOps1] : List (List (HloOp τ sig (Elt F)))).flatten (Pipeline.withArrays spec0 c (Pipeline.withR (V0 m c) ∅ c (V m c)) fun w => (dats m 0 c).arrAt w cfg0.N) (Proc.devRef .tc main_v4)
      = shapeCast S1x128x1408 (yF m c) shapeCasts_S128x1408_S1x128x1408 := by
  simp only [hostOps1, List.flatten_cons, List.flatten_nil, List.append_nil, StableHlo.after_cons, StableHlo.after_nil]
  rw [StableHlo.reshape_result_ne (h := (by decide : main_v4 ≠ main_v5)), StableHlo.reshape_result]
  have h := Pipeline.withArrays_arr_shared spec0 c (Pipeline.withR (V0 m c) ∅ c (V m c)) (fun w => (dats m 0 c).arrAt w cfg0.N) (arrs_shared m c) 6
  exact congrArg (fun z : S128x1408.Idx → Elt F .bf16 => shapeCast S1x128x1408 z shapeCasts_S128x1408_S1x128x1408) (h.trans (arr_6 m c))
theorem tail_v5 :
    StableHlo.after ([hostOps1] : List (List (HloOp τ sig (Elt F)))).flatten (Pipeline.withArrays spec0 c (Pipeline.withR (V0 m c) ∅ c (V m c)) fun w => (dats m 0 c).arrAt w cfg0.N) (Proc.devRef .tc main_v5)
      = shapeCast S1x128x4x1408 (pF m c) shapeCasts_S128x4x1408_S1x128x4x1408 := by
  simp only [hostOps1, List.flatten_cons, List.flatten_nil, List.append_nil, StableHlo.after_cons, StableHlo.after_nil]
  rw [StableHlo.reshape_result, StableHlo.reshape_result_ne (h := (by decide : main_v3_1 ≠ main_v4))]
  have h := Pipeline.withArrays_arr_shared spec0 c (Pipeline.withR (V0 m c) ∅ c (V m c)) (fun w => (dats m 0 c).arrAt w cfg0.N) (arrs_shared m c) 7
  exact congrArg (fun z : S128x4x1408.Idx → Elt F .f32 => shapeCast S1x128x4x1408 z shapeCasts_S128x4x1408_S1x128x4x1408) (h.trans (arr_7 m c))

/-! ## The run -/

/-- THE RUN, at any values, from any memory whose expert ids lie below sixty: it ends, both results are the two value
    functions of the launched arrays, the arguments are unchanged and every semaphore counter is zero. -/
def Post (r : PUnit × MemSt nD τ sig (Elt F)) : Prop :=
  (∀ c : Dev nD,
    r.2.mem ((c.tc : Thread nD τ).loc main_v4) = shapeCast S1x128x1408 (yF m c) shapeCasts_S128x1408_S1x128x1408
    ∧ r.2.mem ((c.tc : Thread nD τ).loc main_v5) = shapeCast S1x128x4x1408 (pF m c) shapeCasts_S128x4x1408_S1x128x4x1408
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
  ∧ r.2.sem = fun _ => 0

set_option backward.isDefEq.respectTransparency.types false in
set_option maxHeartbeats 1600000 in
theorem run_main (hids : ∀ c i, ((idsV m c) i).toNat < 60) :
    θ_run defs (onTc (τ := τ) (main (F := F))) (s₀ m ρ) (Post m) := by
  refine Pipeline.θ_run_frameP_dmaR_aroundV_shared (fun q => (cfgs q).toPCfg (Val := Elt F)) (fun q => (cfgs q).toPCfg_adm) (dats m) (0 : Fin 1) launch₀0.toP osem0 defs₀ Variants.none
    ownSemFacts0 H0 ∅ H0_sub (Finset.empty_subset _) m ρ main (fun c => (body_obligation m c (hids c)).loose) (fun _ _ _ => rfl) (fun _ _ => rfl)
    (V0 m) [hostOps1] sfx_sub sfx_fresh sfx_keeps (V m)
    (Pipeline.hmain_around cfgs 0 defs₀ Variants.none m main [hostOps0] [hostOps1] (by simp only [List.Forall]; exact hostOps0_sub) (by simp only [List.Forall]; exact hostOps0_fresh) main_chain)
    (A_eq m) (fun _ k => k.elim0) (fun c => (show _ ⊢ Phi m c from by iintro ⟨H, -⟩; iexact H)) (fun _ => .rfl) (Q' := Post m) ?_
  intro r ⟨h, hs⟩
  refine ⟨fun c => ?_, hs⟩
  have hr := fun (b : Ref sig .tc) (hb : b ∈ Pipeline.restRefsP sig Pipeline.Prefetch.none spec0) => (h c).2 b hb
  have hw := (h c).1
  exact ⟨(hr main_v4 (by decide)).trans (tail_v4 m c), (hr main_v5 (by decide)).trans (tail_v5 m c),
    ((hr main_arg0 (by decide)).trans (tail_arg m c _ main_arg0 (by decide) (by decide) (by decide))).trans (V_main_arg0 m c),
    ((hw 2).trans (((dats m 0 c).arrAt_in 2 rfl _).trans (A_eq m c 2))).trans (V_main_arg1 m c),
    ((hw 3).trans (((dats m 0 c).arrAt_in 3 rfl _).trans (A_eq m c 3))).trans (V_main_arg2 m c),
    ((hr main_arg3 (by decide)).trans (tail_arg m c _ main_arg3 (by decide) (by decide) (by decide))).trans (V_main_arg3 m c),
    ((hr main_arg4 (by decide)).trans (tail_arg m c _ main_arg4 (by decide) (by decide) (by decide))).trans (V_main_arg4 m c),
    ((hr main_arg5 (by decide)).trans (tail_arg m c _ main_arg5 (by decide) (by decide) (by decide))).trans (V_main_arg5 m c),
    ((hr main_arg6 (by decide)).trans (tail_arg m c _ main_arg6 (by decide) (by decide) (by decide))).trans (V_main_arg6 m c)⟩

/-- The ids the kernel reads are the launched ids, reshaped. -/
theorem ids_lt (c : Dev nD) (h : ∀ i, ((m ((c.tc : Thread nD τ).loc main_arg5) : S1x128x4.Idx → BitVec 32) i).toNat < 60) (i) : ((idsV m c) i).toNat < 60 := by
  unfold idsV
  entry_read
  exact h _

end Cert.KernelIdeal.Run

end
-- ==== Proof.Low.Scan.lean ====
/- The kernel's first three loops: they clear a flag per expert, set the flag of every expert an id names, and list the
   flagged experts. Stated as loop invariants over the kernel's two tables in scalar memory. -/
module

public import proofs.«01_k».proof.Proof.Gen.Kernel.Skeleton
public import proofs.«01_k».proof.Proof.Gen.Kernel.Loops
public import Idealize.ShloMosaic.Lib.Tactic
public import Idealize.ShloMosaic.Lib.Pointwise
public import Idealize.ShloMosaic.Lib.Tactic.Stretches
public import Idealize.ShloMosaic.Lib.CellWrites
public import Idealize.ShloMosaic.Lib.Pipeline.Kit
public import Idealize.ShloMosaic.Lib.Pipeline.FrameBody

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

/-- The flag table. -/
abbrev flagM : Memref sig .tc .smem S60 .i32 := Memref.whole cc0_scratch3
/-- The list of live experts. -/
abbrev liveM : Memref sig .tc .smem S61 .i32 := Memref.whole cc0_scratch2

/-- The flag table holds `f`. -/
abbrev flagP (f : Buf (Elt F) (flagM.view.loc (c : Thread nD τ))) : sProp 𝕄 :=
  iprop(flagM.view.loc (c : Thread nD τ) ↦[flagM.view.set]{fullShare} f)
/-- The list of live experts holds `f`. -/
abbrev liveP (f : Buf (Elt F) (liveM.view.loc (c : Thread nD τ))) : sProp 𝕄 :=
  iprop(liveM.view.loc (c : Thread nD τ) ↦[liveM.view.set]{fullShare} f)
/-- The ids in scalar memory hold `X`. -/
abbrev idsP (X : Buf (Elt F) (arg0.view.loc (c : Thread nD τ))) : sProp 𝕄 :=
  iprop(arg0.view.loc (c : Thread nD τ) ↦[arg0.view.set]{fullShare} X)

/-- Element `e` of the flag table after a store of one word. -/
theorem flag_cell (f : Buf (Elt F) (flagM.view.loc (c : Thread nD τ))) {off : Fin 1 → ℕ} (inb : ∀ a, off a + S1.size a ≤ S60.size a)
    (p : BitVec 32) (L : List (View.Piece (Elt F) S60 .i32)) (y : S60.Idx) :
    flagM.view.read (Elt F) (flagM.view.writes (Elt F) f ((⟨Rect.unit off S1.size inb, fun _ => p⟩ : View.Piece (Elt F) S60 .i32) :: L)) y
      = if (y 0).val = off 0 then p else flagM.view.read (Elt F) (flagM.view.writes (Elt F) f L) y :=
  View.read_writes_cons_cell flagM.view f inb p L y

/-- Element `y` of the list of live experts after a store of one word. -/
theorem live_cell (f : Buf (Elt F) (liveM.view.loc (c : Thread nD τ))) {off : Fin 1 → ℕ} (inb : ∀ a, off a + S1.size a ≤ S61.size a)
    (p : BitVec 32) (L : List (View.Piece (Elt F) S61 .i32)) (y : S61.Idx) :
    liveM.view.read (Elt F) (liveM.view.writes (Elt F) f ((⟨Rect.unit off S1.size inb, fun _ => p⟩ : View.Piece (Elt F) S61 .i32) :: L)) y
      = if (y 0).val = off 0 then p else liveM.view.read (Elt F) (liveM.view.writes (Elt F) f L) y :=
  View.read_writes_cons_cell liveM.view f inb p L y

set_option warn.classDefReducibility false in
/-- The clearing loop: before trip `k` the flags below `k` are zero. -/
@[sl_loop] def loopInv_t1 :
    LoopInvTy_k0_t1 (F := F) Unit ℕ (Pipeline.UD sig nD τ) ℕ Variants.none c none Set.univ arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 where
  inv k _ := iprop(∃ f, flagP c f ∗ ⌜∀ e : S60.Idx, (e 0).val < k → flagM.view.read (Elt F) f e = 0#32⌝)
  step k _ := by
    iintro ⟨%f, H, %hf⟩
    unfold k0_t1_body
    sl_exec
    sl_step
    iexists _
    isplitl [H]; · iexact H
    ipureintro
    intro e he
    rw [flag_cell]
    split
    · rfl
    · rename_i hne
      rw [k0_off1_eq] at hne
      exact hf e (by have : (e 0).val ≠ k.val := hne; omega)

/-- The flag of expert `e` is one exactly when an id among the first `n` rows is `e`. -/
def Flag (ids : S128x4.Idx → BitVec 32) (n : ℕ) (f : S60.Idx → BitVec 32) : Prop :=
  ∀ e : S60.Idx, f e = if ∃ i : S128x4.Idx, (i 0).val < n ∧ (ids i).toNat = (e 0).val then 1#32 else 0#32

theorem chk1_of (w : BitVec 32) (h : w.toNat < 60) : k0_chk1 w := by
  unfold k0_chk1 k0_off3; intro a; fin_cases a; show w.toNat + 1 ≤ 60; omega
theorem chk2_of (w : BitVec 32) (h : w.toNat < 60) : k0_chk2 w := chk1_of w h
theorem chk3_of (w : BitVec 32) (h : w.toNat < 60) : k0_chk3 w := chk1_of w h
theorem chk4_of (w : BitVec 32) (h : w.toNat < 60) : k0_chk4 w := chk1_of w h
theorem chk5_of (w : BitVec 32) (h : w.toNat < 61) : k0_chk5 w := by
  unfold k0_chk5 k0_off10; intro a; fin_cases a; show w.toNat + 1 ≤ 61; omega

variable {arg0} in
/-- Every word read of the ids is in range when every id is. -/
theorem word_lt {X : Buf (Elt F) (arg0.view.loc (c : Thread nD τ))} (hX : ∀ i, (arg0.view.read (Elt F) X i).toNat < 60)
    (r : LoadRect S128x4) (x) : (show BitVec 32 from arg0.view.readAt (Elt F) r X x).toNat < 60 := hX _

/-- Setting the flags of row `k`'s four ids takes the flags of `k` rows to those of `k + 1`. -/
theorem flag_step (ids : S128x4.Idx → BitVec 32) (k : ℕ) (hk : k < 128) (f f' : S60.Idx → BitVec 32) (h : Flag ids k f)
    (w : Fin 4 → BitVec 32) (hw : ∀ j, w j = ids (ix2 ⟨k, hk⟩ j))
    (hf' : ∀ e : S60.Idx, f' e = if (e 0).val = (w 3).toNat then 1#32 else if (e 0).val = (w 2).toNat then 1#32 else
      if (e 0).val = (w 1).toNat then 1#32 else if (e 0).val = (w 0).toNat then 1#32 else f e) : Flag ids (k + 1) f' := by
  intro e
  rw [hf' e, h e]
  by_cases hx : ∃ j, (e 0).val = (w j).toNat
  · obtain ⟨j, hj⟩ := hx
    have hr : ∃ i : S128x4.Idx, (i 0).val < k + 1 ∧ (ids i).toNat = (e 0).val :=
      ⟨ix2 ⟨k, hk⟩ j, Nat.lt_succ_self k, by rw [← hw, hj]⟩
    rw [if_pos hr]
    fin_cases j <;> simp_all
  · have hx' : ∀ j, ¬(e 0).val = (w j).toNat := fun j hj => hx ⟨j, hj⟩
    rw [if_neg (hx' 3), if_neg (hx' 2), if_neg (hx' 1), if_neg (hx' 0)]
    congr 1
    apply propext
    constructor
    · rintro ⟨i, hi, he⟩; exact ⟨i, by omega, he⟩
    · rintro ⟨i, hi, he⟩
      refine ⟨i, ?_, he⟩
      by_contra hlt
      idx_vars i
      have h0 : i0 = (⟨k, hk⟩ : Fin 128) := Fin.ext (show i0.val = k by
        have h1 : i0.val < k + 1 := hi
        have h2 : ¬i0.val < k := hlt
        omega)
      subst h0
      exact hx' i1 (by rw [hw, ← he])

/-- The word read of the ids at row `t`, column `j`. -/
theorem ids_word (X : Buf (Elt F) (arg0.view.loc (c : Thread nD τ))) {off : Fin 2 → ℕ} (inb : ∀ a, off a + S1x1.size a ≤ S128x4.size a)
    (t : ℕ) (ht : t < 128) (j : Fin 4) (h : off = ![t, j.val]) (x) :
    arg0.view.readAt (Elt F) (Rect.unit (s := S128x4) off S1x1.size inb).toLoadRect X x = arg0.view.read (Elt F) X (ix2 ⟨t, ht⟩ j) := by
  subst h
  refine congrArg (arg0.view.read (Elt F) X) (funext fun a => Fin.ext ?_)
  have hx : ∀ a, (x a).val = 0 := fun a => by
    have := (x a).isLt
    fin_cases a <;> exact Nat.lt_one_iff.mp this
  fin_cases a
  · show t + 1 * (x 0).val = t; rw [hx]; rfl
  · show j.val + 1 * (x 1).val = j.val; rw [hx]; rfl

set_option warn.classDefReducibility false in
/-- The flagging loop: before trip `k` the flags are those of the first `k` rows of ids. -/
def loopInv_t2 (X : Buf (Elt F) (arg0.view.loc (c : Thread nD τ))) (hX : ∀ i, (arg0.view.read (Elt F) X i).toNat < 60) :
    LoopInvTy_k0_t2 (F := F) Unit ℕ (Pipeline.UD sig nD τ) ℕ Variants.none c none Set.univ arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 where
  inv k _ := iprop(idsP c arg0 X ∗ ∃ f, flagP c f ∗ ⌜Flag (arg0.view.read (Elt F) X) k (flagM.view.read (Elt F) f)⌝)
  step k _ := by
    iintro ⟨H0, %f, H, %hf⟩
    unfold k0_t2_body
    sl_exec (disch := first | exact chk1_of _ (word_lt c hX _ _) | exact chk2_of _ (word_lt c hX _ _) | exact chk3_of _ (word_lt c hX _ _) | exact chk4_of _ (word_lt c hX _ _))
    sl_step
    isplitl [H0]; · iexact H0
    iexists _
    isplitl [H]; · iexact H
    ipureintro
    have hk : k.val < 128 := Nat.lt_of_lt_of_le k.isLt k0_t2_abs.2.1
    refine flag_step _ k.val hk _ _ hf (fun j => arg0.view.read (Elt F) X (ix2 ⟨k.val, hk⟩ j)) (fun j => rfl) ?_
    intro e
    refine (flag_cell c f _ _ _ e).trans (if_congr (Eq.congr_right (congrArg BitVec.toNat (ids_word c arg0 X _ k.val hk 3 (k0_off8_eq k) _))) rfl ?_)
    refine (flag_cell c f _ _ _ e).trans (if_congr (Eq.congr_right (congrArg BitVec.toNat (ids_word c arg0 X _ k.val hk 2 (k0_off6_eq k) _))) rfl ?_)
    refine (flag_cell c f _ _ _ e).trans (if_congr (Eq.congr_right (congrArg BitVec.toNat (ids_word c arg0 X _ k.val hk 1 (k0_off4_eq k) _))) rfl ?_)
    exact (flag_cell c f _ _ _ e).trans (if_congr (Eq.congr_right (congrArg BitVec.toNat (ids_word c arg0 X _ k.val hk 0 (k0_off2_eq k) _))) rfl rfl)

/-- What the listing loop has done before trip `k`: `n` ids below 60 are listed, and every id below `k` is among them. -/
def Live (ids : S128x4.Idx → BitVec 32) (k : ℕ) (n : BitVec 32) (l : S61.Idx → BitVec 32) : Prop :=
  n.toNat ≤ k ∧ (∀ j : S61.Idx, (j 0).val < n.toNat → (l j).toNat < 60)
    ∧ ∀ i : S128x4.Idx, (ids i).toNat < k → ∃ j : S61.Idx, (j 0).val < n.toNat ∧ l j = ids i

/-- Writing `k` at the end of the list, and counting it when its flag is one. -/
theorem live_step (ids : S128x4.Idx → BitVec 32) (k : ℕ) (hk : k < 60) (n : BitVec 32) (l l' : S61.Idx → BitVec 32) (h : Live ids k n l)
    (w : BitVec 32) (hw : w.toNat = k) (hl' : ∀ y : S61.Idx, l' y = if (y 0).val = n.toNat then w else l y) (v : BitVec 32)
    (hv : v = if ∃ i : S128x4.Idx, (i 0).val < 128 ∧ (ids i).toNat = k then 1#32 else 0#32) : Live ids (k + 1) (Scalar.addi n v) l' := by
  obtain ⟨h1, h2, h3⟩ := h
  have old : ∀ j : S61.Idx, (j 0).val < n.toNat → l' j = l j := fun j hj => by rw [hl', if_neg (by omega)]
  by_cases hx : ∃ i : S128x4.Idx, (i 0).val < 128 ∧ (ids i).toNat = k
  · rw [if_pos hx] at hv
    subst hv
    have hn : (Scalar.addi n 1#32).toNat = n.toNat + 1 := by
      show (n + 1#32).toNat = _
      rw [BitVec.toNat_add]; show (n.toNat + 1) % 2 ^ 32 = _; omega
    refine ⟨by rw [hn]; omega, fun j hj => ?_, fun i hi => ?_⟩
    · rw [hn] at hj
      by_cases hjn : (j 0).val = n.toNat
      · rw [hl', if_pos hjn]; omega
      · rw [old j (by omega)]; exact h2 j (by omega)
    · rw [hn]
      by_cases hik : (ids i).toNat = k
      · refine ⟨ix1 ⟨n.toNat, by omega⟩, Nat.lt_succ_self _, ?_⟩
        exact (hl' _).trans ((if_pos rfl).trans (BitVec.eq_of_toNat_eq (by omega)))
      · obtain ⟨j, hj, he⟩ := h3 i (by omega)
        exact ⟨j, by omega, by rw [old j hj, he]⟩
  · rw [if_neg hx] at hv
    subst hv
    have hn : Scalar.addi n 0#32 = n := by show n + 0#32 = n; simp
    rw [hn]
    refine ⟨by omega, fun j hj => by rw [old j hj]; exact h2 j hj, fun i hi => ?_⟩
    have hik : (ids i).toNat ≠ k := fun he => hx ⟨i, (i 0).isLt, he⟩
    obtain ⟨j, hj, he⟩ := h3 i (by omega)
    exact ⟨j, hj, by rw [old j hj, he]⟩

set_option warn.classDefReducibility false in
/-- The listing loop. -/
def loopInv_t3 (ids : S128x4.Idx → BitVec 32) (fl : Buf (Elt F) (flagM.view.loc (c : Thread nD τ)))
    (hfl : Flag ids 128 (flagM.view.read (Elt F) fl)) :
    LoopInvTy_k0_t3 (F := F) Unit ℕ (Pipeline.UD sig nD τ) ℕ Variants.none c none Set.univ arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 0#32 where
  inv k n := iprop(flagP c fl ∗ ∃ f, liveP c f ∗ ⌜Live ids k n (liveM.view.read (Elt F) f)⌝)
  step k n := by
    iintro ⟨H0, %f, H, %hf⟩
    have hk : k.val < 60 := Nat.lt_of_lt_of_le k.isLt k0_t3_abs.2.1
    have hn : n.toNat < 61 := by have := hf.1; omega
    have hchk := chk5_of n hn
    unfold k0_t3_body
    sl_exec
    sl_step
    isplitl [H0]; · iexact H0
    iexists _
    isplitl [H]; · iexact H
    ipureintro
    have e10 : k0_off10 n 0 = n.toNat := rfl
    have hw : (Scf.iv 0#32 1#32 k.val : BitVec 32).toNat = k.val := by
      unfold Scf.iv; simp only [BitVec.toNat_add, BitVec.toNat_mul, BitVec.toNat_ofNat]; omega
    have hv : (flagM.view.readAt (Elt F) (Rect.unit (s := S60) (k0_off11 k) S1.size (k0_off11_inb k)).toLoadRect fl (Shape.Idx.first (numel1_S1.symm ▸ Nat.one_pos)) : BitVec 32)
        = flagM.view.read (Elt F) fl (ix1 ⟨k.val, hk⟩) := by
      refine congrArg (flagM.view.read (Elt F) fl) (funext fun a => Fin.ext ?_)
      fin_cases a
      show k0_off11 k 0 + 1 * 0 = k.val
      rw [k0_off11_eq]; rfl
    have main := live_step ids k.val hk n _ (liveM.view.read (Elt F) (liveM.view.writes (Elt F) f
      [⟨Rect.unit (k0_off10 n) S1.size (k0_off10_inb n hchk), fun _ => Scf.iv 0#32 1#32 k.val⟩])) hf
      (Scf.iv 0#32 1#32 k.val) hw (fun y => live_cell c f _ _ [] y) _ (hfl (ix1 ⟨k.val, hk⟩))
    rw [← hv] at main
    exact main

end Cert.Kernel.Run

end
-- ==== Proof.Low.Chk.lean ====
/- The side conditions. -/
module

public import proofs.«01_k».proof.Proof.Gen.Kernel.Skeleton
public import Idealize.ShloMosaic.Lib.Tactic
public import Idealize.ShloMosaic.Lib.LoopRemainder
public import Idealize.ShloMosaic.Lib.Pipeline.Kit
public import Idealize.ShloMosaic.Lib.Pipeline.FrameBody

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

theorem chk7_fin : ∀ n : Fin 61, k0_chk7 (BitVec.ofNat 32 n.val) := by decide +kernel
theorem chk9_fin : ∀ n : Fin 60, k0_chk9 (BitVec.ofNat 32 n.val) := by decide +kernel

end Cert.Kernel.Run

end
-- ==== Proof.Low.Ring.lean ====
/- The ring of two buffers the kernel streams an expert's packed codes and scales through: each slot and its cells, free or in
   flight with a row of the two tables in high-bandwidth memory. -/
module

public import proofs.«01_k».proof.Proof.Low.Scan
public import proofs.«01_k».proof.Proof.Low.Chk
public import Idealize.ShloMosaic.Lib.Ring
public import Idealize.ShloMosaic.Lib.Transfers

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

/-- The two code buffers. -/
abbrev cbM : Memref sig .tc .vmem S2x1024x1408 .i8 := Memref.whole cc0_scratch0
/-- The two scale buffers. -/
abbrev sbM : Memref sig .tc .vmem S2x32x1408 .bf16 := Memref.whole cc0_scratch1
/-- The experts' packed codes. -/
abbrev hcM : Memref sig .tc .hbm S60x1024x1408 .i8 := Memref.whole main_arg3
/-- The experts' scales. -/
abbrev hsM : Memref sig .tc .hbm S60x32x1408 .bf16 := Memref.whole main_arg4

theorem inbC (k : Fin 2) : ∀ a, (![k.val, 0, 0] : Fin 3 → ℕ) a + S1x1024x1408.size a ≤ S2x1024x1408.size a := by
  have := k.isLt; intro a; fin_cases a
  · show k.val + 1 ≤ 2; omega
  · show 0 + 1024 ≤ 1024; omega
  · show 0 + 1408 ≤ 1408; omega
theorem inbS (k : Fin 2) : ∀ a, (![k.val, 0, 0] : Fin 3 → ℕ) a + S1x32x1408.size a ≤ S2x32x1408.size a := by
  have := k.isLt; intro a; fin_cases a
  · show k.val + 1 ≤ 2; omega
  · show 0 + 32 ≤ 32; omega
  · show 0 + 1408 ≤ 1408; omega
theorem inbHC (e : Fin 60) : ∀ a, (![e.val, 0, 0] : Fin 3 → ℕ) a + S1x1024x1408.size a ≤ S60x1024x1408.size a := by
  have := e.isLt; intro a; fin_cases a
  · show e.val + 1 ≤ 60; omega
  · show 0 + 1024 ≤ 1024; omega
  · show 0 + 1408 ≤ 1408; omega
theorem inbHS (e : Fin 60) : ∀ a, (![e.val, 0, 0] : Fin 3 → ℕ) a + S1x32x1408.size a ≤ S60x32x1408.size a := by
  have := e.isLt; intro a; fin_cases a
  · show e.val + 1 ≤ 60; omega
  · show 0 + 32 ≤ 32; omega
  · show 0 + 1408 ≤ 1408; omega
theorem inbCell (k j : Fin 2) : ∀ a, (![k.val, j.val] : Fin 2 → ℕ) a + S1x1.size a ≤ S2x2.size a := by
  have := k.isLt; have := j.isLt; intro a; fin_cases a
  · show k.val + 1 ≤ 2; omega
  · show j.val + 1 ≤ 2; omega

/-- Code slot `k`. -/
def slC (k : Fin 2) : Memref sig .tc .vmem S1024x1408 .i8 :=
  (cbM.slice (Rect.unit (s := S2x1024x1408) ![k.val, 0, 0] S1x1024x1408.size (inbC k)) (fun _ => rfl)).squeeze S1024x1408 squeezes_S1x1024x1408_S1024x1408
/-- Scale slot `k`. -/
def slS (k : Fin 2) : Memref sig .tc .vmem S32x1408 .bf16 :=
  (sbM.slice (Rect.unit (s := S2x32x1408) ![k.val, 0, 0] S1x32x1408.size (inbS k)) (fun _ => rfl)).squeeze S32x1408 squeezes_S1x32x1408_S32x1408
/-- Expert `e`'s codes. -/
def rowC (e : Fin 60) : Memref sig .tc .hbm S1024x1408 .i8 :=
  (hcM.slice (Rect.unit (s := S60x1024x1408) ![e.val, 0, 0] S1x1024x1408.size (inbHC e)) (fun _ => rfl)).squeeze S1024x1408 squeezes_S1x1024x1408_S1024x1408
/-- Expert `e`'s scales. -/
def rowS (e : Fin 60) : Memref sig .tc .hbm S32x1408 .bf16 :=
  (hsM.slice (Rect.unit (s := S60x32x1408) ![e.val, 0, 0] S1x32x1408.size (inbHS e)) (fun _ => rfl)).squeeze S32x1408 squeezes_S1x32x1408_S32x1408
/-- Cell `(k, j)`: slot `k`'s codes (`j = 0`) or scales (`j = 1`). -/
abbrev cell (k j : Fin 2) : SemLoc sig :=
  .dma ((cc0_scratch4.slice (Rect.unit (s := S2x2) ![k.val, j.val] S1x1.size (inbCell k j))).squeeze S_ squeezes_S1x1_S_).sem

/-- The read token on the codes for slot `k`. -/
abbrev tokC (k : Fin 2) (S : Finset (Idx (hcM.view.loc (c : Thread nD τ)))) (X : Buf (Elt F) (hcM.view.loc (c : Thread nD τ))) : sProp 𝕄 :=
  hcM.view.loc (c : Thread nD τ) ↦[S]{Transfers.shareTok fullShare 2 k} X
/-- The read token on the scales for slot `k`. -/
abbrev tokS (k : Fin 2) (S : Finset (Idx (hsM.view.loc (c : Thread nD τ)))) (X : Buf (Elt F) (hsM.view.loc (c : Thread nD τ))) : sProp 𝕄 :=
  hsM.view.loc (c : Thread nD τ) ↦[S]{Transfers.shareTok fullShare 2 k} X
/-- Code slot `k` holds `f`. -/
abbrev slotC (k : Fin 2) (f : Buf (Elt F) ((slC k).view.loc (c : Thread nD τ))) : sProp 𝕄 :=
  (slC k).view.loc (c : Thread nD τ) ↦[(slC k).view.set]{fullShare} f
/-- Scale slot `k` holds `f`. -/
abbrev slotS (k : Fin 2) (f : Buf (Elt F) ((slS k).view.loc (c : Thread nD τ))) : sProp 𝕄 :=
  (slS k).view.loc (c : Thread nD τ) ↦[(slS k).view.set]{fullShare} f

/-- Slot `k` with its two cells idle: the buffers at anything, the read tokens whole. -/
abbrev Free (CC : Buf (Elt F) (hcM.view.loc (c : Thread nD τ))) (CS : Buf (Elt F) (hsM.view.loc (c : Thread nD τ))) (k : Fin 2) : sProp 𝕄 :=
  iprop(semVal ((c : Thread nD τ), cell k 0) 0 ∗ semVal ((c : Thread nD τ), cell k 1) 0 ∗ (∃ f, slotC c k f) ∗ (∃ f, slotS c k f)
    ∗ tokC c k Finset.univ CC ∗ tokS c k Finset.univ CS)

/-- Code slot `k` filled with expert `e`'s codes. -/
abbrev fillC (CC : Buf (Elt F) (hcM.view.loc (c : Thread nD τ))) (k : Fin 2) (e : Fin 60) (f : Buf (Elt F) ((slC k).view.loc (c : Thread nD τ))) :=
  (slC k).view.writes (Elt F) f [⟨Rect.whole S1024x1408, ReadAs.same.apply ((rowC e).view.read (Elt F) CC)⟩]
/-- Scale slot `k` filled with expert `e`'s scales. -/
abbrev fillS (CS : Buf (Elt F) (hsM.view.loc (c : Thread nD τ))) (k : Fin 2) (e : Fin 60) (f : Buf (Elt F) ((slS k).view.loc (c : Thread nD τ))) :=
  (slS k).view.writes (Elt F) f [⟨Rect.whole S32x1408, ReadAs.same.apply ((rowS e).view.read (Elt F) CS)⟩]

/-- Slot `k` in flight with expert `e`: each of its two cells owes the buffer filled and the lent part of the token. -/
abbrev Infl (CC : Buf (Elt F) (hcM.view.loc (c : Thread nD τ))) (CS : Buf (Elt F) (hsM.view.loc (c : Thread nD τ))) (k : Fin 2) (e : Fin 60) : sProp 𝕄 :=
  iprop((∃ f, Transfers.Flight (countersEmb (U := Pipeline.UD sig nD τ)) (c : Thread nD τ) (cell k 0) () 45056
        iprop(slotC c k (fillC c CC k e f) ∗ tokC c k (rowC e).view.set CC))
    ∗ tokC c k (Finset.univ \ (rowC e).view.set) CC
    ∗ (∃ f, Transfers.Flight (countersEmb (U := Pipeline.UD sig nD τ)) (c : Thread nD τ) (cell k 1) () 2816
        iprop(slotS c k (fillS c CS k e f) ∗ tokS c k (rowS e).view.set CS))
    ∗ tokS c k (Finset.univ \ (rowS e).view.set) CS)

/-! ## The slots and the words a trip names -/

theorem chk7_of (v : BitVec 32) (h : v.toNat ≤ 60) : k0_chk7 v := by
  have := chk7_fin ⟨v.toNat, by omega⟩
  rwa [show BitVec.ofNat 32 v.toNat = v by simp] at this
theorem chk9_of (v : BitVec 32) (h : v.toNat < 60) : k0_chk9 v := by
  have := chk9_fin ⟨v.toNat, by omega⟩
  rwa [show BitVec.ofNat 32 v.toNat = v by simp] at this
theorem chk6_of (v : BitVec 32) (h : v.toNat < 60) : k0_chk6 v := chk9_of v h
theorem chk8_of (v3 : BitVec 32) (t : Fin (k0_t4_loop v3).trips) (v : BitVec 32) (h : v.toNat < 60) : k0_chk8 v3 t v :=
  have := chk9_of v h; ⟨fun _ => this.1, fun _ => this.2.1, fun _ => this.2.2.1, fun _ => this.2.2.2⟩

theorem rem_toNat (i : ℕ) (hi : i < 62) : (Scalar.remsi (BitVec.ofNat 32 i) 2#32).toNat = i % 2 := by
  have : ∀ i : Fin 62, (Scalar.remsi (BitVec.ofNat 32 i.val) 2#32).toNat = i.val % 2 := by decide
  exact this ⟨i, hi⟩

theorem iv_eq (i : ℕ) : Scalar.addi 0#32 (Scalar.muli (Scf.iv 0#32 1#32 i) 1#32) = BitVec.ofNat 32 i := by
  show 0#32 + (0#32 + BitVec.ofNat 32 i * 1#32) * 1#32 = BitVec.ofNat 32 i
  simp

theorem t4_trips (v3 : BitVec 32) (h : v3.toNat ≤ 60) : (k0_t4_loop v3).trips = v3.toNat := by
  have : ∀ n : Fin 61, (k0_t4_loop (BitVec.ofNat 32 n.val)).trips = n.val := by decide
  have := this ⟨v3.toNat, by omega⟩
  rwa [show BitVec.ofNat 32 v3.toNat = v3 by simp] at this

theorem cur_lt (v3 : BitVec 32) (h : v3.toNat ≤ 60) (t : Fin (k0_t4_loop v3).trips) : k0_off27 v3 t 0 = t.val % 2 := by
  have := Nat.lt_of_lt_of_eq t.isLt (t4_trips v3 h)
  show (Scalar.remsi (Scalar.addi 0#32 (Scalar.muli (Scf.iv 0#32 1#32 t.val) 1#32)) 2#32).toNat = _
  rw [iv_eq]; exact rem_toNat _ (by omega)
theorem nxt_lt (v3 : BitVec 32) (h : v3.toNat ≤ 60) (t : Fin (k0_t4_loop v3).trips) : k0_off20 v3 t 0 = (t.val + 1) % 2 := by
  have := Nat.lt_of_lt_of_eq t.isLt (t4_trips v3 h)
  show (Scalar.remsi (Scalar.addi (Scalar.addi 0#32 (Scalar.muli (Scf.iv 0#32 1#32 t.val) 1#32)) 1#32) 2#32).toNat = _
  rw [iv_eq, show Scalar.addi (BitVec.ofNat 32 t.val) 1#32 = BitVec.ofNat 32 (t.val + 1) from (BitVec.ofNat_add ..).symm]; exact rem_toNat _ (by omega)
/-- The slot trip `t` reads. -/
abbrev cur (v3 : BitVec 32) (h : v3.toNat ≤ 60) (t : Fin (k0_t4_loop v3).trips) : Fin 2 := ⟨k0_off27 v3 t 0, by rw [cur_lt v3 h]; omega⟩
/-- The slot trip `t` fills. -/
abbrev nxt (v3 : BitVec 32) (h : v3.toNat ≤ 60) (t : Fin (k0_t4_loop v3).trips) : Fin 2 := ⟨k0_off20 v3 t 0, by rw [nxt_lt v3 h]; omega⟩

/-- Whether trip `t` fills a slot: when another trip follows. -/
theorem cond1_iff (v3 : BitVec 32) (h : v3.toNat ≤ 60) (t : Fin (k0_t4_loop v3).trips) : k0_cond1 v3 t = 1#1 ↔ t.val + 1 < v3.toNat := by
  have key : ∀ n : Fin 61, ∀ t : Fin (k0_t4_loop (BitVec.ofNat 32 n.val)).trips, k0_cond1 (BitVec.ofNat 32 n.val) t = 1#1 ↔ t.val + 1 < n.val := by decide +kernel
  have key := key ⟨v3.toNat, by omega⟩
  revert t
  have e : BitVec.ofNat 32 v3.toNat = v3 := by simp
  rw [← e]
  intro t
  have := key t
  simpa using this

/-- A tile of code slot `k` lies in the slot. -/
theorem tileC_sub (k : Fin 2) {off : Fin 3 → ℕ} {w : ℕ} (inb : ∀ a, off a + (![1, 1024, w] : Fin 3 → ℕ) a ≤ S2x1024x1408.size a) (hw : 0 < w)
    (h0 : off 0 = k.val) (h1 : off 1 = 0) :
    cbM.view.setOn (Rect.unit (s := S2x1024x1408) off ![1, 1024, w] inb).toLoadRect.set ⊆ (slC k).view.set := by
  refine Memref.subset_of_set_eq (Memref.setOn_subset_slice_of_within cbM (Rect.unit (s := S2x1024x1408) ![k.val, 0, 0] S1x1024x1408.size (inbC k)) (fun _ => rfl) _
    (decide_eq_true fun a => ?_)) (by unfold slC; exact Memref.set_view_squeeze _ _)
  have i2 : off 2 + w ≤ 1408 := inb 2
  fin_cases a
  · show k.val ≤ off 0 ∧ off 0 + 1 * (1 - 1) < k.val + 1 * 1 ∧ _
    exact ⟨by omega, by omega, .inl rfl⟩
  · show 0 ≤ off 1 ∧ off 1 + 1 * (1024 - 1) < 0 + 1 * 1024 ∧ _
    exact ⟨by omega, by omega, .inl rfl⟩
  · show 0 ≤ off 2 ∧ off 2 + 1 * (w - 1) < 0 + 1 * 1408 ∧ _
    exact ⟨by omega, by omega, .inl rfl⟩
/-- A tile of scale slot `k` lies in the slot. -/
theorem tileS_sub (k : Fin 2) {off : Fin 3 → ℕ} {w : ℕ} (inb : ∀ a, off a + (![1, 32, w] : Fin 3 → ℕ) a ≤ S2x32x1408.size a) (hw : 0 < w)
    (h0 : off 0 = k.val) (h1 : off 1 = 0) :
    sbM.view.setOn (Rect.unit (s := S2x32x1408) off ![1, 32, w] inb).toLoadRect.set ⊆ (slS k).view.set := by
  refine Memref.subset_of_set_eq (Memref.setOn_subset_slice_of_within sbM (Rect.unit (s := S2x32x1408) ![k.val, 0, 0] S1x32x1408.size (inbS k)) (fun _ => rfl) _
    (decide_eq_true fun a => ?_)) (by unfold slS; exact Memref.set_view_squeeze _ _)
  have i2 : off 2 + w ≤ 1408 := inb 2
  fin_cases a
  · show k.val ≤ off 0 ∧ off 0 + 1 * (1 - 1) < k.val + 1 * 1 ∧ _
    exact ⟨by omega, by omega, .inl rfl⟩
  · show 0 ≤ off 1 ∧ off 1 + 1 * (32 - 1) < 0 + 1 * 32 ∧ _
    exact ⟨by omega, by omega, .inl rfl⟩
  · show 0 ≤ off 2 ∧ off 2 + 1 * (w - 1) < 0 + 1 * 1408 ∧ _
    exact ⟨by omega, by omega, .inl rfl⟩

end Cert.Kernel.Run

end
-- ==== Proof.Low.Tile.lean ====
/- What one trip of the streaming loop stores: the tiles it reads out of a filled slot, and the masked product every store holds. -/
module

public import proofs.«01_k».proof.Proof.Low.Ring
public import Idealize.ShloMosaic.Lib.ValueLayout

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

theorem shapeCasts_S1x1024x1408_S1024x1408 : S1x1024x1408.ShapeCasts S1024x1408 := by decide +kernel
theorem shapeCasts_S1x32x1408_S32x1408 : S1x32x1408.ShapeCasts S32x1408 := by decide +kernel

theorem slC_read (k : Fin 2) (X : Buf (Elt F) (cbM.view.loc (c : Thread nD τ))) (i : Fin 1024) (j : Fin 1408) :
    (slC k).view.read (Elt F) X (ix2 i j) = cbM.view.read (Elt F) X (ix3 k i j) := by
  refine (congrFun (Memref.read_squeeze_slice cbM (Rect.unit (s := S2x1024x1408) ![k.val, 0, 0] S1x1024x1408.size (inbC k)) (fun _ => rfl) squeezes_S1x1024x1408_S1024x1408 shapeCasts_S1x1024x1408_S1024x1408 X) _).trans ?_
  refine (ValueIdx.shapeCast_1ab_ab_apply _ _ i j).trans ?_
  refine congrArg (cbM.view.read (Elt F) X) (funext fun a => Fin.ext ?_)
  fin_cases a
  · show k.val + 1 * 0 = k.val; omega
  · show 0 + 1 * i.val = i.val; omega
  · show 0 + 1 * j.val = j.val; omega
theorem slS_read (k : Fin 2) (X : Buf (Elt F) (sbM.view.loc (c : Thread nD τ))) (i : Fin 32) (j : Fin 1408) :
    (slS k).view.read (Elt F) X (ix2 i j) = sbM.view.read (Elt F) X (ix3 k i j) := by
  refine (congrFun (Memref.read_squeeze_slice sbM (Rect.unit (s := S2x32x1408) ![k.val, 0, 0] S1x32x1408.size (inbS k)) (fun _ => rfl) squeezes_S1x32x1408_S32x1408 shapeCasts_S1x32x1408_S32x1408 X) _).trans ?_
  refine (ValueIdx.shapeCast_1ab_ab_apply _ _ i j).trans ?_
  refine congrArg (sbM.view.read (Elt F) X) (funext fun a => Fin.ext ?_)
  fin_cases a
  · show k.val + 1 * 0 = k.val; omega
  · show 0 + 1 * i.val = i.val; omega
  · show 0 + 1 * j.val = j.val; omega
theorem rowC_read (e : Fin 60) (X : Buf (Elt F) (hcM.view.loc (c : Thread nD τ))) (i : Fin 1024) (j : Fin 1408) :
    (rowC e).view.read (Elt F) X (ix2 i j) = hcM.view.read (Elt F) X (ix3 e i j) := by
  refine (congrFun (Memref.read_squeeze_slice hcM (Rect.unit (s := S60x1024x1408) ![e.val, 0, 0] S1x1024x1408.size (inbHC e)) (fun _ => rfl) squeezes_S1x1024x1408_S1024x1408 shapeCasts_S1x1024x1408_S1024x1408 X) _).trans ?_
  refine (ValueIdx.shapeCast_1ab_ab_apply _ _ i j).trans ?_
  refine congrArg (hcM.view.read (Elt F) X) (funext fun a => Fin.ext ?_)
  fin_cases a
  · show e.val + 1 * 0 = e.val; omega
  · show 0 + 1 * i.val = i.val; omega
  · show 0 + 1 * j.val = j.val; omega
theorem rowS_read (e : Fin 60) (X : Buf (Elt F) (hsM.view.loc (c : Thread nD τ))) (i : Fin 32) (j : Fin 1408) :
    (rowS e).view.read (Elt F) X (ix2 i j) = hsM.view.read (Elt F) X (ix3 e i j) := by
  refine (congrFun (Memref.read_squeeze_slice hsM (Rect.unit (s := S60x32x1408) ![e.val, 0, 0] S1x32x1408.size (inbHS e)) (fun _ => rfl) squeezes_S1x32x1408_S32x1408 shapeCasts_S1x32x1408_S32x1408 X) _).trans ?_
  refine (ValueIdx.shapeCast_1ab_ab_apply _ _ i j).trans ?_
  refine congrArg (hsM.view.read (Elt F) X) (funext fun a => Fin.ext ?_)
  fin_cases a
  · show e.val + 1 * 0 = e.val; omega
  · show 0 + 1 * i.val = i.val; omega
  · show 0 + 1 * j.val = j.val; omega

/-- A tile loaded from code slot `k`, filled with expert `e`'s codes, is that expert's tile. -/
theorem tileC_val (CC : Buf (Elt F) (hcM.view.loc (c : Thread nD τ))) (k : Fin 2) (e : Fin 60) (g : Buf (Elt F) ((slC k).view.loc (c : Thread nD τ)))
    {off : Fin 3 → ℕ} {w : ℕ} (inb : ∀ a, off a + (![1, 1024, w] : Fin 3 → ℕ) a ≤ S2x1024x1408.size a) (h0 : off 0 = k.val) (h1 : off 1 = 0)
    (i : (⟨3, ![1, 1024, w]⟩ : Shape).Idx) :
    cbM.view.readAt (Elt F) (Rect.unit (s := S2x1024x1408) off ![1, 1024, w] inb).toLoadRect (fillC c CC k e g) i
      = hcM.view.read (Elt F) CC (ix3 e (i 1) ⟨off 2 + (i 2).val, Nat.lt_of_lt_of_le (Nat.add_lt_add_left (i 2).isLt _) (inb 2)⟩) := by
  refine Eq.trans ?_ (rowC_read c e CC (i 1) ⟨off 2 + (i 2).val, Nat.lt_of_lt_of_le (Nat.add_lt_add_left (i 2).isLt _) (inb 2)⟩)
  have key := slC_read c k (fillC c CC k e g) (i 1) ⟨off 2 + (i 2).val, Nat.lt_of_lt_of_le (Nat.add_lt_add_left (i 2).isLt _) (inb 2)⟩
  refine Eq.trans ?_ (key.symm.trans ?_)
  · refine congrArg (cbM.view.read (Elt F) (fillC c CC k e g)) (funext fun a => Fin.ext ?_)
    have i0 : (i 0).val < 1 := (i 0).isLt
    fin_cases a
    · show off 0 + 1 * (i 0).val = k.val; omega
    · show off 1 + 1 * (i 1).val = (i 1).val; omega
    · show off 2 + 1 * (i 2).val = off 2 + (i 2).val; omega
  · refine (View.read_writes_apply_of_pieces _ _ ((rowC e).view.read (Elt F) CC) _ (fun p hp x => ?_) _ ⟨_, List.mem_singleton_self _, ?_⟩)
    · obtain rfl := List.mem_singleton.mp hp
      show (rowC e).view.read (Elt F) CC x = (rowC e).view.read (Elt F) CC ((Rect.whole S1024x1408).emb x)
      rw [Rect.emb_whole_apply]
    · show _ ∈ (Rect.whole S1024x1408).set; rw [Rect.set_whole]; exact Finset.mem_univ _
theorem tileS_val (CS : Buf (Elt F) (hsM.view.loc (c : Thread nD τ))) (k : Fin 2) (e : Fin 60) (g : Buf (Elt F) ((slS k).view.loc (c : Thread nD τ)))
    {off : Fin 3 → ℕ} {w : ℕ} (inb : ∀ a, off a + (![1, 32, w] : Fin 3 → ℕ) a ≤ S2x32x1408.size a) (h0 : off 0 = k.val) (h1 : off 1 = 0)
    (i : (⟨3, ![1, 32, w]⟩ : Shape).Idx) :
    sbM.view.readAt (Elt F) (Rect.unit (s := S2x32x1408) off ![1, 32, w] inb).toLoadRect (fillS c CS k e g) i
      = hsM.view.read (Elt F) CS (ix3 e (i 1) ⟨off 2 + (i 2).val, Nat.lt_of_lt_of_le (Nat.add_lt_add_left (i 2).isLt _) (inb 2)⟩) := by
  refine Eq.trans ?_ (rowS_read c e CS (i 1) ⟨off 2 + (i 2).val, Nat.lt_of_lt_of_le (Nat.add_lt_add_left (i 2).isLt _) (inb 2)⟩)
  have key := slS_read c k (fillS c CS k e g) (i 1) ⟨off 2 + (i 2).val, Nat.lt_of_lt_of_le (Nat.add_lt_add_left (i 2).isLt _) (inb 2)⟩
  refine Eq.trans ?_ (key.symm.trans ?_)
  · refine congrArg (sbM.view.read (Elt F) (fillS c CS k e g)) (funext fun a => Fin.ext ?_)
    have i0 : (i 0).val < 1 := (i 0).isLt
    fin_cases a
    · show off 0 + 1 * (i 0).val = k.val; omega
    · show off 1 + 1 * (i 1).val = (i 1).val; omega
    · show off 2 + 1 * (i 2).val = off 2 + (i 2).val; omega
  · refine (View.read_writes_apply_of_pieces _ _ ((rowS e).view.read (Elt F) CS) _ (fun p hp x => ?_) _ ⟨_, List.mem_singleton_self _, ?_⟩)
    · obtain rfl := List.mem_singleton.mp hp
      show (rowS e).view.read (Elt F) CS x = (rowS e).view.read (Elt F) CS ((Rect.whole S32x1408).emb x)
      rw [Rect.emb_whole_apply]
    · show _ ∈ (Rect.whole S32x1408).set; rw [Rect.set_whole]; exact Finset.mem_univ _

/-! ## The product of one expert -/

/-- The tile of 256 columns from `n0` of expert `e`'s codes, of a table of codes `A`. -/
def ct (A : Vec F S60x1024x1408 .i8) (e : Fin 60) (n0 : ℕ) (h : n0 + 256 ≤ 1408) : Vec F S1x1024x256 .i8 :=
  fun i => A (ix3 e (i 1) ⟨n0 + (i 2).val, Nat.lt_of_lt_of_le (Nat.add_lt_add_left (i 2).isLt _) h⟩)
/-- The tile of 256 columns from `n0` of expert `e`'s scales. -/
def st (B : Vec F S60x32x1408 .bf16) (e : Fin 60) (n0 : ℕ) (h : n0 + 256 ≤ 1408) : Vec F S1x32x256 .bf16 :=
  fun i => B (ix3 e (i 1) ⟨n0 + (i 2).val, Nat.lt_of_lt_of_le (Nat.add_lt_add_left (i 2).isLt _) h⟩)
/-- The last 128 columns of expert `e`'s codes. -/
def ctL (A : Vec F S60x1024x1408 .i8) (e : Fin 60) : Vec F S1x1024x128 .i8 :=
  fun i => A (ix3 e (i 1) ⟨1280 + (i 2).val, Nat.add_lt_add_left (i 2).isLt 1280⟩)
/-- The last 128 columns of expert `e`'s scales. -/
def stL (B : Vec F S60x32x1408 .bf16) (e : Fin 60) : Vec F S1x32x128 .bf16 :=
  fun i => B (ix3 e (i 1) ⟨1280 + (i 2).val, Nat.add_lt_add_left (i 2).isLt 1280⟩)

/-- The product of every token with expert `e`'s weights, 256 columns from `n0`, as the kernel computes it. -/
def prodT (v20 : Vec F S128x2048 .bf16) (A : Vec F S60x1024x1408 .i8) (B : Vec F S60x32x1408 .bf16) (e : Fin 60) (n0 : ℕ) (h : n0 + 256 ≤ 1408) :
    FVec F S128x256 .f32 := k0_pay3 (k0_pay85 v20) (k0_pay2 (ct A e n0 h)) 28#32 (st B e n0 h)
/-- The product of every token with expert `e`'s weights, the last 128 columns. -/
def prodL (v20 : Vec F S128x2048 .bf16) (A : Vec F S60x1024x1408 .i8) (B : Vec F S60x32x1408 .bf16) (e : Fin 60) :
    FVec F S128x128 .f32 := k0_pay37 (k0_pay85 v20) (ctL A e) (stL B e)
/-- The product of token `t` with column `n` of expert `e`'s weights. -/
def delta (v20 : Vec F S128x2048 .bf16) (A : Vec F S60x1024x1408 .i8) (B : Vec F S60x32x1408 .bf16) (e : Fin 60) (t : Fin 128) (n : Fin 1408) : F .f32 :=
  if h : n.val < 1280 then prodT v20 A B e (n.val / 256 * 256) (by omega) (ix2 t ⟨n.val % 256, by omega⟩)
  else prodL v20 A B e (ix2 t ⟨n.val - 1280, by omega⟩)

/-- One trip's effect on the output: where the token's id is the trip's, the expert's product; elsewhere what was there. -/
def mix (ids : S128x4.Idx → BitVec 32) (w : BitVec 32) (d : Fin 128 → Fin 1408 → F .f32) (f : S128x4x1408.Idx → F .f32) : S128x4x1408.Idx → F .f32 :=
  fun y => if ids (ix2 (y 0) (y 1)) = w then d (y 0) (y 2) else f y

theorem delta_T (v20 : Vec F S128x2048 .bf16) (A : Vec F S60x1024x1408 .i8) (B : Vec F S60x32x1408 .bf16) (e : Fin 60) (t : Fin 128) (m : ℕ) (hm : m < 5)
    (j : Fin 256) : delta v20 A B e t ⟨256 * m + j.val, by omega⟩ = prodT v20 A B e (256 * m) (by omega) (ix2 t j) := by
  have hdiv : (256 * m + j.val) / 256 * 256 = 256 * m := by omega
  have hmod : (256 * m + j.val) % 256 = j.val := by omega
  unfold delta
  rw [dif_pos (by show 256 * m + j.val < 1280; omega)]
  simp only [hdiv, hmod]
theorem delta_L (v20 : Vec F S128x2048 .bf16) (A : Vec F S60x1024x1408 .i8) (B : Vec F S60x32x1408 .bf16) (e : Fin 60) (t : Fin 128)
    (j : Fin 128) : delta v20 A B e t ⟨1280 + j.val, by omega⟩ = prodL v20 A B e (ix2 t j) := by
  have hmod : 1280 + j.val - 1280 = j.val := by omega
  unfold delta
  rw [dif_neg (by show ¬ 1280 + j.val < 1280; omega)]
  simp only [hmod]

theorem select_eq {α : Type} (a w : BitVec 32) (x y : α) : Scalar.select (IntOp.cmpi .eq a w) x y = if a = w then x else y := by
  unfold Scalar.select IntOp.cmpi
  by_cases h : a = w
  · simp [h]
  · have h' : (a == w) = false := by simpa using h
    simp [h, h']

theorem hitT (v20 : Vec F S128x2048 .bf16) (A : Vec F S60x1024x1408 .i8) (B : Vec F S60x32x1408 .bf16) (e : Fin 60) (w : BitVec 32)
    (X : Buf (Elt F) (arg4.view.loc (c : Thread nD τ))) (f : Buf (Elt F) (arg9.view.loc (c : Thread nD τ))) (k m : ℕ) (hm : m < 5)
    (inb : ∀ a, (![0, k, 256 * m] : Fin 3 → ℕ) a + S128x1x256.size a ≤ S128x4x1408.size a)
    (inb4 : ∀ a, (![0, k] : Fin 2 → ℕ) a + S128x1.size a ≤ S128x4.size a)
    (R : FVec F S128x256 .f32) (hR : R = prodT v20 A B e (256 * m) (by omega)) (x : S128x1x256.Idx) :
    k0_pay6 w R (arg4.view.readAt (Elt F) (Rect.unit (s := S128x4) ![0, k] S128x1.size inb4).toLoadRect X)
        (arg9.view.readAt (Elt F) (Rect.unit (s := S128x4x1408) ![0, k, 256 * m] S128x1x256.size inb).toLoadRect f) x
      = mix (arg4.view.read (Elt F) X) w (delta v20 A B e) (arg9.view.read (Elt F) f)
          ((Rect.unit (s := S128x4x1408) ![0, k, 256 * m] S128x1x256.size inb).emb x) := by
  idx_vars x
  pointwise [k0_pay6]
  have hk : k < 4 := inb 1
  have i4 : arg4.view.readAt (Elt F) (Rect.unit (s := S128x4) ![0, k] S128x1.size inb4).toLoadRect X (ix2 x0 0) = arg4.view.read (Elt F) X (ix2 x0 ⟨k, hk⟩) := by
    refine congrArg (arg4.view.read (Elt F) X) (funext fun a => Fin.ext ?_)
    fin_cases a
    · show 0 + 1 * x0.val = x0.val; omega
    · show k + 1 * 0 = k; omega
  have hemb : (Rect.unit (s := S128x4x1408) ![0, k, 256 * m] S128x1x256.size inb).emb (ix3 x0 x1 x2) = ix3 x0 ⟨k, hk⟩ ⟨256 * m + x2.val, by omega⟩ := by
    funext a; apply Fin.ext
    fin_cases a
    · show 0 + 1 * x0.val = x0.val; omega
    · show k + 1 * x1.val = k; omega
    · show 256 * m + 1 * x2.val = 256 * m + x2.val; omega
  have i9 : arg9.view.readAt (Elt F) (Rect.unit (s := S128x4x1408) ![0, k, 256 * m] S128x1x256.size inb).toLoadRect f (ix3 x0 0 x2)
      = arg9.view.read (Elt F) f (ix3 x0 ⟨k, hk⟩ ⟨256 * m + x2.val, by omega⟩) := by
    obtain rfl : x1 = 0 := Subsingleton.elim _ _
    exact congrArg (arg9.view.read (Elt F) f) hemb
  refine (select_eq _ _ _ _).trans ?_
  rw [hemb]
  refine Eq.trans ?_ (if_congr (Eq.congr_left i4) (congrFun hR _ |>.trans (delta_T v20 A B e x0 m hm x2).symm) i9)
  rfl

theorem hitL (v20 : Vec F S128x2048 .bf16) (A : Vec F S60x1024x1408 .i8) (B : Vec F S60x32x1408 .bf16) (e : Fin 60) (w : BitVec 32)
    (X : Buf (Elt F) (arg4.view.loc (c : Thread nD τ))) (f : Buf (Elt F) (arg9.view.loc (c : Thread nD τ))) (k : ℕ)
    (inb : ∀ a, (![0, k, 1280] : Fin 3 → ℕ) a + S128x1x128.size a ≤ S128x4x1408.size a)
    (inb4 : ∀ a, (![0, k] : Fin 2 → ℕ) a + S128x1.size a ≤ S128x4.size a)
    (R : FVec F S128x128 .f32) (hR : R = prodL v20 A B e) (x : S128x1x128.Idx) :
    k0_pay86 w R (arg4.view.readAt (Elt F) (Rect.unit (s := S128x4) ![0, k] S128x1.size inb4).toLoadRect X)
        (arg9.view.readAt (Elt F) (Rect.unit (s := S128x4x1408) ![0, k, 1280] S128x1x128.size inb).toLoadRect f) x
      = mix (arg4.view.read (Elt F) X) w (delta v20 A B e) (arg9.view.read (Elt F) f)
          ((Rect.unit (s := S128x4x1408) ![0, k, 1280] S128x1x128.size inb).emb x) := by
  idx_vars x
  pointwise [k0_pay86]
  have hk : k < 4 := inb 1
  have i4 : arg4.view.readAt (Elt F) (Rect.unit (s := S128x4) ![0, k] S128x1.size inb4).toLoadRect X (ix2 x0 0) = arg4.view.read (Elt F) X (ix2 x0 ⟨k, hk⟩) := by
    refine congrArg (arg4.view.read (Elt F) X) (funext fun a => Fin.ext ?_)
    fin_cases a
    · show 0 + 1 * x0.val = x0.val; omega
    · show k + 1 * 0 = k; omega
  have hemb : (Rect.unit (s := S128x4x1408) ![0, k, 1280] S128x1x128.size inb).emb (ix3 x0 x1 x2) = ix3 x0 ⟨k, hk⟩ ⟨1280 + x2.val, by omega⟩ := by
    funext a; apply Fin.ext
    fin_cases a
    · show 0 + 1 * x0.val = x0.val; omega
    · show k + 1 * x1.val = k; omega
    · show 1280 + 1 * x2.val = 1280 + x2.val; omega
  have i9 : arg9.view.readAt (Elt F) (Rect.unit (s := S128x4x1408) ![0, k, 1280] S128x1x128.size inb).toLoadRect f (ix3 x0 0 x2)
      = arg9.view.read (Elt F) f (ix3 x0 ⟨k, hk⟩ ⟨1280 + x2.val, by omega⟩) := by
    obtain rfl : x1 = 0 := Subsingleton.elim _ _
    exact congrArg (arg9.view.read (Elt F) f) hemb
  refine (select_eq _ _ _ _).trans ?_
  rw [hemb]
  refine Eq.trans ?_ (if_congr (Eq.congr_left i4) (congrFun hR _ |>.trans (delta_L v20 A B e x0 x2).symm) i9)
  rfl

/-- The product the kernel computes from the tiles it loads out of a filled slot. -/
theorem loadT (v20 : Vec F S128x2048 .bf16) (CC : Buf (Elt F) (hcM.view.loc (c : Thread nD τ))) (CS : Buf (Elt F) (hsM.view.loc (c : Thread nD τ)))
    (k : Fin 2) (e : Fin 60) (g : Buf (Elt F) ((slC k).view.loc (c : Thread nD τ))) (g' : Buf (Elt F) ((slS k).view.loc (c : Thread nD τ))) (m : ℕ) (hm : m < 5)
    {off : Fin 3 → ℕ} (inb : ∀ a, off a + S1x1024x256.size a ≤ S2x1024x1408.size a) (h0 : off 0 = k.val) (h1 : off 1 = 0) (h2 : off 2 = 256 * m)
    {off' : Fin 3 → ℕ} (inb' : ∀ a, off' a + S1x32x256.size a ≤ S2x32x1408.size a) (h0' : off' 0 = k.val) (h1' : off' 1 = 0) (h2' : off' 2 = 256 * m) :
    k0_pay3 (k0_pay85 v20) (k0_pay2 (cbM.view.readAt (Elt F) (Rect.unit (s := S2x1024x1408) off S1x1024x256.size inb).toLoadRect (fillC c CC k e g))) 28#32
        (sbM.view.readAt (Elt F) (Rect.unit (s := S2x32x1408) off' S1x32x256.size inb').toLoadRect (fillS c CS k e g'))
      = prodT v20 (hcM.view.read (Elt F) CC) (hsM.view.read (Elt F) CS) e (256 * m) (by omega) := by
  refine congrArg₂ (fun a b => k0_pay3 (k0_pay85 v20) (k0_pay2 a) 28#32 b) (funext fun i => ?_) (funext fun i => ?_)
  · refine (tileC_val c CC k e g inb h0 h1 i).trans (congrArg (hcM.view.read (Elt F) CC) ?_)
    simp only [h2]
  · refine (tileS_val c CS k e g' inb' h0' h1' i).trans (congrArg (hsM.view.read (Elt F) CS) ?_)
    simp only [h2']
theorem loadL (v20 : Vec F S128x2048 .bf16) (CC : Buf (Elt F) (hcM.view.loc (c : Thread nD τ))) (CS : Buf (Elt F) (hsM.view.loc (c : Thread nD τ)))
    (k : Fin 2) (e : Fin 60) (g : Buf (Elt F) ((slC k).view.loc (c : Thread nD τ))) (g' : Buf (Elt F) ((slS k).view.loc (c : Thread nD τ)))
    {off : Fin 3 → ℕ} (inb : ∀ a, off a + S1x1024x128.size a ≤ S2x1024x1408.size a) (h0 : off 0 = k.val) (h1 : off 1 = 0) (h2 : off 2 = 1280)
    {off' : Fin 3 → ℕ} (inb' : ∀ a, off' a + S1x32x128.size a ≤ S2x32x1408.size a) (h0' : off' 0 = k.val) (h1' : off' 1 = 0) (h2' : off' 2 = 1280) :
    k0_pay37 (k0_pay85 v20) (cbM.view.readAt (Elt F) (Rect.unit (s := S2x1024x1408) off S1x1024x128.size inb).toLoadRect (fillC c CC k e g))
        (sbM.view.readAt (Elt F) (Rect.unit (s := S2x32x1408) off' S1x32x128.size inb').toLoadRect (fillS c CS k e g'))
      = prodL v20 (hcM.view.read (Elt F) CC) (hsM.view.read (Elt F) CS) e := by
  refine congrArg₂ (fun a b => k0_pay37 (k0_pay85 v20) a b) (funext fun i => ?_) (funext fun i => ?_)
  · refine (tileC_val c CC k e g inb h0 h1 i).trans (congrArg (hcM.view.read (Elt F) CC) ?_)
    simp only [h2]
  · refine (tileS_val c CS k e g' inb' h0' h1' i).trans (congrArg (hsM.view.read (Elt F) CS) ?_)
    simp only [h2']

/-- Every element of the output lies in one of the tiles a trip stores. -/
theorem cover_pd (L : List (View.Piece (Elt F) S128x4x1408 .f32))
    (hT : ∀ k m, k < 4 → m < 5 → ∃ p ∈ L, ∃ inb, p.1 = Rect.unit (s := S128x4x1408) ![0, k, 256 * m] S128x1x256.size inb)
    (hL : ∀ k, k < 4 → ∃ p ∈ L, ∃ inb, p.1 = Rect.unit (s := S128x4x1408) ![0, k, 1280] S128x1x128.size inb) (y : S128x4x1408.Idx) :
    ∃ p ∈ L, y ∈ p.1.set := by
  idx_vars y
  by_cases h : y2.val < 1280
  · obtain ⟨p, hp, inb, he⟩ := hT y1.val (y2.val / 256) y1.isLt (by omega)
    refine ⟨p, hp, ?_⟩
    rw [he, Rect.mem_set_unit]
    intro a
    fin_cases a
    · show 0 ≤ y0.val ∧ y0.val < 0 + 128; omega
    · show y1.val ≤ y1.val ∧ y1.val < y1.val + 1; omega
    · show 256 * (y2.val / 256) ≤ y2.val ∧ y2.val < 256 * (y2.val / 256) + 256; omega
  · obtain ⟨p, hp, inb, he⟩ := hL y1.val y1.isLt
    refine ⟨p, hp, ?_⟩
    rw [he, Rect.mem_set_unit]
    intro a
    fin_cases a
    · show 0 ≤ y0.val ∧ y0.val < 0 + 128; omega
    · show y1.val ≤ y1.val ∧ y1.val < y1.val + 1; omega
    · show 1280 ≤ y2.val ∧ y2.val < 1280 + 128; omega

/-- A word of the list of live experts, loaded. -/
theorem live_word (l : Buf (Elt F) (liveM.view.loc (c : Thread nD τ))) {off : Fin 1 → ℕ} (inb : ∀ a, off a + S1.size a ≤ S61.size a)
    (n : ℕ) (hn : n < 61) (h : off 0 = n) (i : S1.Idx) :
    liveM.view.readAt (Elt F) (Rect.unit (s := S61) off S1.size inb).toLoadRect l i = liveM.view.read (Elt F) l (ix1 ⟨n, hn⟩) := by
  refine congrArg (liveM.view.read (Elt F) l) (funext fun a => Fin.ext ?_)
  have i0 : (i 0).val < 1 := (i 0).isLt
  fin_cases a
  show off 0 + 1 * (i 0).val = n
  omega

end Cert.Kernel.Run

end
-- ==== Proof.Low.Trip.lean ====
/- One trip of the streaming loop: it starts the next expert's transfers, waits for its own, and puts the product of every token
   with its expert's weights where the token's id is the expert. -/
module

public import proofs.«01_k».proof.Proof.Low.Tile

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

set_option maxHeartbeats 1000000 in
/-- What the trip's stores leave in the output: `mix`. -/
theorem trip_pd (e : Fin 60) (v20 : Vec F S128x2048 .bf16)
    (CC : Buf (Elt F) (hcM.view.loc (c : Thread nD τ))) (CS : Buf (Elt F) (hsM.view.loc (c : Thread nD τ)))
    (X : Buf (Elt F) (arg4.view.loc (c : Thread nD τ))) (f9 : Buf (Elt F) (arg9.view.loc (c : Thread nD τ))) (wd : BitVec 32)
    (R0 R1 R2 R3 R4 : FVec F S128x256 .f32) (R5 : FVec F S128x128 .f32)
    (hR0 : R0 = prodT v20 (hcM.view.read (Elt F) CC) (hsM.view.read (Elt F) CS) e (256 * 0) (by decide))
    (hR1 : R1 = prodT v20 (hcM.view.read (Elt F) CC) (hsM.view.read (Elt F) CS) e (256 * 1) (by decide))
    (hR2 : R2 = prodT v20 (hcM.view.read (Elt F) CC) (hsM.view.read (Elt F) CS) e (256 * 2) (by decide))
    (hR3 : R3 = prodT v20 (hcM.view.read (Elt F) CC) (hsM.view.read (Elt F) CS) e (256 * 3) (by decide))
    (hR4 : R4 = prodT v20 (hcM.view.read (Elt F) CC) (hsM.view.read (Elt F) CS) e (256 * 4) (by decide))
    (hR5 : R5 = prodL v20 (hcM.view.read (Elt F) CC) (hsM.view.read (Elt F) CS) e)
    (P53 : Vec F S128x1x128 .f32) (hP53 : P53 = k0_pay86 wd R5 (arg4.view.readAt (Elt F) (Rect.unit (s := S128x4) ![0, 3] S128x1.size inb_S128x4_S128x1_0_3).toLoadRect X)
        (arg9.view.readAt (Elt F) (Rect.unit (s := S128x4x1408) ![0, 3, 1280] S128x1x128.size inb_S128x4x1408_S128x1x128_0_3_1280).toLoadRect f9))
    (P52 : Vec F S128x1x128 .f32) (hP52 : P52 = k0_pay86 wd R5 (arg4.view.readAt (Elt F) (Rect.unit (s := S128x4) ![0, 2] S128x1.size inb_S128x4_S128x1_0_2).toLoadRect X)
        (arg9.view.readAt (Elt F) (Rect.unit (s := S128x4x1408) ![0, 2, 1280] S128x1x128.size inb_S128x4x1408_S128x1x128_0_2_1280).toLoadRect f9))
    (P51 : Vec F S128x1x128 .f32) (hP51 : P51 = k0_pay86 wd R5 (arg4.view.readAt (Elt F) (Rect.unit (s := S128x4) ![0, 1] S128x1.size inb_S128x4_S128x1_0_1).toLoadRect X)
        (arg9.view.readAt (Elt F) (Rect.unit (s := S128x4x1408) ![0, 1, 1280] S128x1x128.size inb_S128x4x1408_S128x1x128_0_1_1280).toLoadRect f9))
    (P50 : Vec F S128x1x128 .f32) (hP50 : P50 = k0_pay86 wd R5 (arg4.view.readAt (Elt F) (Rect.unit (s := S128x4) ![0, 0] S128x1.size inb_S128x4_S128x1_0_0).toLoadRect X)
        (arg9.view.readAt (Elt F) (Rect.unit (s := S128x4x1408) ![0, 0, 1280] S128x1x128.size inb_S128x4x1408_S128x1x128_0_0_1280).toLoadRect f9))
    (P43 : Vec F S128x1x256 .f32) (hP43 : P43 = k0_pay6 wd R4 (arg4.view.readAt (Elt F) (Rect.unit (s := S128x4) ![0, 3] S128x1.size inb_S128x4_S128x1_0_3).toLoadRect X)
        (arg9.view.readAt (Elt F) (Rect.unit (s := S128x4x1408) ![0, 3, 1024] S128x1x256.size inb_S128x4x1408_S128x1x256_0_3_1024).toLoadRect f9))
    (P42 : Vec F S128x1x256 .f32) (hP42 : P42 = k0_pay6 wd R4 (arg4.view.readAt (Elt F) (Rect.unit (s := S128x4) ![0, 2] S128x1.size inb_S128x4_S128x1_0_2).toLoadRect X)
        (arg9.view.readAt (Elt F) (Rect.unit (s := S128x4x1408) ![0, 2, 1024] S128x1x256.size inb_S128x4x1408_S128x1x256_0_2_1024).toLoadRect f9))
    (P41 : Vec F S128x1x256 .f32) (hP41 : P41 = k0_pay6 wd R4 (arg4.view.readAt (Elt F) (Rect.unit (s := S128x4) ![0, 1] S128x1.size inb_S128x4_S128x1_0_1).toLoadRect X)
        (arg9.view.readAt (Elt F) (Rect.unit (s := S128x4x1408) ![0, 1, 1024] S128x1x256.size inb_S128x4x1408_S128x1x256_0_1_1024).toLoadRect f9))
    (P40 : Vec F S128x1x256 .f32) (hP40 : P40 = k0_pay6 wd R4 (arg4.view.readAt (Elt F) (Rect.unit (s := S128x4) ![0, 0] S128x1.size inb_S128x4_S128x1_0_0).toLoadRect X)
        (arg9.view.readAt (Elt F) (Rect.unit (s := S128x4x1408) ![0, 0, 1024] S128x1x256.size inb_S128x4x1408_S128x1x256_0_0_1024).toLoadRect f9))
    (P33 : Vec F S128x1x256 .f32) (hP33 : P33 = k0_pay6 wd R3 (arg4.view.readAt (Elt F) (Rect.unit (s := S128x4) ![0, 3] S128x1.size inb_S128x4_S128x1_0_3).toLoadRect X)
        (arg9.view.readAt (Elt F) (Rect.unit (s := S128x4x1408) ![0, 3, 768] S128x1x256.size inb_S128x4x1408_S128x1x256_0_3_768).toLoadRect f9))
    (P32 : Vec F S128x1x256 .f32) (hP32 : P32 = k0_pay6 wd R3 (arg4.view.readAt (Elt F) (Rect.unit (s := S128x4) ![0, 2] S128x1.size inb_S128x4_S128x1_0_2).toLoadRect X)
        (arg9.view.readAt (Elt F) (Rect.unit (s := S128x4x1408) ![0, 2, 768] S128x1x256.size inb_S128x4x1408_S128x1x256_0_2_768).toLoadRect f9))
    (P31 : Vec F S128x1x256 .f32) (hP31 : P31 = k0_pay6 wd R3 (arg4.view.readAt (Elt F) (Rect.unit (s := S128x4) ![0, 1] S128x1.size inb_S128x4_S128x1_0_1).toLoadRect X)
        (arg9.view.readAt (Elt F) (Rect.unit (s := S128x4x1408) ![0, 1, 768] S128x1x256.size inb_S128x4x1408_S128x1x256_0_1_768).toLoadRect f9))
    (P30 : Vec F S128x1x256 .f32) (hP30 : P30 = k0_pay6 wd R3 (arg4.view.readAt (Elt F) (Rect.unit (s := S128x4) ![0, 0] S128x1.size inb_S128x4_S128x1_0_0).toLoadRect X)
        (arg9.view.readAt (Elt F) (Rect.unit (s := S128x4x1408) ![0, 0, 768] S128x1x256.size inb_S128x4x1408_S128x1x256_0_0_768).toLoadRect f9))
    (P23 : Vec F S128x1x256 .f32) (hP23 : P23 = k0_pay6 wd R2 (arg4.view.readAt (Elt F) (Rect.unit (s := S128x4) ![0, 3] S128x1.size inb_S128x4_S128x1_0_3).toLoadRect X)
        (arg9.view.readAt (Elt F) (Rect.unit (s := S128x4x1408) ![0, 3, 512] S128x1x256.size inb_S128x4x1408_S128x1x256_0_3_512).toLoadRect f9))
    (P22 : Vec F S128x1x256 .f32) (hP22 : P22 = k0_pay6 wd R2 (arg4.view.readAt (Elt F) (Rect.unit (s := S128x4) ![0, 2] S128x1.size inb_S128x4_S128x1_0_2).toLoadRect X)
        (arg9.view.readAt (Elt F) (Rect.unit (s := S128x4x1408) ![0, 2, 512] S128x1x256.size inb_S128x4x1408_S128x1x256_0_2_512).toLoadRect f9))
    (P21 : Vec F S128x1x256 .f32) (hP21 : P21 = k0_pay6 wd R2 (arg4.view.readAt (Elt F) (Rect.unit (s := S128x4) ![0, 1] S128x1.size inb_S128x4_S128x1_0_1).toLoadRect X)
        (arg9.view.readAt (Elt F) (Rect.unit (s := S128x4x1408) ![0, 1, 512] S128x1x256.size inb_S128x4x1408_S128x1x256_0_1_512).toLoadRect f9))
    (P20 : Vec F S128x1x256 .f32) (hP20 : P20 = k0_pay6 wd R2 (arg4.view.readAt (Elt F) (Rect.unit (s := S128x4) ![0, 0] S128x1.size inb_S128x4_S128x1_0_0).toLoadRect X)
        (arg9.view.readAt (Elt F) (Rect.unit (s := S128x4x1408) ![0, 0, 512] S128x1x256.size inb_S128x4x1408_S128x1x256_0_0_512).toLoadRect f9))
    (P13 : Vec F S128x1x256 .f32) (hP13 : P13 = k0_pay6 wd R1 (arg4.view.readAt (Elt F) (Rect.unit (s := S128x4) ![0, 3] S128x1.size inb_S128x4_S128x1_0_3).toLoadRect X)
        (arg9.view.readAt (Elt F) (Rect.unit (s := S128x4x1408) ![0, 3, 256] S128x1x256.size inb_S128x4x1408_S128x1x256_0_3_256).toLoadRect f9))
    (P12 : Vec F S128x1x256 .f32) (hP12 : P12 = k0_pay6 wd R1 (arg4.view.readAt (Elt F) (Rect.unit (s := S128x4) ![0, 2] S128x1.size inb_S128x4_S128x1_0_2).toLoadRect X)
        (arg9.view.readAt (Elt F) (Rect.unit (s := S128x4x1408) ![0, 2, 256] S128x1x256.size inb_S128x4x1408_S128x1x256_0_2_256).toLoadRect f9))
    (P11 : Vec F S128x1x256 .f32) (hP11 : P11 = k0_pay6 wd R1 (arg4.view.readAt (Elt F) (Rect.unit (s := S128x4) ![0, 1] S128x1.size inb_S128x4_S128x1_0_1).toLoadRect X)
        (arg9.view.readAt (Elt F) (Rect.unit (s := S128x4x1408) ![0, 1, 256] S128x1x256.size inb_S128x4x1408_S128x1x256_0_1_256).toLoadRect f9))
    (P10 : Vec F S128x1x256 .f32) (hP10 : P10 = k0_pay6 wd R1 (arg4.view.readAt (Elt F) (Rect.unit (s := S128x4) ![0, 0] S128x1.size inb_S128x4_S128x1_0_0).toLoadRect X)
        (arg9.view.readAt (Elt F) (Rect.unit (s := S128x4x1408) ![0, 0, 256] S128x1x256.size inb_S128x4x1408_S128x1x256_0_0_256).toLoadRect f9))
    (P03 : Vec F S128x1x256 .f32) (hP03 : P03 = k0_pay6 wd R0 (arg4.view.readAt (Elt F) (Rect.unit (s := S128x4) ![0, 3] S128x1.size inb_S128x4_S128x1_0_3).toLoadRect X)
        (arg9.view.readAt (Elt F) (Rect.unit (s := S128x4x1408) ![0, 3, 0] S128x1x256.size inb_S128x4x1408_S128x1x256_0_3_0).toLoadRect f9))
    (P02 : Vec F S128x1x256 .f32) (hP02 : P02 = k0_pay6 wd R0 (arg4.view.readAt (Elt F) (Rect.unit (s := S128x4) ![0, 2] S128x1.size inb_S128x4_S128x1_0_2).toLoadRect X)
        (arg9.view.readAt (Elt F) (Rect.unit (s := S128x4x1408) ![0, 2, 0] S128x1x256.size inb_S128x4x1408_S128x1x256_0_2_0).toLoadRect f9))
    (P01 : Vec F S128x1x256 .f32) (hP01 : P01 = k0_pay6 wd R0 (arg4.view.readAt (Elt F) (Rect.unit (s := S128x4) ![0, 1] S128x1.size inb_S128x4_S128x1_0_1).toLoadRect X)
        (arg9.view.readAt (Elt F) (Rect.unit (s := S128x4x1408) ![0, 1, 0] S128x1x256.size inb_S128x4x1408_S128x1x256_0_1_0).toLoadRect f9))
    (P00 : Vec F S128x1x256 .f32) (hP00 : P00 = k0_pay6 wd R0 (arg4.view.readAt (Elt F) (Rect.unit (s := S128x4) ![0, 0] S128x1.size inb_S128x4_S128x1_0_0).toLoadRect X)
        (arg9.view.readAt (Elt F) (Rect.unit (s := S128x4x1408) ![0, 0, 0] S128x1x256.size inb_S128x4x1408_S128x1x256_0_0_0).toLoadRect f9))
    (f : Buf (Elt F) (arg9.view.loc (c : Thread nD τ)))
    (hf : f = arg9.view.writes (Elt F) f9 [
      ⟨Rect.unit (s := S128x4x1408) ![0, 3, 1280] S128x1x128.size inb_S128x4x1408_S128x1x128_0_3_1280, P53⟩,
      ⟨Rect.unit (s := S128x4x1408) ![0, 2, 1280] S128x1x128.size inb_S128x4x1408_S128x1x128_0_2_1280, P52⟩,
      ⟨Rect.unit (s := S128x4x1408) ![0, 1, 1280] S128x1x128.size inb_S128x4x1408_S128x1x128_0_1_1280, P51⟩,
      ⟨Rect.unit (s := S128x4x1408) ![0, 0, 1280] S128x1x128.size inb_S128x4x1408_S128x1x128_0_0_1280, P50⟩,
      ⟨Rect.unit (s := S128x4x1408) ![0, 3, 1024] S128x1x256.size inb_S128x4x1408_S128x1x256_0_3_1024, P43⟩,
      ⟨Rect.unit (s := S128x4x1408) ![0, 2, 1024] S128x1x256.size inb_S128x4x1408_S128x1x256_0_2_1024, P42⟩,
      ⟨Rect.unit (s := S128x4x1408) ![0, 1, 1024] S128x1x256.size inb_S128x4x1408_S128x1x256_0_1_1024, P41⟩,
      ⟨Rect.unit (s := S128x4x1408) ![0, 0, 1024] S128x1x256.size inb_S128x4x1408_S128x1x256_0_0_1024, P40⟩,
      ⟨Rect.unit (s := S128x4x1408) ![0, 3, 768] S128x1x256.size inb_S128x4x1408_S128x1x256_0_3_768, P33⟩,
      ⟨Rect.unit (s := S128x4x1408) ![0, 2, 768] S128x1x256.size inb_S128x4x1408_S128x1x256_0_2_768, P32⟩,
      ⟨Rect.unit (s := S128x4x1408) ![0, 1, 768] S128x1x256.size inb_S128x4x1408_S128x1x256_0_1_768, P31⟩,
      ⟨Rect.unit (s := S128x4x1408) ![0, 0, 768] S128x1x256.size inb_S128x4x1408_S128x1x256_0_0_768, P30⟩,
      ⟨Rect.unit (s := S128x4x1408) ![0, 3, 512] S128x1x256.size inb_S128x4x1408_S128x1x256_0_3_512, P23⟩,
      ⟨Rect.unit (s := S128x4x1408) ![0, 2, 512] S128x1x256.size inb_S128x4x1408_S128x1x256_0_2_512, P22⟩,
      ⟨Rect.unit (s := S128x4x1408) ![0, 1, 512] S128x1x256.size inb_S128x4x1408_S128x1x256_0_1_512, P21⟩,
      ⟨Rect.unit (s := S128x4x1408) ![0, 0, 512] S128x1x256.size inb_S128x4x1408_S128x1x256_0_0_512, P20⟩,
      ⟨Rect.unit (s := S128x4x1408) ![0, 3, 256] S128x1x256.size inb_S128x4x1408_S128x1x256_0_3_256, P13⟩,
      ⟨Rect.unit (s := S128x4x1408) ![0, 2, 256] S128x1x256.size inb_S128x4x1408_S128x1x256_0_2_256, P12⟩,
      ⟨Rect.unit (s := S128x4x1408) ![0, 1, 256] S128x1x256.size inb_S128x4x1408_S128x1x256_0_1_256, P11⟩,
      ⟨Rect.unit (s := S128x4x1408) ![0, 0, 256] S128x1x256.size inb_S128x4x1408_S128x1x256_0_0_256, P10⟩,
      ⟨Rect.unit (s := S128x4x1408) ![0, 3, 0] S128x1x256.size inb_S128x4x1408_S128x1x256_0_3_0, P03⟩,
      ⟨Rect.unit (s := S128x4x1408) ![0, 2, 0] S128x1x256.size inb_S128x4x1408_S128x1x256_0_2_0, P02⟩,
      ⟨Rect.unit (s := S128x4x1408) ![0, 1, 0] S128x1x256.size inb_S128x4x1408_S128x1x256_0_1_0, P01⟩,
      ⟨Rect.unit (s := S128x4x1408) ![0, 0, 0] S128x1x256.size inb_S128x4x1408_S128x1x256_0_0_0, P00⟩]) :
    arg9.view.read (Elt F) f = mix (arg4.view.read (Elt F) X) wd (delta v20 (hcM.view.read (Elt F) CC) (hsM.view.read (Elt F) CS) e) (arg9.view.read (Elt F) f9) := by
  subst hf
  funext y
  have a53 : ∀ x, P53 x = mix (arg4.view.read (Elt F) X) wd (delta v20 (hcM.view.read (Elt F) CC) (hsM.view.read (Elt F) CS) e) (arg9.view.read (Elt F) f9)
      ((Rect.unit (s := S128x4x1408) ![0, 3, 1280] S128x1x128.size inb_S128x4x1408_S128x1x128_0_3_1280).emb x) := fun x => by
    rw [hP53]; exact hitL c arg4 arg9 v20 _ _ e wd X f9 3 inb_S128x4x1408_S128x1x128_0_3_1280 inb_S128x4_S128x1_0_3 _ hR5 x
  have a52 : ∀ x, P52 x = mix (arg4.view.read (Elt F) X) wd (delta v20 (hcM.view.read (Elt F) CC) (hsM.view.read (Elt F) CS) e) (arg9.view.read (Elt F) f9)
      ((Rect.unit (s := S128x4x1408) ![0, 2, 1280] S128x1x128.size inb_S128x4x1408_S128x1x128_0_2_1280).emb x) := fun x => by
    rw [hP52]; exact hitL c arg4 arg9 v20 _ _ e wd X f9 2 inb_S128x4x1408_S128x1x128_0_2_1280 inb_S128x4_S128x1_0_2 _ hR5 x
  have a51 : ∀ x, P51 x = mix (arg4.view.read (Elt F) X) wd (delta v20 (hcM.view.read (Elt F) CC) (hsM.view.read (Elt F) CS) e) (arg9.view.read (Elt F) f9)
      ((Rect.unit (s := S128x4x1408) ![0, 1, 1280] S128x1x128.size inb_S128x4x1408_S128x1x128_0_1_1280).emb x) := fun x => by
    rw [hP51]; exact hitL c arg4 arg9 v20 _ _ e wd X f9 1 inb_S128x4x1408_S128x1x128_0_1_1280 inb_S128x4_S128x1_0_1 _ hR5 x
  have a50 : ∀ x, P50 x = mix (arg4.view.read (Elt F) X) wd (delta v20 (hcM.view.read (Elt F) CC) (hsM.view.read (Elt F) CS) e) (arg9.view.read (Elt F) f9)
      ((Rect.unit (s := S128x4x1408) ![0, 0, 1280] S128x1x128.size inb_S128x4x1408_S128x1x128_0_0_1280).emb x) := fun x => by
    rw [hP50]; exact hitL c arg4 arg9 v20 _ _ e wd X f9 0 inb_S128x4x1408_S128x1x128_0_0_1280 inb_S128x4_S128x1_0_0 _ hR5 x
  have a43 : ∀ x, P43 x = mix (arg4.view.read (Elt F) X) wd (delta v20 (hcM.view.read (Elt F) CC) (hsM.view.read (Elt F) CS) e) (arg9.view.read (Elt F) f9)
      ((Rect.unit (s := S128x4x1408) ![0, 3, 1024] S128x1x256.size inb_S128x4x1408_S128x1x256_0_3_1024).emb x) := fun x => by
    rw [hP43]; exact hitT c arg4 arg9 v20 _ _ e wd X f9 3 4 (by decide) inb_S128x4x1408_S128x1x256_0_3_1024 inb_S128x4_S128x1_0_3 _ hR4 x
  have a42 : ∀ x, P42 x = mix (arg4.view.read (Elt F) X) wd (delta v20 (hcM.view.read (Elt F) CC) (hsM.view.read (Elt F) CS) e) (arg9.view.read (Elt F) f9)
      ((Rect.unit (s := S128x4x1408) ![0, 2, 1024] S128x1x256.size inb_S128x4x1408_S128x1x256_0_2_1024).emb x) := fun x => by
    rw [hP42]; exact hitT c arg4 arg9 v20 _ _ e wd X f9 2 4 (by decide) inb_S128x4x1408_S128x1x256_0_2_1024 inb_S128x4_S128x1_0_2 _ hR4 x
  have a41 : ∀ x, P41 x = mix (arg4.view.read (Elt F) X) wd (delta v20 (hcM.view.read (Elt F) CC) (hsM.view.read (Elt F) CS) e) (arg9.view.read (Elt F) f9)
      ((Rect.unit (s := S128x4x1408) ![0, 1, 1024] S128x1x256.size inb_S128x4x1408_S128x1x256_0_1_1024).emb x) := fun x => by
    rw [hP41]; exact hitT c arg4 arg9 v20 _ _ e wd X f9 1 4 (by decide) inb_S128x4x1408_S128x1x256_0_1_1024 inb_S128x4_S128x1_0_1 _ hR4 x
  have a40 : ∀ x, P40 x = mix (arg4.view.read (Elt F) X) wd (delta v20 (hcM.view.read (Elt F) CC) (hsM.view.read (Elt F) CS) e) (arg9.view.read (Elt F) f9)
      ((Rect.unit (s := S128x4x1408) ![0, 0, 1024] S128x1x256.size inb_S128x4x1408_S128x1x256_0_0_1024).emb x) := fun x => by
    rw [hP40]; exact hitT c arg4 arg9 v20 _ _ e wd X f9 0 4 (by decide) inb_S128x4x1408_S128x1x256_0_0_1024 inb_S128x4_S128x1_0_0 _ hR4 x
  have a33 : ∀ x, P33 x = mix (arg4.view.read (Elt F) X) wd (delta v20 (hcM.view.read (Elt F) CC) (hsM.view.read (Elt F) CS) e) (arg9.view.read (Elt F) f9)
      ((Rect.unit (s := S128x4x1408) ![0, 3, 768] S128x1x256.size inb_S128x4x1408_S128x1x256_0_3_768).emb x) := fun x => by
    rw [hP33]; exact hitT c arg4 arg9 v20 _ _ e wd X f9 3 3 (by decide) inb_S128x4x1408_S128x1x256_0_3_768 inb_S128x4_S128x1_0_3 _ hR3 x
  have a32 : ∀ x, P32 x = mix (arg4.view.read (Elt F) X) wd (delta v20 (hcM.view.read (Elt F) CC) (hsM.view.read (Elt F) CS) e) (arg9.view.read (Elt F) f9)
      ((Rect.unit (s := S128x4x1408) ![0, 2, 768] S128x1x256.size inb_S128x4x1408_S128x1x256_0_2_768).emb x) := fun x => by
    rw [hP32]; exact hitT c arg4 arg9 v20 _ _ e wd X f9 2 3 (by decide) inb_S128x4x1408_S128x1x256_0_2_768 inb_S128x4_S128x1_0_2 _ hR3 x
  have a31 : ∀ x, P31 x = mix (arg4.view.read (Elt F) X) wd (delta v20 (hcM.view.read (Elt F) CC) (hsM.view.read (Elt F) CS) e) (arg9.view.read (Elt F) f9)
      ((Rect.unit (s := S128x4x1408) ![0, 1, 768] S128x1x256.size inb_S128x4x1408_S128x1x256_0_1_768).emb x) := fun x => by
    rw [hP31]; exact hitT c arg4 arg9 v20 _ _ e wd X f9 1 3 (by decide) inb_S128x4x1408_S128x1x256_0_1_768 inb_S128x4_S128x1_0_1 _ hR3 x
  have a30 : ∀ x, P30 x = mix (arg4.view.read (Elt F) X) wd (delta v20 (hcM.view.read (Elt F) CC) (hsM.view.read (Elt F) CS) e) (arg9.view.read (Elt F) f9)
      ((Rect.unit (s := S128x4x1408) ![0, 0, 768] S128x1x256.size inb_S128x4x1408_S128x1x256_0_0_768).emb x) := fun x => by
    rw [hP30]; exact hitT c arg4 arg9 v20 _ _ e wd X f9 0 3 (by decide) inb_S128x4x1408_S128x1x256_0_0_768 inb_S128x4_S128x1_0_0 _ hR3 x
  have a23 : ∀ x, P23 x = mix (arg4.view.read (Elt F) X) wd (delta v20 (hcM.view.read (Elt F) CC) (hsM.view.read (Elt F) CS) e) (arg9.view.read (Elt F) f9)
      ((Rect.unit (s := S128x4x1408) ![0, 3, 512] S128x1x256.size inb_S128x4x1408_S128x1x256_0_3_512).emb x) := fun x => by
    rw [hP23]; exact hitT c arg4 arg9 v20 _ _ e wd X f9 3 2 (by decide) inb_S128x4x1408_S128x1x256_0_3_512 inb_S128x4_S128x1_0_3 _ hR2 x
  have a22 : ∀ x, P22 x = mix (arg4.view.read (Elt F) X) wd (delta v20 (hcM.view.read (Elt F) CC) (hsM.view.read (Elt F) CS) e) (arg9.view.read (Elt F) f9)
      ((Rect.unit (s := S128x4x1408) ![0, 2, 512] S128x1x256.size inb_S128x4x1408_S128x1x256_0_2_512).emb x) := fun x => by
    rw [hP22]; exact hitT c arg4 arg9 v20 _ _ e wd X f9 2 2 (by decide) inb_S128x4x1408_S128x1x256_0_2_512 inb_S128x4_S128x1_0_2 _ hR2 x
  have a21 : ∀ x, P21 x = mix (arg4.view.read (Elt F) X) wd (delta v20 (hcM.view.read (Elt F) CC) (hsM.view.read (Elt F) CS) e) (arg9.view.read (Elt F) f9)
      ((Rect.unit (s := S128x4x1408) ![0, 1, 512] S128x1x256.size inb_S128x4x1408_S128x1x256_0_1_512).emb x) := fun x => by
    rw [hP21]; exact hitT c arg4 arg9 v20 _ _ e wd X f9 1 2 (by decide) inb_S128x4x1408_S128x1x256_0_1_512 inb_S128x4_S128x1_0_1 _ hR2 x
  have a20 : ∀ x, P20 x = mix (arg4.view.read (Elt F) X) wd (delta v20 (hcM.view.read (Elt F) CC) (hsM.view.read (Elt F) CS) e) (arg9.view.read (Elt F) f9)
      ((Rect.unit (s := S128x4x1408) ![0, 0, 512] S128x1x256.size inb_S128x4x1408_S128x1x256_0_0_512).emb x) := fun x => by
    rw [hP20]; exact hitT c arg4 arg9 v20 _ _ e wd X f9 0 2 (by decide) inb_S128x4x1408_S128x1x256_0_0_512 inb_S128x4_S128x1_0_0 _ hR2 x
  have a13 : ∀ x, P13 x = mix (arg4.view.read (Elt F) X) wd (delta v20 (hcM.view.read (Elt F) CC) (hsM.view.read (Elt F) CS) e) (arg9.view.read (Elt F) f9)
      ((Rect.unit (s := S128x4x1408) ![0, 3, 256] S128x1x256.size inb_S128x4x1408_S128x1x256_0_3_256).emb x) := fun x => by
    rw [hP13]; exact hitT c arg4 arg9 v20 _ _ e wd X f9 3 1 (by decide) inb_S128x4x1408_S128x1x256_0_3_256 inb_S128x4_S128x1_0_3 _ hR1 x
  have a12 : ∀ x, P12 x = mix (arg4.view.read (Elt F) X) wd (delta v20 (hcM.view.read (Elt F) CC) (hsM.view.read (Elt F) CS) e) (arg9.view.read (Elt F) f9)
      ((Rect.unit (s := S128x4x1408) ![0, 2, 256] S128x1x256.size inb_S128x4x1408_S128x1x256_0_2_256).emb x) := fun x => by
    rw [hP12]; exact hitT c arg4 arg9 v20 _ _ e wd X f9 2 1 (by decide) inb_S128x4x1408_S128x1x256_0_2_256 inb_S128x4_S128x1_0_2 _ hR1 x
  have a11 : ∀ x, P11 x = mix (arg4.view.read (Elt F) X) wd (delta v20 (hcM.view.read (Elt F) CC) (hsM.view.read (Elt F) CS) e) (arg9.view.read (Elt F) f9)
      ((Rect.unit (s := S128x4x1408) ![0, 1, 256] S128x1x256.size inb_S128x4x1408_S128x1x256_0_1_256).emb x) := fun x => by
    rw [hP11]; exact hitT c arg4 arg9 v20 _ _ e wd X f9 1 1 (by decide) inb_S128x4x1408_S128x1x256_0_1_256 inb_S128x4_S128x1_0_1 _ hR1 x
  have a10 : ∀ x, P10 x = mix (arg4.view.read (Elt F) X) wd (delta v20 (hcM.view.read (Elt F) CC) (hsM.view.read (Elt F) CS) e) (arg9.view.read (Elt F) f9)
      ((Rect.unit (s := S128x4x1408) ![0, 0, 256] S128x1x256.size inb_S128x4x1408_S128x1x256_0_0_256).emb x) := fun x => by
    rw [hP10]; exact hitT c arg4 arg9 v20 _ _ e wd X f9 0 1 (by decide) inb_S128x4x1408_S128x1x256_0_0_256 inb_S128x4_S128x1_0_0 _ hR1 x
  have a03 : ∀ x, P03 x = mix (arg4.view.read (Elt F) X) wd (delta v20 (hcM.view.read (Elt F) CC) (hsM.view.read (Elt F) CS) e) (arg9.view.read (Elt F) f9)
      ((Rect.unit (s := S128x4x1408) ![0, 3, 0] S128x1x256.size inb_S128x4x1408_S128x1x256_0_3_0).emb x) := fun x => by
    rw [hP03]; exact hitT c arg4 arg9 v20 _ _ e wd X f9 3 0 (by decide) inb_S128x4x1408_S128x1x256_0_3_0 inb_S128x4_S128x1_0_3 _ hR0 x
  have a02 : ∀ x, P02 x = mix (arg4.view.read (Elt F) X) wd (delta v20 (hcM.view.read (Elt F) CC) (hsM.view.read (Elt F) CS) e) (arg9.view.read (Elt F) f9)
      ((Rect.unit (s := S128x4x1408) ![0, 2, 0] S128x1x256.size inb_S128x4x1408_S128x1x256_0_2_0).emb x) := fun x => by
    rw [hP02]; exact hitT c arg4 arg9 v20 _ _ e wd X f9 2 0 (by decide) inb_S128x4x1408_S128x1x256_0_2_0 inb_S128x4_S128x1_0_2 _ hR0 x
  have a01 : ∀ x, P01 x = mix (arg4.view.read (Elt F) X) wd (delta v20 (hcM.view.read (Elt F) CC) (hsM.view.read (Elt F) CS) e) (arg9.view.read (Elt F) f9)
      ((Rect.unit (s := S128x4x1408) ![0, 1, 0] S128x1x256.size inb_S128x4x1408_S128x1x256_0_1_0).emb x) := fun x => by
    rw [hP01]; exact hitT c arg4 arg9 v20 _ _ e wd X f9 1 0 (by decide) inb_S128x4x1408_S128x1x256_0_1_0 inb_S128x4_S128x1_0_1 _ hR0 x
  have a00 : ∀ x, P00 x = mix (arg4.view.read (Elt F) X) wd (delta v20 (hcM.view.read (Elt F) CC) (hsM.view.read (Elt F) CS) e) (arg9.view.read (Elt F) f9)
      ((Rect.unit (s := S128x4x1408) ![0, 0, 0] S128x1x256.size inb_S128x4x1408_S128x1x256_0_0_0).emb x) := fun x => by
    rw [hP00]; exact hitT c arg4 arg9 v20 _ _ e wd X f9 0 0 (by decide) inb_S128x4x1408_S128x1x256_0_0_0 inb_S128x4_S128x1_0_0 _ hR0 x
  clear hP53 hP52 hP51 hP50 hP43 hP42 hP41 hP40 hP33 hP32 hP31 hP30 hP23 hP22 hP21 hP20 hP13 hP12 hP11 hP10 hP03 hP02 hP01 hP00 hR0 hR1 hR2 hR3 hR4 hR5
  generalize mix (arg4.view.read (Elt F) X) wd (delta v20 (hcM.view.read (Elt F) CC) (hsM.view.read (Elt F) CS) e) (arg9.view.read (Elt F) f9) = G at *
  refine View.read_writes_apply_of_pieces _ _ _ _ ?_ y (cover_pd _ ?_ ?_ y)
  · exact List.forall_mem_cons.mpr ⟨a53, List.forall_mem_cons.mpr ⟨a52, List.forall_mem_cons.mpr ⟨a51, List.forall_mem_cons.mpr ⟨a50, List.forall_mem_cons.mpr ⟨a43, List.forall_mem_cons.mpr ⟨a42, List.forall_mem_cons.mpr ⟨a41, List.forall_mem_cons.mpr ⟨a40, List.forall_mem_cons.mpr ⟨a33, List.forall_mem_cons.mpr ⟨a32, List.forall_mem_cons.mpr ⟨a31, List.forall_mem_cons.mpr ⟨a30, List.forall_mem_cons.mpr ⟨a23, List.forall_mem_cons.mpr ⟨a22, List.forall_mem_cons.mpr ⟨a21, List.forall_mem_cons.mpr ⟨a20, List.forall_mem_cons.mpr ⟨a13, List.forall_mem_cons.mpr ⟨a12, List.forall_mem_cons.mpr ⟨a11, List.forall_mem_cons.mpr ⟨a10, List.forall_mem_cons.mpr ⟨a03, List.forall_mem_cons.mpr ⟨a02, List.forall_mem_cons.mpr ⟨a01, List.forall_mem_cons.mpr ⟨a00, fun _ h => by cases h⟩⟩⟩⟩⟩⟩⟩⟩⟩⟩⟩⟩⟩⟩⟩⟩⟩⟩⟩⟩⟩⟩⟩⟩
  · intro k m hk hm
    interval_cases m <;> interval_cases k
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), inb_S128x4x1408_S128x1x256_0_0_0, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), inb_S128x4x1408_S128x1x256_0_1_0, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), inb_S128x4x1408_S128x1x256_0_2_0, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), inb_S128x4x1408_S128x1x256_0_3_0, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), inb_S128x4x1408_S128x1x256_0_0_256, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), inb_S128x4x1408_S128x1x256_0_1_256, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), inb_S128x4x1408_S128x1x256_0_2_256, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), inb_S128x4x1408_S128x1x256_0_3_256, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), inb_S128x4x1408_S128x1x256_0_0_512, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), inb_S128x4x1408_S128x1x256_0_1_512, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), inb_S128x4x1408_S128x1x256_0_2_512, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), inb_S128x4x1408_S128x1x256_0_3_512, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), inb_S128x4x1408_S128x1x256_0_0_768, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), inb_S128x4x1408_S128x1x256_0_1_768, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), inb_S128x4x1408_S128x1x256_0_2_768, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), inb_S128x4x1408_S128x1x256_0_3_768, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S128x4x1408_S128x1x256_0_0_1024, rfl⟩
    · exact ⟨_, List.mem_cons_of_mem _ (List.mem_cons_of_mem _ (List.mem_cons_of_mem _ (List.mem_cons_of_mem _ (List.mem_cons_of_mem _ (List.mem_cons_of_mem _ (List.mem_cons_self)))))), inb_S128x4x1408_S128x1x256_0_1_1024, rfl⟩
    · exact ⟨_, List.mem_cons_of_mem _ (List.mem_cons_of_mem _ (List.mem_cons_of_mem _ (List.mem_cons_of_mem _ (List.mem_cons_of_mem _ (List.mem_cons_self))))), inb_S128x4x1408_S128x1x256_0_2_1024, rfl⟩
    · exact ⟨_, List.mem_cons_of_mem _ (List.mem_cons_of_mem _ (List.mem_cons_of_mem _ (List.mem_cons_of_mem _ (List.mem_cons_self)))), inb_S128x4x1408_S128x1x256_0_3_1024, rfl⟩
  · intro k hk
    interval_cases k
    · exact ⟨_, List.mem_cons_of_mem _ (List.mem_cons_of_mem _ (List.mem_cons_of_mem _ (List.mem_cons_self))), inb_S128x4x1408_S128x1x128_0_0_1280, rfl⟩
    · exact ⟨_, List.mem_cons_of_mem _ (List.mem_cons_of_mem _ (List.mem_cons_self)), inb_S128x4x1408_S128x1x128_0_1_1280, rfl⟩
    · exact ⟨_, List.mem_cons_of_mem _ (List.mem_cons_self), inb_S128x4x1408_S128x1x128_0_2_1280, rfl⟩
    · exact ⟨_, List.mem_cons_self, inb_S128x4x1408_S128x1x128_0_3_1280, rfl⟩

theorem off25_val (v3 : BitVec 32) (h : v3.toNat ≤ 60) (t : Fin (k0_t4_loop v3).trips) : k0_off25 v3 t 0 = t.val := by
  have := Nat.lt_of_lt_of_eq t.isLt (t4_trips v3 h)
  show (Scalar.addi 0#32 (Scalar.muli (Scf.iv 0#32 1#32 t.val) 1#32)).toNat = _
  rw [iv_eq, BitVec.toNat_ofNat]; omega
theorem off18_val (v3 : BitVec 32) (h : v3.toNat ≤ 60) (t : Fin (k0_t4_loop v3).trips) : k0_off18 v3 t 0 = t.val + 1 := by
  have := Nat.lt_of_lt_of_eq t.isLt (t4_trips v3 h)
  show (Scalar.addi (Scalar.addi 0#32 (Scalar.muli (Scf.iv 0#32 1#32 t.val) 1#32)) 1#32).toNat = _
  rw [iv_eq, show Scalar.addi (BitVec.ofNat 32 t.val) 1#32 = BitVec.ofNat 32 (t.val + 1) from (BitVec.ofNat_add ..).symm, BitVec.toNat_ofNat]; omega

set_option maxHeartbeats 2000000 in
/-- A trip that another follows. -/
theorem trip_issue
    (CC : Buf (Elt F) (hcM.view.loc (c : Thread nD τ))) (CS : Buf (Elt F) (hsM.view.loc (c : Thread nD τ))) (v3 : BitVec 32) (h3 : v3.toNat ≤ 60) (h7 : k0_chk7 v3)
    (X : Buf (Elt F) (arg4.view.loc (c : Thread nD τ))) (f9 : Buf (Elt F) (arg9.view.loc (c : Thread nD τ))) (v20 : Vec F S128x2048 .bf16)
    (l : Buf (Elt F) (liveM.view.loc (c : Thread nD τ))) (t : Fin (k0_t4_loop v3).trips) (ht : t.val + 1 < 61)
    (h0 : (liveM.view.read (Elt F) l (ix1 ⟨t.val, by omega⟩)).toNat < 60)
    (h0' : (liveM.view.read (Elt F) l (ix1 ⟨t.val + 1, ht⟩)).toNat < 60) (h1 : k0_cond1 v3 t = 1#1) (W : Waits sig Unit) (Q : Unit → sProp 𝕄) :
    iprop(liveP c l ∗ Infl c CC CS (cur v3 h3 t) ⟨_, h0⟩ ∗ Free c CC CS (nxt v3 h3 t) ∗ (arg4.view.loc (c : Thread nD τ) ↦[arg4.view.set]{fullShare} X)
      ∗ (arg9.view.loc (c : Thread nD τ) ↦[arg9.view.set]{fullShare} f9) ∗ owes (c : Thread nD τ) 0 W
      ∗ (iprop(liveP c l ∗ Free c CC CS (cur v3 h3 t) ∗ Infl c CC CS (nxt v3 h3 t) ⟨_, h0'⟩ ∗ (arg4.view.loc (c : Thread nD τ) ↦[arg4.view.set]{fullShare} X)
        ∗ (∃ f, (arg9.view.loc (c : Thread nD τ) ↦[arg9.view.set]{fullShare} f) ∗ ⌜arg9.view.read (Elt F) f
            = mix (arg4.view.read (Elt F) X) (liveM.view.read (Elt F) l (ix1 ⟨t.val, by omega⟩))
                (delta v20 (hcM.view.read (Elt F) CC) (hsM.view.read (Elt F) CS) ⟨_, h0⟩) (arg9.view.read (Elt F) f9)⌝)
        ∗ ∃ W, owes (c : Thread nD τ) 0 W) -∗ Q ()))
      ⊢ wp frame (wpE defs₀ Variants.none (c : Thread nD τ) none) Set.univ (k0_t4_body arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v3 h7 v20 t ()) Q := by
  iintro ⟨H0, ⟨⟨%g1, I1⟩, I2, ⟨%g2, I3⟩, I4⟩, ⟨F1, F2, ⟨%g3, F3⟩, ⟨%g4, F4⟩, F5, F6⟩, H4, H9, HO, HQ⟩
  have i33 : cbM.view.setOn (Rect.unit (s := S2x1024x1408) (k0_off33 v3 t) S1x1024x256.size (k0_off33_inb v3 h7 t)).toLoadRect.set ⊆ (slC (cur v3 h3 t)).view.set := tileC_sub _ _ (by decide) rfl rfl
  have i34 : sbM.view.setOn (Rect.unit (s := S2x32x1408) (k0_off34 v3 t) S1x32x256.size (k0_off34_inb v3 h7 t)).toLoadRect.set ⊆ (slS (cur v3 h3 t)).view.set := tileS_sub _ _ (by decide) rfl rfl
  have i35 : cbM.view.setOn (Rect.unit (s := S2x1024x1408) (k0_off35 v3 t) S1x1024x256.size (k0_off35_inb v3 h7 t)).toLoadRect.set ⊆ (slC (cur v3 h3 t)).view.set := tileC_sub _ _ (by decide) rfl rfl
  have i36 : sbM.view.setOn (Rect.unit (s := S2x32x1408) (k0_off36 v3 t) S1x32x256.size (k0_off36_inb v3 h7 t)).toLoadRect.set ⊆ (slS (cur v3 h3 t)).view.set := tileS_sub _ _ (by decide) rfl rfl
  have i37 : cbM.view.setOn (Rect.unit (s := S2x1024x1408) (k0_off37 v3 t) S1x1024x256.size (k0_off37_inb v3 h7 t)).toLoadRect.set ⊆ (slC (cur v3 h3 t)).view.set := tileC_sub _ _ (by decide) rfl rfl
  have i38 : sbM.view.setOn (Rect.unit (s := S2x32x1408) (k0_off38 v3 t) S1x32x256.size (k0_off38_inb v3 h7 t)).toLoadRect.set ⊆ (slS (cur v3 h3 t)).view.set := tileS_sub _ _ (by decide) rfl rfl
  have i39 : cbM.view.setOn (Rect.unit (s := S2x1024x1408) (k0_off39 v3 t) S1x1024x256.size (k0_off39_inb v3 h7 t)).toLoadRect.set ⊆ (slC (cur v3 h3 t)).view.set := tileC_sub _ _ (by decide) rfl rfl
  have i40 : sbM.view.setOn (Rect.unit (s := S2x32x1408) (k0_off40 v3 t) S1x32x256.size (k0_off40_inb v3 h7 t)).toLoadRect.set ⊆ (slS (cur v3 h3 t)).view.set := tileS_sub _ _ (by decide) rfl rfl
  have i41 : cbM.view.setOn (Rect.unit (s := S2x1024x1408) (k0_off41 v3 t) S1x1024x256.size (k0_off41_inb v3 h7 t)).toLoadRect.set ⊆ (slC (cur v3 h3 t)).view.set := tileC_sub _ _ (by decide) rfl rfl
  have i42 : sbM.view.setOn (Rect.unit (s := S2x32x1408) (k0_off42 v3 t) S1x32x256.size (k0_off42_inb v3 h7 t)).toLoadRect.set ⊆ (slS (cur v3 h3 t)).view.set := tileS_sub _ _ (by decide) rfl rfl
  have i43 : cbM.view.setOn (Rect.unit (s := S2x1024x1408) (k0_off43 v3 t) S1x1024x128.size (k0_off43_inb v3 h7 t)).toLoadRect.set ⊆ (slC (cur v3 h3 t)).view.set := tileC_sub _ _ (by decide) rfl rfl
  have i44 : sbM.view.setOn (Rect.unit (s := S2x32x1408) (k0_off44 v3 t) S1x32x128.size (k0_off44_inb v3 h7 t)).toLoadRect.set ⊆ (slS (cur v3 h3 t)).view.set := tileS_sub _ _ (by decide) rfl rfl
  have o25 : k0_off25 v3 t 0 = t.val := off25_val v3 h3 t
  have o32 : k0_off32 v3 t 0 = t.val := off25_val v3 h3 t
  have w25 : ∀ i, (liveM.view.readAt (Elt F) (Rect.unit (s := S61) (k0_off25 v3 t) S1.size (k0_off25_inb v3 h7 t)).toLoadRect l i).toNat < 60 := fun i => by
    rw [live_word c l (k0_off25_inb v3 h7 t) t.val (by omega) o25]; exact h0
  have o18 : k0_off18 v3 t 0 = t.val + 1 := off18_val v3 h3 t
  have e18 : ∀ i, liveM.view.readAt (Elt F) (Rect.unit (s := S61) (k0_off18 v3 t) S1.size (k0_off18_inb v3 h7 t h1)).toLoadRect l i = liveM.view.read (Elt F) l (ix1 ⟨t.val + 1, ht⟩) :=
    live_word c l (k0_off18_inb v3 h7 t h1) (t.val + 1) ht o18
  have w18 : ∀ i, (liveM.view.readAt (Elt F) (Rect.unit (s := S61) (k0_off18 v3 t) S1.size (k0_off18_inb v3 h7 t h1)).toLoadRect l i).toNat < 60 := fun i => by
    rw [e18]; exact h0'
  unfold k0_t4_body
  sl_exec (disch := first | exact chk8_of _ _ _ (w18 _) | exact chk9_of _ (w25 _))
  sl_step
  iapply HQ
  isplitl [H0]; · iexact H0
  isplitl [I1 I3 I1_dst I3_dst I2 I4]
  · isplitl [I1]; · iexact I1
    isplitl [I3]; · iexact I3
    isplitl [I1_dst]; · iexists _; iexact I1_dst
    isplitl [I3_dst]; · iexists _; iexact I3_dst
    isplitl [I2]; · iexact I2
    iexact I4
  isplitl [F1 F2 F5 F6]
  · have he : (⟨_, h0'⟩ : Fin 60) = ⟨_, w18 (Shape.Idx.first (numel1_S1.symm ▸ Nat.one_pos))⟩ := Fin.ext (congrArg BitVec.toNat (e18 _).symm)
    rw [he]
    isplitl [F1]; · iexists _; iexact F1
    isplitl [F5]; · iexact F5
    isplitl [F2]; · iexists _; iexact F2
    iexact F6
  isplitl [H4]; · iexact H4
  isplitl [H9]
  · iexists _
    isplitl [H9]; · iexact H9
    ipureintro
    have ew := live_word c l (k0_off32_inb v3 h7 t) t.val (by omega) o32 (Shape.Idx.first (numel1_S1.symm ▸ Nat.one_pos))
    refine Eq.trans ?_ (congrArg (fun w => mix (arg4.view.read (Elt F) X) w (delta v20 (hcM.view.read (Elt F) CC) (hsM.view.read (Elt F) CS) ⟨_, h0⟩) (arg9.view.read (Elt F) f9)) ew)
    exact trip_pd c arg4 arg9 ⟨_, h0⟩ v20 CC CS X f9 _ _ _ _ _ _ _
      (loadT c v20 CC CS (cur v3 h3 t) ⟨_, h0⟩ _ _ 0 (by decide) (k0_off33_inb v3 h7 t) rfl rfl rfl (k0_off34_inb v3 h7 t) rfl rfl rfl)
      (loadT c v20 CC CS (cur v3 h3 t) ⟨_, h0⟩ _ _ 1 (by decide) (k0_off35_inb v3 h7 t) rfl rfl rfl (k0_off36_inb v3 h7 t) rfl rfl rfl)
      (loadT c v20 CC CS (cur v3 h3 t) ⟨_, h0⟩ _ _ 2 (by decide) (k0_off37_inb v3 h7 t) rfl rfl rfl (k0_off38_inb v3 h7 t) rfl rfl rfl)
      (loadT c v20 CC CS (cur v3 h3 t) ⟨_, h0⟩ _ _ 3 (by decide) (k0_off39_inb v3 h7 t) rfl rfl rfl (k0_off40_inb v3 h7 t) rfl rfl rfl)
      (loadT c v20 CC CS (cur v3 h3 t) ⟨_, h0⟩ _ _ 4 (by decide) (k0_off41_inb v3 h7 t) rfl rfl rfl (k0_off42_inb v3 h7 t) rfl rfl rfl)
      (loadL c v20 CC CS (cur v3 h3 t) ⟨_, h0⟩ _ _ (k0_off43_inb v3 h7 t) rfl rfl rfl (k0_off44_inb v3 h7 t) rfl rfl rfl)
      _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl
  iexists _; iexact HO

set_option maxHeartbeats 2000000 in
/-- A trip no other follows. -/
theorem trip_last
    (CC : Buf (Elt F) (hcM.view.loc (c : Thread nD τ))) (CS : Buf (Elt F) (hsM.view.loc (c : Thread nD τ))) (v3 : BitVec 32) (h3 : v3.toNat ≤ 60) (h7 : k0_chk7 v3)
    (X : Buf (Elt F) (arg4.view.loc (c : Thread nD τ))) (f9 : Buf (Elt F) (arg9.view.loc (c : Thread nD τ))) (v20 : Vec F S128x2048 .bf16)
    (l : Buf (Elt F) (liveM.view.loc (c : Thread nD τ))) (t : Fin (k0_t4_loop v3).trips) (ht : t.val + 1 < 61)
    (h0 : (liveM.view.read (Elt F) l (ix1 ⟨t.val, by omega⟩)).toNat < 60)
     (h1 : ¬ k0_cond1 v3 t = 1#1) (W : Waits sig Unit) (Q : Unit → sProp 𝕄) :
    iprop(liveP c l ∗ Infl c CC CS (cur v3 h3 t) ⟨_, h0⟩ ∗ Free c CC CS (nxt v3 h3 t) ∗ (arg4.view.loc (c : Thread nD τ) ↦[arg4.view.set]{fullShare} X)
      ∗ (arg9.view.loc (c : Thread nD τ) ↦[arg9.view.set]{fullShare} f9) ∗ owes (c : Thread nD τ) 0 W
      ∗ (iprop(liveP c l ∗ Free c CC CS (cur v3 h3 t) ∗ Free c CC CS (nxt v3 h3 t) ∗ (arg4.view.loc (c : Thread nD τ) ↦[arg4.view.set]{fullShare} X)
        ∗ (∃ f, (arg9.view.loc (c : Thread nD τ) ↦[arg9.view.set]{fullShare} f) ∗ ⌜arg9.view.read (Elt F) f
            = mix (arg4.view.read (Elt F) X) (liveM.view.read (Elt F) l (ix1 ⟨t.val, by omega⟩))
                (delta v20 (hcM.view.read (Elt F) CC) (hsM.view.read (Elt F) CS) ⟨_, h0⟩) (arg9.view.read (Elt F) f9)⌝)
        ∗ ∃ W, owes (c : Thread nD τ) 0 W) -∗ Q ()))
      ⊢ wp frame (wpE defs₀ Variants.none (c : Thread nD τ) none) Set.univ (k0_t4_body arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v3 h7 v20 t ()) Q := by
  iintro ⟨H0, ⟨⟨%g1, I1⟩, I2, ⟨%g2, I3⟩, I4⟩, ⟨F1, F2, ⟨%g3, F3⟩, ⟨%g4, F4⟩, F5, F6⟩, H4, H9, HO, HQ⟩
  have i33 : cbM.view.setOn (Rect.unit (s := S2x1024x1408) (k0_off33 v3 t) S1x1024x256.size (k0_off33_inb v3 h7 t)).toLoadRect.set ⊆ (slC (cur v3 h3 t)).view.set := tileC_sub _ _ (by decide) rfl rfl
  have i34 : sbM.view.setOn (Rect.unit (s := S2x32x1408) (k0_off34 v3 t) S1x32x256.size (k0_off34_inb v3 h7 t)).toLoadRect.set ⊆ (slS (cur v3 h3 t)).view.set := tileS_sub _ _ (by decide) rfl rfl
  have i35 : cbM.view.setOn (Rect.unit (s := S2x1024x1408) (k0_off35 v3 t) S1x1024x256.size (k0_off35_inb v3 h7 t)).toLoadRect.set ⊆ (slC (cur v3 h3 t)).view.set := tileC_sub _ _ (by decide) rfl rfl
  have i36 : sbM.view.setOn (Rect.unit (s := S2x32x1408) (k0_off36 v3 t) S1x32x256.size (k0_off36_inb v3 h7 t)).toLoadRect.set ⊆ (slS (cur v3 h3 t)).view.set := tileS_sub _ _ (by decide) rfl rfl
  have i37 : cbM.view.setOn (Rect.unit (s := S2x1024x1408) (k0_off37 v3 t) S1x1024x256.size (k0_off37_inb v3 h7 t)).toLoadRect.set ⊆ (slC (cur v3 h3 t)).view.set := tileC_sub _ _ (by decide) rfl rfl
  have i38 : sbM.view.setOn (Rect.unit (s := S2x32x1408) (k0_off38 v3 t) S1x32x256.size (k0_off38_inb v3 h7 t)).toLoadRect.set ⊆ (slS (cur v3 h3 t)).view.set := tileS_sub _ _ (by decide) rfl rfl
  have i39 : cbM.view.setOn (Rect.unit (s := S2x1024x1408) (k0_off39 v3 t) S1x1024x256.size (k0_off39_inb v3 h7 t)).toLoadRect.set ⊆ (slC (cur v3 h3 t)).view.set := tileC_sub _ _ (by decide) rfl rfl
  have i40 : sbM.view.setOn (Rect.unit (s := S2x32x1408) (k0_off40 v3 t) S1x32x256.size (k0_off40_inb v3 h7 t)).toLoadRect.set ⊆ (slS (cur v3 h3 t)).view.set := tileS_sub _ _ (by decide) rfl rfl
  have i41 : cbM.view.setOn (Rect.unit (s := S2x1024x1408) (k0_off41 v3 t) S1x1024x256.size (k0_off41_inb v3 h7 t)).toLoadRect.set ⊆ (slC (cur v3 h3 t)).view.set := tileC_sub _ _ (by decide) rfl rfl
  have i42 : sbM.view.setOn (Rect.unit (s := S2x32x1408) (k0_off42 v3 t) S1x32x256.size (k0_off42_inb v3 h7 t)).toLoadRect.set ⊆ (slS (cur v3 h3 t)).view.set := tileS_sub _ _ (by decide) rfl rfl
  have i43 : cbM.view.setOn (Rect.unit (s := S2x1024x1408) (k0_off43 v3 t) S1x1024x128.size (k0_off43_inb v3 h7 t)).toLoadRect.set ⊆ (slC (cur v3 h3 t)).view.set := tileC_sub _ _ (by decide) rfl rfl
  have i44 : sbM.view.setOn (Rect.unit (s := S2x32x1408) (k0_off44 v3 t) S1x32x128.size (k0_off44_inb v3 h7 t)).toLoadRect.set ⊆ (slS (cur v3 h3 t)).view.set := tileS_sub _ _ (by decide) rfl rfl
  have o25 : k0_off25 v3 t 0 = t.val := off25_val v3 h3 t
  have o32 : k0_off32 v3 t 0 = t.val := off25_val v3 h3 t
  have w25 : ∀ i, (liveM.view.readAt (Elt F) (Rect.unit (s := S61) (k0_off25 v3 t) S1.size (k0_off25_inb v3 h7 t)).toLoadRect l i).toNat < 60 := fun i => by
    rw [live_word c l (k0_off25_inb v3 h7 t) t.val (by omega) o25]; exact h0
  unfold k0_t4_body
  sl_exec (disch := first | exact chk8_of _ _ _ (w18 _) | exact chk9_of _ (w25 _))
  sl_step
  iapply HQ
  isplitl [H0]; · iexact H0
  isplitl [I1 I3 I1_dst I3_dst I2 I4]
  · isplitl [I1]; · iexact I1
    isplitl [I3]; · iexact I3
    isplitl [I1_dst]; · iexists _; iexact I1_dst
    isplitl [I3_dst]; · iexists _; iexact I3_dst
    isplitl [I2]; · iexact I2
    iexact I4
  isplitl [F1 F2 F3 F4 F5 F6]
  · isplitl [F1]; · iexact F1
    isplitl [F2]; · iexact F2
    isplitl [F3]; · iexists _; iexact F3
    isplitl [F4]; · iexists _; iexact F4
    isplitl [F5]; · iexact F5
    iexact F6
  isplitl [H4]; · iexact H4
  isplitl [H9]
  · iexists _
    isplitl [H9]; · iexact H9
    ipureintro
    have ew := live_word c l (k0_off32_inb v3 h7 t) t.val (by omega) o32 (Shape.Idx.first (numel1_S1.symm ▸ Nat.one_pos))
    refine Eq.trans ?_ (congrArg (fun w => mix (arg4.view.read (Elt F) X) w (delta v20 (hcM.view.read (Elt F) CC) (hsM.view.read (Elt F) CS) ⟨_, h0⟩) (arg9.view.read (Elt F) f9)) ew)
    exact trip_pd c arg4 arg9 ⟨_, h0⟩ v20 CC CS X f9 _ _ _ _ _ _ _
      (loadT c v20 CC CS (cur v3 h3 t) ⟨_, h0⟩ _ _ 0 (by decide) (k0_off33_inb v3 h7 t) rfl rfl rfl (k0_off34_inb v3 h7 t) rfl rfl rfl)
      (loadT c v20 CC CS (cur v3 h3 t) ⟨_, h0⟩ _ _ 1 (by decide) (k0_off35_inb v3 h7 t) rfl rfl rfl (k0_off36_inb v3 h7 t) rfl rfl rfl)
      (loadT c v20 CC CS (cur v3 h3 t) ⟨_, h0⟩ _ _ 2 (by decide) (k0_off37_inb v3 h7 t) rfl rfl rfl (k0_off38_inb v3 h7 t) rfl rfl rfl)
      (loadT c v20 CC CS (cur v3 h3 t) ⟨_, h0⟩ _ _ 3 (by decide) (k0_off39_inb v3 h7 t) rfl rfl rfl (k0_off40_inb v3 h7 t) rfl rfl rfl)
      (loadT c v20 CC CS (cur v3 h3 t) ⟨_, h0⟩ _ _ 4 (by decide) (k0_off41_inb v3 h7 t) rfl rfl rfl (k0_off42_inb v3 h7 t) rfl rfl rfl)
      (loadL c v20 CC CS (cur v3 h3 t) ⟨_, h0⟩ _ _ (k0_off43_inb v3 h7 t) rfl rfl rfl (k0_off44_inb v3 h7 t) rfl rfl rfl)
      _ rfl _ rfl _ rfl _ rfl _ rfl _ rfl _ rfl _ rfl _ rfl _ rfl _ rfl _ rfl _ rfl _ rfl _ rfl _ rfl _ rfl _ rfl _ rfl _ rfl _ rfl _ rfl _ rfl _ rfl _ rfl
  iexists _; iexact HO

end Cert.Kernel.Run

end
-- ==== Proof.Low.Stream.lean ====
/- The streaming loop: after each trip the elements of the output whose expert has been met hold their product. -/
module

public import proofs.«01_k».proof.Proof.Low.Trip

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

/-- The product of token `t` with the weights of the expert the id `w` names. -/
def deltaW (v20 : Vec F S128x2048 .bf16) (A : Vec F S60x1024x1408 .i8) (B : Vec F S60x32x1408 .bf16) (w : BitVec 32) (t : Fin 128) (n : Fin 1408) : F .f32 :=
  delta v20 A B ⟨w.toNat % 60, Nat.mod_lt _ (by decide)⟩ t n

/-- After `i` trips: every element whose id is among the first `i` live experts holds its product. -/
def Done (ids : S128x4.Idx → BitVec 32) (lv : S61.Idx → BitVec 32) (d : BitVec 32 → Fin 128 → Fin 1408 → F .f32) (i : ℕ) (g : S128x4x1408.Idx → F .f32) : Prop :=
  ∀ y : S128x4x1408.Idx, (∃ j : S61.Idx, (j 0).val < i ∧ lv j = ids (ix2 (y 0) (y 1))) → g y = d (ids (ix2 (y 0) (y 1))) (y 0) (y 2)

/-- One more trip. -/
theorem done_step (ids : S128x4.Idx → BitVec 32) (lv : S61.Idx → BitVec 32) (v20 : Vec F S128x2048 .bf16) (A : Vec F S60x1024x1408 .i8) (B : Vec F S60x32x1408 .bf16)
    (i : ℕ) (hi : i < 61) (h0 : (lv (ix1 ⟨i, hi⟩)).toNat < 60) (g g' : S128x4x1408.Idx → F .f32) (h : Done ids lv (deltaW v20 A B) i g)
    (hg : g' = mix ids (lv (ix1 ⟨i, hi⟩)) (delta v20 A B ⟨_, h0⟩) g) : Done ids lv (deltaW v20 A B) (i + 1) g' := by
  rintro y ⟨j, hj, he⟩
  rw [hg]
  unfold mix
  by_cases hw : ids (ix2 (y 0) (y 1)) = lv (ix1 ⟨i, hi⟩)
  · rw [if_pos hw, hw]
    unfold deltaW
    congr 1
    exact Fin.ext (Nat.mod_eq_of_lt h0).symm
  · rw [if_neg hw]
    refine h y ⟨j, ?_, he⟩
    by_contra hn
    refine hw (he.symm.trans (congrArg lv (funext fun a => ?_)))
    have : a = 0 := Fin.ext (by have := a.isLt; show a.val = 0; change a.val < 1 at this; omega)
    subst this
    exact Fin.ext (show (j 0).val = i by omega)

/-- The slot of trip `i`. -/
abbrev sl (i : ℕ) : Fin 2 := ⟨i % 2, Nat.mod_lt _ (by decide)⟩

/-- The slot trip `i` reads: in flight with its expert, or idle when there is no such trip. -/
@[irreducible] def Slot (CC : Buf (Elt F) (hcM.view.loc (c : Thread nD τ))) (CS : Buf (Elt F) (hsM.view.loc (c : Thread nD τ))) (lv : S61.Idx → BitVec 32) (n i : ℕ) : sProp 𝕄 :=
  if h : ∃ hi : i < 61, i < n ∧ (lv (ix1 ⟨i, hi⟩)).toNat < 60 then Infl c CC CS (sl i) ⟨_, h.snd.2⟩ else Free c CC CS (sl i)

theorem slot_pos (CC : Buf (Elt F) (hcM.view.loc (c : Thread nD τ))) (CS : Buf (Elt F) (hsM.view.loc (c : Thread nD τ))) (lv : S61.Idx → BitVec 32) (n i : ℕ)
    (hi : i < 61) (hn : i < n) (h0 : (lv (ix1 ⟨i, hi⟩)).toNat < 60) (k : Fin 2) (hk : k.val = i % 2) : Slot c CC CS lv n i = Infl c CC CS k ⟨_, h0⟩ := by
  have : k = sl i := Fin.ext hk
  subst this
  unfold Slot
  exact dif_pos ⟨hi, hn, h0⟩
theorem slot_neg (CC : Buf (Elt F) (hcM.view.loc (c : Thread nD τ))) (CS : Buf (Elt F) (hsM.view.loc (c : Thread nD τ))) (lv : S61.Idx → BitVec 32) (n i : ℕ)
    (hn : ¬ i < n) (k : Fin 2) (hk : k.val = i % 2) : Slot c CC CS lv n i = Free c CC CS k := by
  have : k = sl i := Fin.ext hk
  subst this
  unfold Slot
  exact dif_neg fun h => hn h.snd.1

/-- What the streaming loop keeps. -/
abbrev streamInv (CC : Buf (Elt F) (hcM.view.loc (c : Thread nD τ))) (CS : Buf (Elt F) (hsM.view.loc (c : Thread nD τ)))
    (X : Buf (Elt F) (arg4.view.loc (c : Thread nD τ))) (v20 : Vec F S128x2048 .bf16) (l : Buf (Elt F) (liveM.view.loc (c : Thread nD τ))) (n i : ℕ) : sProp 𝕄 :=
  iprop(liveP c l ∗ Slot c CC CS (liveM.view.read (Elt F) l) n i ∗ Free c CC CS (sl (i + 1)) ∗ (arg4.view.loc (c : Thread nD τ) ↦[arg4.view.set]{fullShare} X)
    ∗ (∃ f, (arg9.view.loc (c : Thread nD τ) ↦[arg9.view.set]{fullShare} f)
      ∗ ⌜Done (arg4.view.read (Elt F) X) (liveM.view.read (Elt F) l) (deltaW v20 (hcM.view.read (Elt F) CC) (hsM.view.read (Elt F) CS)) i (arg9.view.read (Elt F) f)⌝)
    ∗ ∃ W, owes (c : Thread nD τ) 0 W)

set_option warn.classDefReducibility false in
/-- The streaming loop. -/
def loopInv_t4 (CC : Buf (Elt F) (hcM.view.loc (c : Thread nD τ))) (CS : Buf (Elt F) (hsM.view.loc (c : Thread nD τ))) (v3 : BitVec 32) (h7 : k0_chk7 v3)
    (X : Buf (Elt F) (arg4.view.loc (c : Thread nD τ))) (v20 : Vec F S128x2048 .bf16) (l : Buf (Elt F) (liveM.view.loc (c : Thread nD τ)))
    (h3 : v3.toNat ≤ 60) (hl : ∀ j : S61.Idx, (j 0).val < v3.toNat → (liveM.view.read (Elt F) l j).toNat < 60) :
    LoopInvTy_k0_t4 (F := F) Unit ℕ (Pipeline.UD sig nD τ) ℕ Variants.none c none Set.univ arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v3 h7 v20 where
  inv i _ := streamInv c arg4 arg9 CC CS X v20 l v3.toNat i
  step t _ := by
    have ht : t.val < v3.toNat := Nat.lt_of_lt_of_eq t.isLt (t4_trips v3 h3)
    have h0 : (liveM.view.read (Elt F) l (ix1 ⟨t.val, by omega⟩)).toNat < 60 := hl _ ht
    have e2 : sl (t.val + 1) = nxt v3 h3 t := Fin.ext (nxt_lt v3 h3 t).symm
    have e3 : sl (t.val + 1 + 1) = cur v3 h3 t := Fin.ext (by rw [show (cur v3 h3 t).val = t.val % 2 from cur_lt v3 h3 t]; show (t.val + 1 + 1) % 2 = _; omega)
    unfold streamInv
    rw [slot_pos c CC CS _ _ _ (by omega) ht h0 (cur v3 h3 t) (cur_lt v3 h3 t), e2, e3]
    by_cases hn : t.val + 1 < v3.toNat
    · have h0' : (liveM.view.read (Elt F) l (ix1 ⟨t.val + 1, by omega⟩)).toNat < 60 := hl _ hn
      rw [slot_pos c CC CS _ _ _ (by omega) hn h0' (nxt v3 h3 t) (nxt_lt v3 h3 t)]
      iintro ⟨H0, HI, HF, H4, ⟨%f, H9, %hf⟩, %W, HO⟩
      iapply (trip_issue c arg0 harg0 arg1 harg1 arg2 harg2 arg3 harg3 arg4 harg4 arg5 harg5 arg8 harg8 arg9 harg9 CC CS v3 h3 h7 X f v20 l t (by omega) h0 h0' ((cond1_iff v3 h3 t).mpr hn) W _)
      isplitl [H0]; · iexact H0
      isplitl [HI]; · iexact HI
      isplitl [HF]; · iexact HF
      isplitl [H4]; · iexact H4
      isplitl [H9]; · iexact H9
      isplitl [HO]; · iexact HO
      iintro ⟨H0, HF, HI, H4, ⟨%f', H9, %hf'⟩, HO⟩
      isplitl [H0]; · iexact H0
      isplitl [HI]; · iexact HI
      isplitl [HF]; · iexact HF
      isplitl [H4]; · iexact H4
      isplitl [H9]
      · iexists f'
        isplitl [H9]; · iexact H9
        ipureintro
        exact done_step _ _ v20 _ _ t.val (by omega) h0 _ _ hf hf'
      iexact HO
    · rw [slot_neg c CC CS _ _ _ hn (nxt v3 h3 t) (nxt_lt v3 h3 t)]
      iintro ⟨H0, HI, HF, H4, ⟨%f, H9, %hf⟩, %W, HO⟩
      iapply (trip_last c arg0 harg0 arg1 harg1 arg2 harg2 arg3 harg3 arg4 harg4 arg5 harg5 arg8 harg8 arg9 harg9 CC CS v3 h3 h7 X f v20 l t (by omega) h0 (fun h => hn ((cond1_iff v3 h3 t).mp h)) W _)
      isplitl [H0]; · iexact H0
      isplitl [HI]; · iexact HI
      isplitl [HF]; · iexact HF
      isplitl [H4]; · iexact H4
      isplitl [H9]; · iexact H9
      isplitl [HO]; · iexact HO
      iintro ⟨H0, HF, HI, H4, ⟨%f', H9, %hf'⟩, HO⟩
      isplitl [H0]; · iexact H0
      isplitl [HI]; · iexact HI
      isplitl [HF]; · iexact HF
      isplitl [H4]; · iexact H4
      isplitl [H9]
      · iexists f'
        isplitl [H9]; · iexact H9
        ipureintro
        exact done_step _ _ v20 _ _ t.val (by omega) h0 _ _ hf hf'
      iexact HO

end Cert.Kernel.Run

end
-- ==== Proof.Low.Open.lean ====
/- The prologue: it lists the live experts and starts the first one's transfers. -/
module

public import proofs.«01_k».proof.Proof.Low.Stream

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

/-- What the prologue leaves. -/
abbrev post25 (CC : Buf (Elt F) (hcM.view.loc (c : Thread nD τ))) (CS : Buf (Elt F) (hsM.view.loc (c : Thread nD τ)))
    (X0 : Buf (Elt F) (arg0.view.loc (c : Thread nD τ))) (x1 : Buf (Elt F) (arg1.view.loc (c : Thread nD τ)))
    (r : Σ' (v3 : BitVec 32) (k0_hw7 : k0_chk7 v3), Vec F S128x2048 .bf16) : sProp 𝕄 :=
  iprop(⌜r.2.2 = arg1.view.readAt (Elt F) (Rect.unit (s := S128x2048) ![0, 0] S128x2048.size inb_S128x2048_S128x2048_0_0).toLoadRect x1⌝
    ∗ idsP c arg0 X0 ∗ (∃ f, flagP c f)
    ∗ (∃ l, ⌜Live (arg0.view.read (Elt F) X0) 60 r.1 (liveM.view.read (Elt F) l)⌝ ∗ liveP c l ∗ Slot c CC CS (liveM.view.read (Elt F) l) r.1.toNat 0)
    ∗ Free c CC CS (sl (0 + 1)) ∗ (arg1.view.loc (c : Thread nD τ) ↦[arg1.view.set]{fullShare} x1)
    ∗ (∃ f, arg9.view.loc (c : Thread nD τ) ↦[arg9.view.set]{fullShare} f) ∗ ∃ W, owes (c : Thread nD τ) 0 W)

/-- The prologue's run. -/
theorem run25 (CC : Buf (Elt F) (hcM.view.loc (c : Thread nD τ))) (CS : Buf (Elt F) (hsM.view.loc (c : Thread nD τ)))
    (X0 : Buf (Elt F) (arg0.view.loc (c : Thread nD τ))) (hX : ∀ i, (arg0.view.read (Elt F) X0 i).toNat < 60) (x1 : Buf (Elt F) (arg1.view.loc (c : Thread nD τ)))
    (f9 : Buf (Elt F) (arg9.view.loc (c : Thread nD τ))) (W : Waits sig Unit) :
    iprop(idsP c arg0 X0 ∗ (∃ f, flagP c f) ∗ (∃ f, liveP c f) ∗ Free c CC CS 0 ∗ Free c CC CS 1 ∗ (arg1.view.loc (c : Thread nD τ) ↦[arg1.view.set]{fullShare} x1)
      ∗ (arg9.view.loc (c : Thread nD τ) ↦[arg9.view.set]{fullShare} f9) ∗ owes (c : Thread nD τ) 0 W)
      ⊢ wp frame (wpE defs₀ Variants.none (c : Thread nD τ) none) Set.univ (k0_part25 arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) (fun r => post25 c arg0 arg1 arg9 CC CS X0 x1 r) := by
  iintro ⟨H0, ⟨%fl, Hf⟩, ⟨%fv, Hl⟩, ⟨F1, F2, ⟨%g3, F3⟩, ⟨%g4, F4⟩, F5, F6⟩, HF, H1, H9, HO⟩
  have hfl : ∀ f : Buf (Elt F) (flagM.view.loc (c : Thread nD τ)), (∀ e : S60.Idx, (e 0).val < 60 → flagM.view.read (Elt F) f e = 0#32) → Flag (arg0.view.read (Elt F) X0) 0 (flagM.view.read (Elt F) f) := fun f h e => by
    rw [h e (e 0).isLt, if_neg]
    rintro ⟨i, hi, _⟩
    exact absurd hi (Nat.not_lt_zero _)
  have hlv : Live (arg0.view.read (Elt F) X0) 0 0#32 (liveM.view.read (Elt F) fv) :=
    ⟨Nat.le_refl _, fun j h => absurd h (Nat.not_lt_zero _), fun i h => absurd h (Nat.not_lt_zero _)⟩
  rw [k0_part25_eq_skeleton]
  unfold k0_part25_skel
  sl_exec
  have hz := hfl _ ‹_›
  let I2 := loopInv_t2 (F := F) c arg0 harg0 arg1 harg1 arg2 harg2 arg3 harg3 arg4 harg4 arg5 harg5 arg8 harg8 arg9 harg9 X0 hX
  sl_exec
  have hf2 : Flag (arg0.view.read (Elt F) X0) 128 _ := hL2
  let I3 := loopInv_t3 (F := F) c arg0 harg0 arg1 harg1 arg2 harg2 arg3 harg3 arg4 harg4 arg5 harg5 arg8 harg8 arg9 harg9 (arg0.view.read (Elt F) X0) _ hf2
  sl_exec
  rename_i n
  have hLv : Live (arg0.view.read (Elt F) X0) 60 n (liveM.view.read (Elt F) fL0) := hL2
  have hpos : 0 < n.toNat := by
    obtain ⟨j, hj, _⟩ := hLv.2.2 (ix2 0 0) (hX _)
    omega
  have h0 : (liveM.view.read (Elt F) fL0 (ix1 ⟨0, by decide⟩)).toNat < 60 := hLv.2.1 _ hpos
  have e0 : ∀ i, liveM.view.readAt (Elt F) (Rect.unit (s := S61) ![0] S1.size inb_S61_S1_0).toLoadRect fL0 i = liveM.view.read (Elt F) fL0 (ix1 ⟨0, by decide⟩) :=
    live_word c fL0 inb_S61_S1_0 0 (by decide) rfl
  have w0 : ∀ i, (liveM.view.readAt (Elt F) (Rect.unit (s := S61) ![0] S1.size inb_S61_S1_0).toLoadRect fL0 i).toNat < 60 := fun i => by
    rw [e0]; exact h0
  sl_exec (disch := first | exact chk7_of _ hLv.1 | exact chk6_of _ (w0 _))
  sl_step
  isplitr
  · ipureintro; rfl
  isplitl [H0]; · iexact H0
  isplitl [Hf]; · iexists _; iexact Hf
  isplitl [Hl F1 F2 F5 F6]
  · iexists fL0
    isplitr
    · ipureintro; exact hLv
    isplitl [Hl]; · iexact Hl
    have he : (⟨_, h0⟩ : Fin 60) = ⟨_, w0 (Shape.Idx.first (numel1_S1.symm ▸ Nat.one_pos))⟩ := Fin.ext (congrArg BitVec.toNat (e0 _).symm)
    rw [slot_pos c CC CS _ _ 0 (by decide) hpos h0 0 rfl, he]
    isplitl [F1]; · iexists _; iexact F1
    isplitl [F5]; · iexact F5
    isplitl [F2]; · iexists _; iexact F2
    iexact F6
  isplitl [HF]; · iexact HF
  isplitl [H1]; · iexact H1
  isplitl [H9]; · iexists _; iexact H9
  iexists _; iexact HO

end Cert.Kernel.Run

end
-- ==== Proof.Low.Outs.lean ====
/- The two outputs as functions of the inputs. -/
module

public import proofs.«01_k».proof.Proof.Low.Open
public import Idealize.ShloMosaic.Lib.LoopRemainder

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

/-- The elements of `V` under a rectangle. -/
abbrev sub {s : Shape} {e : EltTy} (r : Rect s) (V : Vec F s e) : Vec F r.shape e := fun x => V (r.emb x)

/-- The second output: every token's product with the weights of the expert each of its ids names. -/
def pdV (ids : S128x4.Idx → BitVec 32) (v20 : Vec F S128x2048 .bf16) (A : Vec F S60x1024x1408 .i8) (B : Vec F S60x32x1408 .bf16) : Vec F S128x4x1408 .f32 :=
  fun y => deltaW v20 A B (ids (ix2 (y 0) (y 1))) (y 0) (y 2)

/-- A gate column. -/
abbrev gcol (g : Vec F S128x4 .f32) (k : ℕ) (h : ∀ a, (![0, k] : Fin 2 → ℕ) a + S128x1.size a ≤ S128x4.size a) : Vec F S128x1 .f32 := sub (Rect.unit (s := S128x4) ![0, k] S128x1.size h) g

theorem inb_pd (k m : ℕ) (hk : k < 4) (hm : m < 5) : ∀ a, (![0, k, 256 * m] : Fin 3 → ℕ) a + S128x1x256.size a ≤ S128x4x1408.size a := by
  intro a; fin_cases a
  · show 0 + 128 ≤ 128; omega
  · show k + 1 ≤ 4; omega
  · show 256 * m + 256 ≤ 1408; omega
theorem inb_w0 (m : ℕ) (hm : m < 5) : ∀ a, (![0, 256 * m] : Fin 2 → ℕ) a + S2048x256.size a ≤ S2048x1408.size a := by
  intro a; fin_cases a
  · show 0 + 2048 ≤ 2048; omega
  · show 256 * m + 256 ≤ 1408; omega
theorem inb_ws (m : ℕ) (hm : m < 5) : ∀ a, (![0, 4 * m] : Fin 2 → ℕ) a + S32x4.size a ≤ S32x22.size a := by
  intro a; fin_cases a
  · show 0 + 32 ≤ 32; omega
  · show 4 * m + 4 ≤ 22; omega

/-- Columns `256 m` to `256 m + 255` of the first output. -/
def yT (v20 : Vec F S128x2048 .bf16) (g : Vec F S128x4 .f32) (w0 : Vec F S2048x1408 .fp8e4m3) (ws : Vec F S32x22 .f32) (pd : Vec F S128x4x1408 .f32) (m : ℕ) (hm : m < 5) : Vec F S128x256 .bf16 :=
  k0_pay93 (k0_pay88 (sub (Rect.unit (s := S128x4) ![0, 0] S128x4.size inb_S128x4_S128x4_0_0) g))
    (k0_pay92 (k0_pay85 v20) (sub (Rect.unit (s := S32x22) ![0, 4 * m] S32x4.size (inb_ws m hm)) ws) (sub (Rect.unit (s := S2048x1408) ![0, 256 * m] S2048x256.size (inb_w0 m hm)) w0))
    (gcol g 0 inb_S128x4_S128x1_0_0) (sub (Rect.unit (s := S128x4x1408) ![0, 0, 256 * m] S128x1x256.size (inb_pd 0 m (by decide) hm)) pd)
    (gcol g 1 inb_S128x4_S128x1_0_1) (sub (Rect.unit (s := S128x4x1408) ![0, 1, 256 * m] S128x1x256.size (inb_pd 1 m (by decide) hm)) pd)
    (gcol g 2 inb_S128x4_S128x1_0_2) (sub (Rect.unit (s := S128x4x1408) ![0, 2, 256 * m] S128x1x256.size (inb_pd 2 m (by decide) hm)) pd)
    (gcol g 3 inb_S128x4_S128x1_0_3) (sub (Rect.unit (s := S128x4x1408) ![0, 3, 256 * m] S128x1x256.size (inb_pd 3 m (by decide) hm)) pd)

/-- The last 128 columns of the first output. -/
def yL (v20 : Vec F S128x2048 .bf16) (g : Vec F S128x4 .f32) (w0 : Vec F S2048x1408 .fp8e4m3) (ws : Vec F S32x22 .f32) (pd : Vec F S128x4x1408 .f32) : Vec F S128x128 .bf16 :=
  k0_pay1 (k0_pay105 (k0_pay85 v20) (k0_pay88 (sub (Rect.unit (s := S128x4) ![0, 0] S128x4.size inb_S128x4_S128x4_0_0) g))
      (sub (Rect.unit (s := S32x22) ![0, 20] S32x2.size inb_S32x22_S32x2_0_20) ws) (sub (Rect.unit (s := S2048x1408) ![0, 1280] S2048x128.size inb_S2048x1408_S2048x128_0_1280) w0))
    (k0_pay106 (gcol g 0 inb_S128x4_S128x1_0_0)) (sub (Rect.unit (s := S128x4x1408) ![0, 0, 1280] S128x1x128.size inb_S128x4x1408_S128x1x128_0_0_1280) pd)
    (gcol g 1 inb_S128x4_S128x1_0_1) (sub (Rect.unit (s := S128x4x1408) ![0, 1, 1280] S128x1x128.size inb_S128x4x1408_S128x1x128_0_1_1280) pd)
    (gcol g 2 inb_S128x4_S128x1_0_2) (sub (Rect.unit (s := S128x4x1408) ![0, 2, 1280] S128x1x128.size inb_S128x4x1408_S128x1x128_0_2_1280) pd)
    (gcol g 3 inb_S128x4_S128x1_0_3) (sub (Rect.unit (s := S128x4x1408) ![0, 3, 1280] S128x1x128.size inb_S128x4x1408_S128x1x128_0_3_1280) pd)

/-- The first output. -/
def yV (v20 : Vec F S128x2048 .bf16) (g : Vec F S128x4 .f32) (w0 : Vec F S2048x1408 .fp8e4m3) (ws : Vec F S32x22 .f32) (pd : Vec F S128x4x1408 .f32) : Vec F S128x1408 .bf16 :=
  fun y => if h : (y 1).val < 1280 then yT v20 g w0 ws pd ((y 1).val / 256) (by omega) (ix2 (y 0) ⟨(y 1).val % 256, Nat.mod_lt _ (by decide)⟩)
    else yL v20 g w0 ws pd (ix2 (y 0) ⟨(y 1).val - 1280, by have : (y 1).val < 1408 := (y 1).isLt; omega⟩)

theorem yV_T (v20 : Vec F S128x2048 .bf16) (g : Vec F S128x4 .f32) (w0 : Vec F S2048x1408 .fp8e4m3) (ws : Vec F S32x22 .f32) (pd : Vec F S128x4x1408 .f32) (m : ℕ) (hm : m < 5)
    (inb : ∀ a, (![0, 256 * m] : Fin 2 → ℕ) a + S128x256.size a ≤ S128x1408.size a) (x : S128x256.Idx) :
    yT v20 g w0 ws pd m hm x = yV v20 g w0 ws pd ((Rect.unit (s := S128x1408) ![0, 256 * m] S128x256.size inb).emb x) := by
  idx_vars x
  have hx := x1.isLt
  have same : ∀ n (hn : n < 5) (z : Fin 256), n = m → z = x1 → yT v20 g w0 ws pd m hm (ix2 x0 x1) = yT v20 g w0 ws pd n hn (ix2 x0 z) := by
    rintro n hn z rfl rfl; rfl
  have key : ∀ z : S128x1408.Idx, z 0 = x0 → (z 1).val = 256 * m + x1.val → yT v20 g w0 ws pd m hm (ix2 x0 x1) = yV v20 g w0 ws pd z := fun z h0 h1 => by
    unfold yV
    rw [dif_pos (by omega), h0]
    exact same _ _ _ (by omega) (Fin.ext (by show _ % 256 = _; omega))
  exact key _ (Fin.ext (by show 0 + 1 * x0.val = _; omega)) (by show 256 * m + 1 * x1.val = _; omega)

theorem yV_L (v20 : Vec F S128x2048 .bf16) (g : Vec F S128x4 .f32) (w0 : Vec F S2048x1408 .fp8e4m3) (ws : Vec F S32x22 .f32) (pd : Vec F S128x4x1408 .f32)
    (inb : ∀ a, (![0, 1280] : Fin 2 → ℕ) a + S128x128.size a ≤ S128x1408.size a) (x : S128x128.Idx) :
    yL v20 g w0 ws pd x = yV v20 g w0 ws pd ((Rect.unit (s := S128x1408) ![0, 1280] S128x128.size inb).emb x) := by
  idx_vars x
  have hx := x1.isLt
  have same : ∀ z : Fin 128, z = x1 → yL v20 g w0 ws pd (ix2 x0 x1) = yL v20 g w0 ws pd (ix2 x0 z) := by
    rintro z rfl; rfl
  have key : ∀ z : S128x1408.Idx, z 0 = x0 → (z 1).val = 1280 + x1.val → yL v20 g w0 ws pd (ix2 x0 x1) = yV v20 g w0 ws pd z := fun z h0 h1 => by
    unfold yV
    rw [dif_neg (by omega), h0]
    exact same _ (Fin.ext (by show _ - 1280 = _; omega))
  exact key _ (Fin.ext (by show 0 + 1 * x0.val = _; omega)) (by show 1280 + 1 * x1.val = _; omega)

/-- What the six stores leave in the first output. -/
theorem read_y (f8 : Buf (Elt F) (arg8.view.loc (c : Thread nD τ))) (v20 : Vec F S128x2048 .bf16) (g : Vec F S128x4 .f32) (w0 : Vec F S2048x1408 .fp8e4m3) (ws : Vec F S32x22 .f32) (pd : Vec F S128x4x1408 .f32)
    (P5 : Vec F S128x128 .bf16) (P4 P3 P2 P1 P0 : Vec F S128x256 .bf16) (h5 : P5 = yL v20 g w0 ws pd)
    (h4 : P4 = yT v20 g w0 ws pd 4 (by decide)) (h3 : P3 = yT v20 g w0 ws pd 3 (by decide)) (h2 : P2 = yT v20 g w0 ws pd 2 (by decide))
    (h1 : P1 = yT v20 g w0 ws pd 1 (by decide)) (h0 : P0 = yT v20 g w0 ws pd 0 (by decide)) :
    arg8.view.read (Elt F) (arg8.view.writes (Elt F) f8 [
      ⟨Rect.unit (s := S128x1408) ![0, 1280] S128x128.size inb_S128x1408_S128x128_0_1280, P5⟩,
      ⟨Rect.unit (s := S128x1408) ![0, 1024] S128x256.size inb_S128x1408_S128x256_0_1024, P4⟩,
      ⟨Rect.unit (s := S128x1408) ![0, 768] S128x256.size inb_S128x1408_S128x256_0_768, P3⟩,
      ⟨Rect.unit (s := S128x1408) ![0, 512] S128x256.size inb_S128x1408_S128x256_0_512, P2⟩,
      ⟨Rect.unit (s := S128x1408) ![0, 256] S128x256.size inb_S128x1408_S128x256_0_256, P1⟩,
      ⟨Rect.unit (s := S128x1408) ![0, 0] S128x256.size inb_S128x1408_S128x256_0_0, P0⟩]) = yV v20 g w0 ws pd := by
  have a5 := fun x => (congrFun h5 x).trans (yV_L v20 g w0 ws pd inb_S128x1408_S128x128_0_1280 x)
  have a4 := fun x => (congrFun h4 x).trans (yV_T v20 g w0 ws pd 4 (by decide) inb_S128x1408_S128x256_0_1024 x)
  have a3 := fun x => (congrFun h3 x).trans (yV_T v20 g w0 ws pd 3 (by decide) inb_S128x1408_S128x256_0_768 x)
  have a2 := fun x => (congrFun h2 x).trans (yV_T v20 g w0 ws pd 2 (by decide) inb_S128x1408_S128x256_0_512 x)
  have a1 := fun x => (congrFun h1 x).trans (yV_T v20 g w0 ws pd 1 (by decide) inb_S128x1408_S128x256_0_256 x)
  have a0 := fun x => (congrFun h0 x).trans (yV_T v20 g w0 ws pd 0 (by decide) inb_S128x1408_S128x256_0_0 x)
  clear h0 h1 h2 h3 h4 h5
  generalize yV v20 g w0 ws pd = G at *
  funext y
  refine View.read_writes_apply_of_pieces _ _ _ _ ?_ y ?_
  · exact List.forall_mem_cons.mpr ⟨a5, List.forall_mem_cons.mpr ⟨a4, List.forall_mem_cons.mpr ⟨a3, List.forall_mem_cons.mpr ⟨a2, List.forall_mem_cons.mpr ⟨a1,
      List.forall_mem_cons.mpr ⟨a0, fun _ h => by cases h⟩⟩⟩⟩⟩⟩
  · idx_vars y
    have h0 := y0.isLt
    have h1 := y1.isLt
    have mem : ∀ (o w : ℕ) (inb : ∀ a, (![0, o] : Fin 2 → ℕ) a + (![128, w] : Fin 2 → ℕ) a ≤ S128x1408.size a), o ≤ y1.val → y1.val < o + w →
        (ix2 y0 y1 : S128x1408.Idx) ∈ (Rect.unit (s := S128x1408) ![0, o] ![128, w] inb).set := fun o w inb ha hb => by
      rw [Rect.mem_set_unit]
      intro a
      fin_cases a
      · show 0 ≤ y0.val ∧ y0.val < 0 + 128; omega
      · show o ≤ y1.val ∧ y1.val < o + w; omega
    by_cases c5 : 1280 ≤ y1.val
    · exact ⟨_, List.mem_cons_self, mem 1280 128 inb_S128x1408_S128x128_0_1280 c5 (by omega)⟩
    by_cases c4 : 1024 ≤ y1.val
    · exact ⟨_, List.mem_cons_of_mem _ List.mem_cons_self, mem 1024 256 inb_S128x1408_S128x256_0_1024 c4 (by omega)⟩
    by_cases c3 : 768 ≤ y1.val
    · exact ⟨_, List.mem_cons_of_mem _ (List.mem_cons_of_mem _ List.mem_cons_self), mem 768 256 inb_S128x1408_S128x256_0_768 c3 (by omega)⟩
    by_cases c2 : 512 ≤ y1.val
    · exact ⟨_, List.mem_cons_of_mem _ (List.mem_cons_of_mem _ (List.mem_cons_of_mem _ List.mem_cons_self)), mem 512 256 inb_S128x1408_S128x256_0_512 c2 (by omega)⟩
    by_cases c1 : 256 ≤ y1.val
    · exact ⟨_, List.mem_cons_of_mem _ (List.mem_cons_of_mem _ (List.mem_cons_of_mem _ (List.mem_cons_of_mem _ List.mem_cons_self))), mem 256 256 inb_S128x1408_S128x256_0_256 c1 (by omega)⟩
    · exact ⟨_, List.mem_cons_of_mem _ (List.mem_cons_of_mem _ (List.mem_cons_of_mem _ (List.mem_cons_of_mem _ (List.mem_cons_of_mem _ List.mem_cons_self)))),
        mem 0 256 inb_S128x1408_S128x256_0_0 (Nat.zero_le _) (by omega)⟩

/-- When every id has been met, the second output is complete. -/
theorem done_all (ids : S128x4.Idx → BitVec 32) (hX : ∀ i, (ids i).toNat < 60) (lv : S61.Idx → BitVec 32) (n : BitVec 32) (hL : Live ids 60 n lv)
    (v20 : Vec F S128x2048 .bf16) (A : Vec F S60x1024x1408 .i8) (B : Vec F S60x32x1408 .bf16) (g : S128x4x1408.Idx → F .f32)
    (h : Done ids lv (deltaW v20 A B) n.toNat g) : g = pdV ids v20 A B :=
  funext fun y => h y (hL.2.2 _ (hX _))

end Cert.Kernel.Run

end
-- ==== Proof.Low.Body.lean ====
/- The whole body: what it leaves in its two outputs. -/
module

public import proofs.«01_k».proof.Proof.Low.Outs
public import Idealize.ShloMosaic.Lib.LoopRemainder

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline's, with the counters of the kernel's own transfers. -/
local notation "𝕄" => MT nD τ sig Unit (Elt F) ℕ (Pipeline.UD sig nD τ) ℕ

variable (c : Dev nD) (arg0 : Memref sig .tc .smem S128x4 .i32) (harg0 : arg0.IsWhole) (arg1 : Memref sig .tc .vmem S128x2048 .bf16) (harg1 : arg1.IsWhole) (arg2 : Memref sig .tc .vmem S2048x1408 .fp8e4m3) (harg2 : arg2.IsWhole) (arg3 : Memref sig .tc .vmem S32x22 .f32) (harg3 : arg3.IsWhole) (arg4 : Memref sig .tc .vmem S128x4 .i32) (harg4 : arg4.IsWhole) (arg5 : Memref sig .tc .vmem S128x4 .f32) (harg5 : arg5.IsWhole) (arg8 : Memref sig .tc .vmem S128x1408 .bf16) (harg8 : arg8.IsWhole) (arg9 : Memref sig .tc .vmem S128x4x1408 .f32) (harg9 : arg9.IsWhole)

/-- The body's resources before and after: its staged inputs, its scratch, its transfers' tokens and idle cells. -/
abbrev bodyRes (CC : Buf (Elt F) (hcM.view.loc (c : Thread nD τ))) (CS : Buf (Elt F) (hsM.view.loc (c : Thread nD τ)))
    (X0 : Buf (Elt F) (arg0.view.loc (c : Thread nD τ))) (x1 : Buf (Elt F) (arg1.view.loc (c : Thread nD τ))) (x2 : Buf (Elt F) (arg2.view.loc (c : Thread nD τ)))
    (x3 : Buf (Elt F) (arg3.view.loc (c : Thread nD τ))) (X4 : Buf (Elt F) (arg4.view.loc (c : Thread nD τ))) (x5 : Buf (Elt F) (arg5.view.loc (c : Thread nD τ)))
    (P8 : Vec F S128x1408 .bf16 → Prop) (P9 : Vec F S128x4x1408 .f32 → Prop) : sProp 𝕄 :=
  iprop(idsP c arg0 X0 ∗ (∃ f, flagP c f) ∗ (∃ f, liveP c f) ∗ (Free c CC CS 0 ∗ Free c CC CS 1)
    ∗ (arg1.view.loc (c : Thread nD τ) ↦[arg1.view.set]{fullShare} x1) ∗ (arg2.view.loc (c : Thread nD τ) ↦[arg2.view.set]{fullShare} x2)
    ∗ (arg3.view.loc (c : Thread nD τ) ↦[arg3.view.set]{fullShare} x3) ∗ (arg4.view.loc (c : Thread nD τ) ↦[arg4.view.set]{fullShare} X4)
    ∗ (arg5.view.loc (c : Thread nD τ) ↦[arg5.view.set]{fullShare} x5)
    ∗ (∃ f, (arg8.view.loc (c : Thread nD τ) ↦[arg8.view.set]{fullShare} f) ∗ ⌜P8 (arg8.view.read (Elt F) f)⌝)
    ∗ (∃ f, (arg9.view.loc (c : Thread nD τ) ↦[arg9.view.set]{fullShare} f) ∗ ⌜P9 (arg9.view.read (Elt F) f)⌝)
    ∗ ∃ W, owes (c : Thread nD τ) 0 W)

/-- The token activations as the body reads them. -/
abbrev xin (x1 : Buf (Elt F) (arg1.view.loc (c : Thread nD τ))) : Vec F S128x2048 .bf16 :=
  sub (Rect.unit (s := S128x2048) ![0, 0] S128x2048.size inb_S128x2048_S128x2048_0_0) (arg1.view.read (Elt F) x1)

theorem free_to (CC : Buf (Elt F) (hcM.view.loc (c : Thread nD τ))) (CS : Buf (Elt F) (hsM.view.loc (c : Thread nD τ))) (k k' : Fin 2) (h : k = k') :
    Free c CC CS k ⊢ (Free c CC CS k' : sProp 𝕄) := by
  subst h; exact .rfl

theorem slot_to (CC : Buf (Elt F) (hcM.view.loc (c : Thread nD τ))) (CS : Buf (Elt F) (hsM.view.loc (c : Thread nD τ))) (lv : S61.Idx → BitVec 32) (n i : ℕ) (hn : ¬ i < n) (k : Fin 2) (h : sl i = k) :
    Slot c CC CS lv n i ⊢ (Free c CC CS k : sProp 𝕄) := by
  subst h; rw [slot_neg c CC CS lv n i hn (sl i) rfl]

set_option maxHeartbeats 2000000 in
/-- The body's run: under ids in range it ends with both outputs at their values. -/
theorem run_body (CC : Buf (Elt F) (hcM.view.loc (c : Thread nD τ))) (CS : Buf (Elt F) (hsM.view.loc (c : Thread nD τ)))
    (X0 : Buf (Elt F) (arg0.view.loc (c : Thread nD τ))) (hX : ∀ i, (arg0.view.read (Elt F) X0 i).toNat < 60) (x1 : Buf (Elt F) (arg1.view.loc (c : Thread nD τ))) (x2 : Buf (Elt F) (arg2.view.loc (c : Thread nD τ)))
    (x3 : Buf (Elt F) (arg3.view.loc (c : Thread nD τ))) (X4 : Buf (Elt F) (arg4.view.loc (c : Thread nD τ))) (x5 : Buf (Elt F) (arg5.view.loc (c : Thread nD τ)))
    (h04 : arg4.view.read (Elt F) X4 = arg0.view.read (Elt F) X0) :
    bodyRes c arg0 arg1 arg2 arg3 arg4 arg5 arg8 arg9 CC CS X0 x1 x2 x3 X4 x5 (fun _ => True) (fun _ => True)
      ⊢ wp frame (wpE defs₀ Variants.none (c : Thread nD τ) none) Set.univ (cc0_moe_delta arg0 harg0 arg1 harg1 arg2 harg2 arg3 harg3 arg4 harg4 arg5 harg5 (Memref.whole main_arg3) (Memref.isWhole_whole _) (Memref.whole main_arg4) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) (fun _ =>
        bodyRes c arg0 arg1 arg2 arg3 arg4 arg5 arg8 arg9 CC CS X0 x1 x2 x3 X4 x5
          (fun y => y = yV (xin c arg1 x1) (arg5.view.read (Elt F) x5) (arg2.view.read (Elt F) x2) (arg3.view.read (Elt F) x3) (pdV (arg4.view.read (Elt F) X4) (xin c arg1 x1) (hcM.view.read (Elt F) CC) (hsM.view.read (Elt F) CS)))
          (fun y => y = pdV (arg4.view.read (Elt F) X4) (xin c arg1 x1) (hcM.view.read (Elt F) CC) (hsM.view.read (Elt F) CS))) := by
  iintro ⟨H0, ⟨%fl, Hf⟩, ⟨%fv, Hl⟩, ⟨⟨A1, A2, ⟨%g1, A3⟩, ⟨%g2, A4⟩, A5, A6⟩, ⟨B1, B2, ⟨%g3, B3⟩, ⟨%g4, B4⟩, B5, B6⟩⟩, H1, H2, H3, H4, H5, ⟨%f8, H8, -⟩, ⟨%f9, H9, -⟩, ⟨%W, HO⟩⟩
  have hcut := run25 c arg0 harg0 arg1 harg1 arg2 harg2 arg3 harg3 arg4 harg4 arg5 harg5 arg8 harg8 arg9 harg9 CC CS X0 hX x1 f9 W
  rw [cc0_moe_delta_eq_skeleton]
  unfold cc0_moe_delta_skel
  sl_exec
  have e20 : v20 = xin c arg1 x1 := hk0_part25_0
  subst e20
  have hL : Live (arg0.view.read (Elt F) X0) 60 v3 (liveM.view.read (Elt F) lk0_part25_1) := hk0_part25_3
  have h3 : v3.toNat ≤ 60 := hL.1
  have hd0 : Done (arg4.view.read (Elt F) X4) (liveM.view.read (Elt F) lk0_part25_1) (deltaW (xin c arg1 x1) (hcM.view.read (Elt F) CC) (hsM.view.read (Elt F) CS)) 0 (arg9.view.read (Elt F) fk0_part25_4) :=
    fun y ⟨j, hj, _⟩ => absurd hj (Nat.not_lt_zero _)
  let I4 := loopInv_t4 (F := F) c arg0 harg0 arg1 harg1 arg2 harg2 arg3 harg3 arg4 harg4 arg5 harg5 arg8 harg8 arg9 harg9 CC CS v3 k0_hw7 X4 (xin c arg1 x1) lk0_part25_1 h3 hL.2.1
  sl_exec
  have htr : Scf.trips (k0_t4_loop v3).lb (k0_t4_loop v3).ub (k0_t4_loop v3).st = v3.toNat := t4_trips v3 h3
  have hpd : arg9.view.read (Elt F) fL2 = pdV (arg4.view.read (Elt F) X4) (xin c arg1 x1) (hcM.view.read (Elt F) CC) (hsM.view.read (Elt F) CS) :=
    done_all _ (h04 ▸ hX) _ v3 (h04 ▸ hL) _ _ _ _ (htr ▸ hL10)
  have hpar : (sl (Scf.trips (k0_t4_loop v3).lb (k0_t4_loop v3).ub (k0_t4_loop v3).st) = 0 ∧ sl (Scf.trips (k0_t4_loop v3).lb (k0_t4_loop v3).ub (k0_t4_loop v3).st + 1) = 1)
      ∨ (sl (Scf.trips (k0_t4_loop v3).lb (k0_t4_loop v3).ub (k0_t4_loop v3).st) = 1 ∧ sl (Scf.trips (k0_t4_loop v3).lb (k0_t4_loop v3).ub (k0_t4_loop v3).st + 1) = 0) := by
    generalize Scf.trips (k0_t4_loop v3).lb (k0_t4_loop v3).ub (k0_t4_loop v3).st = n
    rcases Nat.mod_two_eq_zero_or_one n with h | h
    · exact Or.inl ⟨Fin.ext h, Fin.ext (by show (n + 1) % 2 = 1; omega)⟩
    · exact Or.inr ⟨Fin.ext h, Fin.ext (by show (n + 1) % 2 = 0; omega)⟩
  sl_step
  isplitl [Hk0_part25_1]; · iexact Hk0_part25_1
  isplitl [Hk0_part25_2]; · iexists _; iexact Hk0_part25_2
  isplitl [Hk0_part25_4]; · iexists _; iexact Hk0_part25_4
  isplitl [Hk0_part25_5 Hk0_part25_6 Hk0_part25_7 Hk0_part25_8 Hk0_part25_9 Hk0_part25_10 Hk0_part25_11]
  · rcases hpar with ⟨p0, p1⟩ | ⟨p0, p1⟩
    · isplitl [Hk0_part25_5]
      · iapply (slot_to c CC CS _ v3.toNat _ (Nat.not_lt.mpr (Nat.le_of_eq htr.symm)) _ p0); iexact Hk0_part25_5
      iapply (free_to c CC CS _ _ p1)
      isplitl [Hk0_part25_6]; · iexact Hk0_part25_6
      isplitl [Hk0_part25_7]; · iexact Hk0_part25_7
      isplitl [Hk0_part25_8]; · iexists _; iexact Hk0_part25_8
      isplitl [Hk0_part25_9]; · iexists _; iexact Hk0_part25_9
      isplitl [Hk0_part25_10]; · iexact Hk0_part25_10
      iexact Hk0_part25_11
    · isplitl [Hk0_part25_6 Hk0_part25_7 Hk0_part25_8 Hk0_part25_9 Hk0_part25_10 Hk0_part25_11]
      · iapply (free_to c CC CS _ _ p1)
        isplitl [Hk0_part25_6]; · iexact Hk0_part25_6
        isplitl [Hk0_part25_7]; · iexact Hk0_part25_7
        isplitl [Hk0_part25_8]; · iexists _; iexact Hk0_part25_8
        isplitl [Hk0_part25_9]; · iexists _; iexact Hk0_part25_9
        isplitl [Hk0_part25_10]; · iexact Hk0_part25_10
        iexact Hk0_part25_11
      iapply (slot_to c CC CS _ v3.toNat _ (Nat.not_lt.mpr (Nat.le_of_eq htr.symm)) _ p0); iexact Hk0_part25_5
  isplitl [Hk0_part25_12]; · iexact Hk0_part25_12
  isplitl [H2]; · iexact H2
  isplitl [H3]; · iexact H3
  isplitl [H4]; · iexact H4
  isplitl [H5]; · iexact H5
  isplitl [H8]
  · iexists _
    isplitl [H8]; · iexact H8
    ipureintro
    refine Eq.trans (read_y c arg8 f8 (xin c arg1 x1) (arg5.view.read (Elt F) x5) (arg2.view.read (Elt F) x2) (arg3.view.read (Elt F) x3) (arg9.view.read (Elt F) fL2) _ _ _ _ _ _ ?_ ?_ ?_ ?_ ?_ ?_) (by rw [hpd])
    · rfl
    · rfl
    · rfl
    · rfl
    · rfl
    · rfl
  isplitl [Hk0_part25_13]
  · iexists _
    isplitl [Hk0_part25_13]; · iexact Hk0_part25_13
    ipureintro
    exact hpd
  iexists _; iexact Hk0_part25_14

end Cert.Kernel.Run

end
-- ==== Proof.Low.Whole.lean ====
/- The whole program around the body's run: what the region is launched with, the scratch cut into the ring's slots and put
   back, and what every array holds at the end. -/
module

public import proofs.«01_k».proof.Proof.Low.Body
public import proofs.«01_k».proof.Proof.Gen.Kernel.Launch
public import proofs.«01_k».proof.Proof.Gen.Kernel.Points
public import proofs.«01_k».proof.Proof.Gen.Kernel.Frame
public import Idealize.ShloMosaic.Lib.Pipeline.FrameSuffixV
public import Idealize.ShloMosaic.Lib.Pipeline.ValueKit
public import Idealize.ShloMosaic.Lib.Claim

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

/-- The resource algebra of the run: the pipeline's, with the counters of the kernel's own transfers. -/
local notation "𝕄" => MT nD τ sig Unit (Elt F) ℕ (Pipeline.UD sig nD τ) ℕ

variable (m : (ℓ : Loc nD τ sig) → Buf (Elt F) ℓ) (ρ : Dev nD → PrngReg) (c : Dev nD)

/-! ## The ring buffers cut into slots -/

theorem mem_slC (k : Fin 2) (i : S2x1024x1408.Idx) : i ∈ (slC k).view.set ↔ (i 0).val = k.val := by
  unfold slC
  rw [Memref.set_view_squeeze]
  refine Iff.trans (Finset.ext_iff.mp (View.set_slice_whole cc0_scratch0 (Rect.unit (s := S2x1024x1408) ![k.val, 0, 0] S1x1024x1408.size (inbC k))) i) ?_
  rw [Rect.mem_set_unit]
  constructor
  · intro h
    have h0 : k.val ≤ (i 0).val ∧ (i 0).val < k.val + 1 := h 0
    omega
  · intro h a
    fin_cases a
    · show k.val ≤ (i 0).val ∧ (i 0).val < k.val + 1
      omega
    · show 0 ≤ (i 1).val ∧ (i 1).val < 0 + 1024
      have : (i 1).val < 1024 := (i 1).isLt
      omega
    · show 0 ≤ (i 2).val ∧ (i 2).val < 0 + 1408
      have : (i 2).val < 1408 := (i 2).isLt
      omega
theorem mem_slS (k : Fin 2) (i : S2x32x1408.Idx) : i ∈ (slS k).view.set ↔ (i 0).val = k.val := by
  unfold slS
  rw [Memref.set_view_squeeze]
  refine Iff.trans (Finset.ext_iff.mp (View.set_slice_whole cc0_scratch1 (Rect.unit (s := S2x32x1408) ![k.val, 0, 0] S1x32x1408.size (inbS k))) i) ?_
  rw [Rect.mem_set_unit]
  constructor
  · intro h
    have h0 : k.val ≤ (i 0).val ∧ (i 0).val < k.val + 1 := h 0
    omega
  · intro h a
    fin_cases a
    · show k.val ≤ (i 0).val ∧ (i 0).val < k.val + 1
      omega
    · show 0 ≤ (i 1).val ∧ (i 1).val < 0 + 32
      have : (i 1).val < 32 := (i 1).isLt
      omega
    · show 0 ≤ (i 2).val ∧ (i 2).val < 0 + 1408
      have : (i 2).val < 1408 := (i 2).isLt
      omega

/-- The elements of code slot `k`. -/
abbrev setC (k : Fin 2) : Finset (Idx ((c : Thread nD τ).loc cc0_scratch0)) := (slC k).view.set
/-- The elements of scale slot `k`. -/
abbrev setS (k : Fin 2) : Finset (Idx ((c : Thread nD τ).loc cc0_scratch1)) := (slS k).view.set
theorem setC_disj : ∀ k k' : Fin 2, k ≠ k' → Disjoint (setC c k) (setC c k') := fun k k' h =>
  Finset.disjoint_left.mpr fun i hi hi' => h (Fin.ext (((mem_slC k i).mp hi).symm.trans ((mem_slC k' i).mp hi')))
theorem setS_disj : ∀ k k' : Fin 2, k ≠ k' → Disjoint (setS c k) (setS c k') := fun k k' h =>
  Finset.disjoint_left.mpr fun i hi hi' => h (Fin.ext (((mem_slS k i).mp hi).symm.trans ((mem_slS k' i).mp hi')))
theorem setC_cover : Finset.univ.biUnion (setC c) = Finset.univ :=
  Finset.eq_univ_iff_forall.mpr fun i => Finset.mem_biUnion.mpr ⟨⟨(i (0 : Fin 3)).val, (i (0 : Fin 3)).isLt⟩, Finset.mem_univ _, (mem_slC _ i).mpr rfl⟩
theorem setS_cover : Finset.univ.biUnion (setS c) = Finset.univ :=
  Finset.eq_univ_iff_forall.mpr fun i => Finset.mem_biUnion.mpr ⟨⟨(i (0 : Fin 3)).val, (i (0 : Fin 3)).isLt⟩, Finset.mem_univ _, (mem_slS _ i).mpr rfl⟩

theorem sep_two (Φ : Fin 2 → sProp 𝕄) : bigSep Finset.univ Φ = iprop(Φ 0 ∗ Φ 1) :=
  bigSep_univ_eq_bigSepL [(0 : Fin 2), (1 : Fin 2)] (by decide) (by decide) Φ

theorem cutC (f : Buf (Elt F) ((c : Thread nD τ).loc cc0_scratch0)) :
    (((c : Thread nD τ).loc cc0_scratch0) ↦{fullShare} f : sProp 𝕄) ⊢ iprop((∃ f, slotC c 0 f) ∗ ∃ f, slotC c 1 f) := by
  rw [Ring.pointsTo_blocks (setC c) (setC_disj c) (setC_cover c) f, sep_two]
  iintro ⟨A, B⟩
  isplitl [A]
  · iexists _; iexact A
  · iexists _; iexact B
theorem cutS (f : Buf (Elt F) ((c : Thread nD τ).loc cc0_scratch1)) :
    (((c : Thread nD τ).loc cc0_scratch1) ↦{fullShare} f : sProp 𝕄) ⊢ iprop((∃ f, slotS c 0 f) ∗ ∃ f, slotS c 1 f) := by
  rw [Ring.pointsTo_blocks (setS c) (setS_disj c) (setS_cover c) f, sep_two]
  iintro ⟨A, B⟩
  isplitl [A]
  · iexists _; iexact A
  · iexists _; iexact B
theorem glueC : iprop((∃ f, slotC c 0 f) ∗ ∃ f, slotC c 1 f) ⊢ (iprop(∃ f, ((c : Thread nD τ).loc cc0_scratch0) ↦{fullShare} f) : sProp 𝕄) := by
  iintro ⟨⟨%f, A⟩, B⟩
  iapply (Ring.pointsTo_blocks_join_exists (setC c) (setC_disj c) (setC_cover c) (q := fullShare) f)
  rw [sep_two]
  isplitl [A]
  · iexists f; iexact A
  · iexact B
theorem glueS : iprop((∃ f, slotS c 0 f) ∗ ∃ f, slotS c 1 f) ⊢ (iprop(∃ f, ((c : Thread nD τ).loc cc0_scratch1) ↦{fullShare} f) : sProp 𝕄) := by
  iintro ⟨⟨%f, A⟩, B⟩
  iapply (Ring.pointsTo_blocks_join_exists (setS c) (setS_disj c) (setS_cover c) (q := fullShare) f)
  rw [sep_two]
  isplitl [A]
  · iexists f; iexact A
  · iexact B

/-! ## The kernel's own cells and the tables it reads by its own transfers -/

/-- The ring's four cells. -/
abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(semVal ((c : Thread nD τ), cell 0 0) 0 ∗ semVal ((c : Thread nD τ), cell 0 1) 0
          ∗ semVal ((c : Thread nD τ), cell 1 0) 0 ∗ semVal ((c : Thread nD τ), cell 1 1) 0) := by
  rw [Pipeline.ownSems0_eq_of_list c osem0 [0, 1, 2, 3] (by decide) (by decide)]; rfl
/-- The two expert tables. -/
def H0 : Finset (Ref sig .tc) := {main_arg3, main_arg4}
theorem H0_sub : H0 ⊆ Pipeline.restRefsP sig Pipeline.Prefetch.none spec0 := by decide
theorem tables_eq :
    (bigSep H0 (fun b => ((c : Thread nD τ).loc b) ↦{fullShare} V m c b) : sProp 𝕄)
      = iprop((((c : Thread nD τ).loc main_arg3) ↦{fullShare} V m c main_arg3) ∗ (((c : Thread nD τ).loc main_arg4) ↦{fullShare} V m c main_arg4)) := by
  rw [BI.bigSep_eq_bigSepL_of_eq [main_arg3, main_arg4] (by decide) (by decide)]; rfl

/-- What the body's invariant holds at both ends. -/
abbrev Phi : sProp 𝕄 := Pipeline.ΦDRV osem0 spec0 H0 ∅ (V m) (V m) c

/-- The parts of the tables' shares that no transfer borrows. -/
abbrev kept : sProp 𝕄 :=
  iprop((((c : Thread nD τ).loc main_arg3) ↦{Transfers.shareDrop fullShare 2} V m c main_arg3) ∗ (((c : Thread nD τ).loc main_arg4) ↦{Transfers.shareDrop fullShare 2} V m c main_arg4))

theorem toks3 : (((c : Thread nD τ).loc main_arg3) ↦{fullShare} V m c main_arg3 : sProp 𝕄)
    = iprop((((c : Thread nD τ).loc main_arg3) ↦{Transfers.shareDrop fullShare 2} V m c main_arg3) ∗ tokC c 0 Finset.univ (V m c main_arg3) ∗ tokC c 1 Finset.univ (V m c main_arg3)) := by
  have h := Transfers.pointsTo_toks (Ix := Unit) (Name := ℕ) (U := Pipeline.UD sig nD τ) (Lvl := ℕ) (ℓ := (c : Thread nD τ).loc main_arg3) (S := Finset.univ) (f := V m c main_arg3) fullShare 2
  rw [sep_two] at h
  exact BI.equiv_iff.mp ⟨h.1, h.2⟩
theorem toks4 : (((c : Thread nD τ).loc main_arg4) ↦{fullShare} V m c main_arg4 : sProp 𝕄)
    = iprop((((c : Thread nD τ).loc main_arg4) ↦{Transfers.shareDrop fullShare 2} V m c main_arg4) ∗ tokS c 0 Finset.univ (V m c main_arg4) ∗ tokS c 1 Finset.univ (V m c main_arg4)) := by
  have h := Transfers.pointsTo_toks (Ix := Unit) (Name := ℕ) (U := Pipeline.UD sig nD τ) (Lvl := ℕ) (ℓ := (c : Thread nD τ).loc main_arg4) (S := Finset.univ) (f := V m c main_arg4) fullShare 2
  rw [sep_two] at h
  exact BI.equiv_iff.mp ⟨h.1, h.2⟩

/-- The launch's resources as the body holds them, -/
theorem enter : Phi m c ⊢ iprop((∃ f, flagP c f) ∗ (∃ f, liveP c f) ∗ (Free c (V m c main_arg3) (V m c main_arg4) 0 ∗ Free c (V m c main_arg3) (V m c main_arg4) 1) ∗ kept m c) := by
  unfold Phi Pipeline.ΦDRV
  rw [scopedRest0_eq, ownSems00_eq, tables_eq, BI.bigSep_empty, toks3, toks4]
  iintro ⟨⟨⟨%f0, S0⟩, ⟨%f1, S1⟩, ⟨%f2, S2⟩, ⟨%f3, S3⟩⟩, ⟨Q00, Q01, Q10, Q11⟩, ⟨⟨K3, A3, B3⟩, ⟨K4, A4, B4⟩⟩, -⟩
  ihave S0' := (cutC c f0) $$ S0
  ihave S1' := (cutS c f1) $$ S1
  icases S0' with ⟨C0, C1⟩
  icases S1' with ⟨D0, D1⟩
  isplitl [S3]
  · iexists f3; iexact S3
  isplitl [S2]
  · iexists f2; iexact S2
  isplitl [Q00 Q01 Q10 Q11 A3 B3 A4 B4 C0 C1 D0 D1]
  · isplitl [Q00 Q01 A3 A4 C0 D0]
    · iframe Q00 Q01 C0 D0 A3 A4
    · iframe Q10 Q11 C1 D1 B3 B4
  · iframe K3 K4

/-- and back. -/
theorem leave : iprop((∃ f, flagP c f) ∗ (∃ f, liveP c f) ∗ (Free c (V m c main_arg3) (V m c main_arg4) 0 ∗ Free c (V m c main_arg3) (V m c main_arg4) 1) ∗ kept m c) ⊢ Phi m c := by
  unfold Phi Pipeline.ΦDRV
  rw [scopedRest0_eq, ownSems00_eq, tables_eq, BI.bigSep_empty, toks3, toks4]
  iintro ⟨⟨%f3, S3⟩, ⟨%f2, S2⟩, ⟨⟨Q00, Q01, C0, D0, A3, A4⟩, ⟨Q10, Q11, C1, D1, B3, B4⟩⟩, ⟨K3, K4⟩⟩
  isplitl [C0 C1 D0 D1 S2 S3]
  · isplitl [C0 C1]
    · iapply (glueC (F := F) c)
      iframe C0 C1
    isplitl [D0 D1]
    · iapply (glueS (F := F) c)
      iframe D0 D1
    isplitl [S2]
    · iexists f2; iexact S2
    · iexists f3; iexact S3
  isplitl [Q00 Q01 Q10 Q11]
  · iframe Q00 Q01 Q10 Q11
  isplitl [K3 K4 A3 B3 A4 B4]
  · isplitl [K3 A3 B3]
    · iframe K3 A3 B3
    · iframe K4 A4 B4
  · iempintro

/-! ## The proof data -/

/-- The ids, as the region finds them. -/
abbrev idsV : Vec F S128x4 .i32 := V m c main_v0
/-- The activations. -/
abbrev xV : Vec F S128x2048 .bf16 := sub (Rect.unit (s := S128x2048) ![0, 0] S128x2048.size inb_S128x2048_S128x2048_0_0) (V m c main_v1)
/-- The pair products the run leaves. -/
def pF : Vec F S128x4x1408 .f32 := pdV (idsV m c) (xV m c) (hcM.view.read (Elt F) (V m c main_arg3)) (hsM.view.read (Elt F) (V m c main_arg4))
/-- The mixed output the run leaves. -/
def yF : Vec F S128x1408 .bf16 := yV (xV m c) (V m c main_v2) (V m c main_arg1) (V m c main_arg2) (pF m c)

/-- The proof data: inputs left in place, the two outputs at their values. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yF m c
    | ⟨7, _⟩ => pF m c
    | ⟨_ + 8, h⟩ => absurd h (Nat.not_lt.2 (Nat.le_add_left _ _))
  Φ _ := Phi m c
  q := Pipeline.shareOf spec0
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = yF m c := by dsimp only [dats]
theorem after_7 (c : Dev nD) (t : Fin cfg0.N) : (dats m 0 c).after 7 t = pF m c := by dsimp only [dats]

theorem before_0 (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- A window's block is its whole array. -/
theorem iblk_0 (t : Fin cfg0.N) : iblk m c 0 t = V m c main_v0 := by
  rw [fin_N0 t]; funext y; unfold iblk; blk_simp; exact congrArg _ (funext fun a => Fin.ext (by fin_cases a <;> blk_simp <;> exact (congrArg (· + _) (Nat.zero_mul _)).trans (Nat.zero_add _)))
theorem iblk_1 (t : Fin cfg0.N) : iblk m c 1 t = V m c main_v1 := by
  rw [fin_N0 t]; funext y; unfold iblk; blk_simp; exact congrArg _ (funext fun a => Fin.ext (by fin_cases a <;> blk_simp <;> exact (congrArg (· + _) (Nat.zero_mul _)).trans (Nat.zero_add _)))
theorem iblk_2 (t : Fin cfg0.N) : iblk m c 2 t = V m c main_arg1 := by
  rw [fin_N0 t]; funext y; unfold iblk; blk_simp; exact congrArg _ (funext fun a => Fin.ext (by fin_cases a <;> blk_simp <;> exact (congrArg (· + _) (Nat.zero_mul _)).trans (Nat.zero_add _)))
theorem iblk_3 (t : Fin cfg0.N) : iblk m c 3 t = V m c main_arg2 := by
  rw [fin_N0 t]; funext y; unfold iblk; blk_simp; exact congrArg _ (funext fun a => Fin.ext (by fin_cases a <;> blk_simp <;> exact (congrArg (· + _) (Nat.zero_mul _)).trans (Nat.zero_add _)))
theorem iblk_4 (t : Fin cfg0.N) : iblk m c 4 t = V m c main_v0 := by
  rw [fin_N0 t]; funext y; unfold iblk; blk_simp; exact congrArg _ (funext fun a => Fin.ext (by fin_cases a <;> blk_simp <;> exact (congrArg (· + _) (Nat.zero_mul _)).trans (Nat.zero_add _)))
theorem iblk_5 (t : Fin cfg0.N) : iblk m c 5 t = V m c main_v2 := by
  rw [fin_N0 t]; funext y; unfold iblk; blk_simp; exact congrArg _ (funext fun a => Fin.ext (by fin_cases a <;> blk_simp <;> exact (congrArg (· + _) (Nat.zero_mul _)).trans (Nat.zero_add _)))

/-! ## The body obligation -/

/-- The body's precondition at the one point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
/-- and its postcondition. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- A run followed by a weaker postcondition, with a frame kept aside. -/
theorem wp_keep {A : Type} (e : Prog (TpuEff nD τ sig (Elt F) Λ₀ .tc) A) (P K : sProp 𝕄) (Q Q' : A → sProp 𝕄)
    (h : P ⊢ wp frame (wpE (defs₀ (F := F)) Variants.none (c : Thread nD τ) none) Set.univ e Q) (hQ : ∀ a, iprop(Q a ∗ K) ⊢ Q' a) :
    iprop(P ∗ K) ⊢ wp frame (wpE (defs₀ (F := F)) Variants.none (c : Thread nD τ) none) Set.univ e Q' :=
  (BI.Laws.sep_mono h .rfl).trans ((wp_frame_r _ _ _).trans (wp_mono _ _ _ hQ))

set_option maxHeartbeats 1000000 in
theorem sound_body (hids : ∀ i, ((idsV m c) i).toNat < 60) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Phi m c from rfl, show (dats m 0 c).Φ t.castSucc = Phi m c from rfl]
  rw [after_0, after_1, after_2, after_3, after_4, after_5, after_6, after_7]
  simp only [before_0, before_1, before_2, before_3, before_4, before_5]
  unfold Dat.owesAt Pipeline.owesWithin
  rw [show (dats m 0 c).owed t.castSucc = 0 from rfl, show (dats m 0 c).owed t.succ = 0 from rfl]
  unfold owns
  iintro ⟨HP, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, -, H6⟩, ⟨%d7, %f7, -, H7⟩⟩
  ihave HP' := (enter m c) $$ HP
  icases HP' with ⟨Hf, Hl, HF, HK⟩
  have hr := run_body c (st0_0 t) (hstage0_0 0) (st0_1 t) (hstage0_1 0) (st0_2 t) (hstage0_2 0) (st0_3 t) (hstage0_3 0) (st0_4 t) (hstage0_4 0) (st0_5 t) (hstage0_5 0)
    (st0_6 t) (hstage0_6 0) (st0_7 t) (hstage0_7 0) (V m c main_arg3) (V m c main_arg4) f0 (by rw [e0, iblk_0]; exact hids) f1 f2 f3 f4 f5 (by rw [e4, e0, iblk_4, iblk_0])
  iapply (wp_keep c _ _ (kept m c) _ _ hr ?_)
  swap
  · isplitl [H0 Hf Hl HF H1 H2 H3 H4 H5 H6 H7 HW]
    · isplitl [H0]; · iexact H0
      isplitl [Hf]; · iexact Hf
      isplitl [Hl]; · iexact Hl
      isplitl [HF]; · iexact HF
      isplitl [H1]; · iexact H1
      isplitl [H2]; · iexact H2
      isplitl [H3]; · iexact H3
      isplitl [H4]; · iexact H4
      isplitl [H5]; · iexact H5
      isplitl [H6]
      · iexists f6
        isplitl [H6]; · iexact H6
        ipureintro; trivial
      isplitl [H7]
      · iexists f7
        isplitl [H7]; · iexact H7
        ipureintro; trivial
      iexists W; iexact HW
    · iexact HK
  intro a
  iintro ⟨⟨H0, Hf, Hl, HF, H1, H2, H3, H4, H5, ⟨%g6, H6, %e6⟩, ⟨%g7, H7, %e7⟩, ⟨%W', HW'⟩⟩, HK⟩
  isplitl [Hf Hl HF HK]
  · iapply (leave m c)
    iframe Hf Hl HF HK
  isplitl [HW']
  · iexists W'; isplitr; · ipureintro; exact fun _ _ => Or.inl trivial
    iexact HW'
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  have x1 : View.read (Elt F) (st0_1 t).view f1 = V m c main_v1 := e1.trans (iblk_1 m c t)
  have x2 : View.read (Elt F) (st0_2 t).view f2 = V m c main_arg1 := e2.trans (iblk_2 m c t)
  have x3 : View.read (Elt F) (st0_3 t).view f3 = V m c main_arg2 := e3.trans (iblk_3 m c t)
  have x4 : View.read (Elt F) (st0_4 t).view f4 = V m c main_v0 := e4.trans (iblk_4 m c t)
  have x5 : View.read (Elt F) (st0_5 t).view f5 = V m c main_v2 := e5.trans (iblk_5 m c t)
  have hx : xin c (st0_1 t) f1 = xV m c := by unfold xin; rw [x1]
  rw [hx, x4] at e7
  rw [hx, x2, x3, x4, x5] at e6
  isplitl [H6]
  · iexists g6; isplitr; · ipureintro; exact e6
    iexact H6
  · iexists g7; isplitr; · ipureintro; exact e7
    iexact H7

theorem defs₀_row (t : Fin cfg0.N) :
    defs₀ (F := F) .tc cfg0.body (cfg0.bodyArgs t (cfg0.slots t)) = bodyAt0 t := by
  unfold defs₀; rw [Defs.onTc_tc]

theorem body_obligation (hids : ∀ i, ((idsV m c) i).toNat < 60) : BodyObligation (dats (F := F) m 0 c) (defs₀ (F := F)) Variants.none () Set.univ := fun t => by
  rw [bigSep_W0, bigSep_W0, defs₀_row]
  exact triple_restated (sound_body m c hids t) rfl .rfl fun _ => .rfl

/-! ## The arrays at the end -/

theorem arr_6 : (dats m 0 c).arrAt 6 cfg0.N = yF m c :=
  (dats m 0 c).arrAt_eq_of_after_last 6 t0_0 (by decide +kernel) _ fun j => by
    rw [after_6]
    blk_simp
theorem arr_7 : (dats m 0 c).arrAt 7 cfg0.N = pF m c :=
  (dats m 0 c).arrAt_eq_of_after_last 7 t0_0 (by decide +kernel) _ fun j => by
    rw [after_7]
    blk_simp

/-- A buffer that no window stages and no host line writes after the region ends as the region found it. -/
theorem tail_arg (A : (w : Fin 8) → Buf (Elt F) ((spec0 w).arr.view.loc (c.tc : Thread nD τ))) (b : Ref sig .tc)
    (h4 : b ≠ main_v4) (h5 : b ≠ main_v5) (hw : ∀ w, Pipeline.arrRef spec0 w ≠ b) :
    StableHlo.after ([hostOps1] : List (List (HloOp τ sig (Elt F)))).flatten (Pipeline.withArrays spec0 c (Pipeline.withR (V0 m c) ∅ c (V m c)) A) (Proc.devRef .tc b) = V m c b := by
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact ⟨StableHlo.devRef_ne_of_ne h4, StableHlo.devRef_ne_of_ne h5⟩)),
    Pipeline.withArrays_of_ne _ c _ _ b hw, Pipeline.withR_of_not_mem _ _ _ _ b (Finset.notMem_empty _)]

/-- Windows that share an array are inputs, and an input's array is as the region found it. -/
theorem arrs_shared : ∀ w w' : Fin 8, w ≠ w' → Pipeline.arrRef spec0 w = Pipeline.arrRef spec0 w' →
    (dats m 0 c).arrAt w cfg0.N = Pipeline.withR (V0 m c) ∅ c (V m c) (Proc.devRef .tc (Pipeline.arrRef spec0 w)) := by
  intro w w' hne he
  rw [Pipeline.withR_of_not_mem _ _ _ _ _ (Finset.notMem_empty _)]
  have hi : (cfg0.win w).isOut = false := by
    revert w w'
    decide
  rw [Dat.arrAt_in _ _ hi]
  exact A_eq m c w

theorem tail_v4 :
    StableHlo.after ([hostOps1] : List (List (HloOp τ sig (Elt F)))).flatten (Pipeline.withArrays spec0 c (Pipeline.withR (V0 m c) ∅ c (V m c)) fun w => (dats m 0 c).arrAt w cfg0.N) (Proc.devRef .tc main_v4)
      = shapeCast S1x128x1408 (yF m c) shapeCasts_S128x1408_S1x128x1408 := by
  simp only [hostOps1, List.flatten_cons, List.flatten_nil, List.append_nil, StableHlo.after_cons, StableHlo.after_nil]
  rw [StableHlo.reshape_result_ne (h := (by decide : main_v4 ≠ main_v5)), StableHlo.reshape_result]
  have h := Pipeline.withArrays_arr_shared spec0 c (Pipeline.withR (V0 m c) ∅ c (V m c)) (fun w => (dats m 0 c).arrAt w cfg0.N) (arrs_shared m c) 6
  exact congrArg (fun z : S128x1408.Idx → Elt F .bf16 => shapeCast S1x128x1408 z shapeCasts_S128x1408_S1x128x1408) (h.trans (arr_6 m c))
theorem tail_v5 :
    StableHlo.after ([hostOps1] : List (List (HloOp τ sig (Elt F)))).flatten (Pipeline.withArrays spec0 c (Pipeline.withR (V0 m c) ∅ c (V m c)) fun w => (dats m 0 c).arrAt w cfg0.N) (Proc.devRef .tc main_v5)
      = shapeCast S1x128x4x1408 (pF m c) shapeCasts_S128x4x1408_S1x128x4x1408 := by
  simp only [hostOps1, List.flatten_cons, List.flatten_nil, List.append_nil, StableHlo.after_cons, StableHlo.after_nil]
  rw [StableHlo.reshape_result, StableHlo.reshape_result_ne (h := (by decide : main_v3_1 ≠ main_v4))]
  have h := Pipeline.withArrays_arr_shared spec0 c (Pipeline.withR (V0 m c) ∅ c (V m c)) (fun w => (dats m 0 c).arrAt w cfg0.N) (arrs_shared m c) 7
  exact congrArg (fun z : S128x4x1408.Idx → Elt F .f32 => shapeCast S1x128x4x1408 z shapeCasts_S128x4x1408_S1x128x4x1408) (h.trans (arr_7 m c))

/-! ## The run -/

/-- THE RUN, at any values, from any memory whose expert ids lie below sixty: it ends, both results are the two value
    functions of the launched arrays, the arguments are unchanged and every semaphore counter is zero. -/
def Post (r : PUnit × MemSt nD τ sig (Elt F)) : Prop :=
  (∀ c : Dev nD,
    r.2.mem ((c.tc : Thread nD τ).loc main_v4) = shapeCast S1x128x1408 (yF m c) shapeCasts_S128x1408_S1x128x1408
    ∧ r.2.mem ((c.tc : Thread nD τ).loc main_v5) = shapeCast S1x128x4x1408 (pF m c) shapeCasts_S128x4x1408_S1x128x4x1408
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
  ∧ r.2.sem = fun _ => 0

set_option backward.isDefEq.respectTransparency.types false in
set_option maxHeartbeats 1600000 in
theorem run_main (hids : ∀ c i, ((idsV m c) i).toNat < 60) :
    θ_run defs (onTc (τ := τ) (main (F := F))) (s₀ m ρ) (Post m) := by
  refine Pipeline.θ_run_frameP_dmaR_aroundV_shared (fun q => (cfgs q).toPCfg (Val := Elt F)) (fun q => (cfgs q).toPCfg_adm) (dats m) (0 : Fin 1) launch₀0.toP osem0 defs₀ Variants.none
    ownSemFacts0 H0 ∅ H0_sub (Finset.empty_subset _) m ρ main (fun c => (body_obligation m c (hids c)).loose) (fun _ _ _ => rfl) (fun _ _ => rfl)
    (V0 m) [hostOps1] sfx_sub sfx_fresh sfx_keeps (V m)
    (Pipeline.hmain_around cfgs 0 defs₀ Variants.none m main [hostOps0] [hostOps1] (by simp only [List.Forall]; exact hostOps0_sub) (by simp only [List.Forall]; exact hostOps0_fresh) main_chain)
    (A_eq m) (fun _ k => k.elim0) (fun c => (show _ ⊢ Phi m c from by iintro ⟨H, -⟩; iexact H)) (fun _ => .rfl) (Q' := Post m) ?_
  intro r ⟨h, hs⟩
  refine ⟨fun c => ?_, hs⟩
  have hr := fun (b : Ref sig .tc) (hb : b ∈ Pipeline.restRefsP sig Pipeline.Prefetch.none spec0) => (h c).2 b hb
  have hw := (h c).1
  exact ⟨(hr main_v4 (by decide)).trans (tail_v4 m c), (hr main_v5 (by decide)).trans (tail_v5 m c),
    ((hr main_arg0 (by decide)).trans (tail_arg m c _ main_arg0 (by decide) (by decide) (by decide))).trans (V_main_arg0 m c),
    ((hw 2).trans (((dats m 0 c).arrAt_in 2 rfl _).trans (A_eq m c 2))).trans (V_main_arg1 m c),
    ((hw 3).trans (((dats m 0 c).arrAt_in 3 rfl _).trans (A_eq m c 3))).trans (V_main_arg2 m c),
    ((hr main_arg3 (by decide)).trans (tail_arg m c _ main_arg3 (by decide) (by decide) (by decide))).trans (V_main_arg3 m c),
    ((hr main_arg4 (by decide)).trans (tail_arg m c _ main_arg4 (by decide) (by decide) (by decide))).trans (V_main_arg4 m c),
    ((hr main_arg5 (by decide)).trans (tail_arg m c _ main_arg5 (by decide) (by decide) (by decide))).trans (V_main_arg5 m c),
    ((hr main_arg6 (by decide)).trans (tail_arg m c _ main_arg6 (by decide) (by decide) (by decide))).trans (V_main_arg6 m c)⟩

/-- The ids the kernel reads are the launched ids, reshaped. -/
theorem ids_lt (c : Dev nD) (h : ∀ i, ((m ((c.tc : Thread nD τ).loc main_arg5) : S1x128x4.Idx → BitVec 32) i).toNat < 60) (i) : ((idsV m c) i).toNat < 60 := by
  unfold idsV
  entry_read
  exact h _

end Cert.Kernel.Run

end
-- ==== Proof.Plain.lean ====
/-
  The mathematics both programs compute, element by element, at exact numbers: the two signed nibbles of a byte, a pair's
  product with an expert's column, and a token's mixed output. No program occurs here.
-/
module

public import Idealize.ShloMosaic.Lib.Pointwise

@[expose] public section

noncomputable section

namespace Cert.Plain

open Idealize.ShloMosaic Idealize.ShloMosaic.Tactic

/-- The low nibble of a byte, signed. -/
def lo (b : BitVec 8) : BitVec 32 := IntOp.shrsi ArithUnit.vector (IntOp.shli ArithUnit.vector (BitVec.setWidth 32 b) 28#32) 28#32
/-- The high nibble of a byte, signed. -/
def hi (b : BitVec 8) : BitVec 32 := IntOp.shrsi ArithUnit.vector (IntOp.shli ArithUnit.vector (BitVec.setWidth 32 b) 24#32) 28#32

/-- The low nibble as the reference splits it off: the last four bits, less sixteen from eight on. -/
theorem lo_eq (b : BitVec 8) :
    Scalar.select (IntOp.cmpi CmpIPredicate.sge (IntOp.andi (BitVec.setWidth 32 b) 15#32) 8#32)
      (IntOp.subi (IntOp.andi (BitVec.setWidth 32 b) 15#32) 16#32) (IntOp.andi (BitVec.setWidth 32 b) 15#32) = lo b := by
  revert b
  decide +kernel
/-- The high nibble as the reference splits it off. -/
theorem hi_eq (b : BitVec 8) :
    Scalar.select (IntOp.cmpi CmpIPredicate.sge (IntOp.andi (IntOp.shrsi ArithUnit.host (BitVec.setWidth 32 b) 4#32) 15#32) 8#32)
      (IntOp.subi (IntOp.andi (IntOp.shrsi ArithUnit.host (BitVec.setWidth 32 b) 4#32) 15#32) 16#32)
      (IntOp.andi (IntOp.shrsi ArithUnit.host (BitVec.setWidth 32 b) 4#32) 15#32) = hi b := by
  revert b
  decide +kernel

/-- A sum over 2048 terms is the sum over the even ones plus the sum over the odd ones. -/
theorem sum_even_odd (f : Fin 2048 → EReal) :
    ∑ x, f x = ∑ i : Fin 1024, f ⟨2 * i.val, by omega⟩ + ∑ i : Fin 1024, f ⟨1 + 2 * i.val, by omega⟩ := by
  rw [← Equiv.sum_comp (finProdFinEquiv : Fin 1024 × Fin 2 ≃ Fin (1024 * 2)) f, Fintype.sum_prod_type, ← Finset.sum_add_distrib]
  refine Finset.sum_congr rfl fun i _ => ?_
  rw [Fin.sum_univ_two]
  refine congrArg₂ (· + ·) (congrArg f (Fin.ext ?_)) (congrArg f (Fin.ext ?_))
  · show 0 + 2 * i.val = 2 * i.val
    omega
  · rfl

/-- A token's row `x` against one column of an expert: codes `A`, two rows to a byte, and scales `B`, one to 64 rows. -/
def pair (x : Fin 2048 → EReal) (A : Fin 1024 → BitVec 8) (B : Fin 32 → EReal) : EReal :=
  ∑ i : Fin 1024, x ⟨2 * i.val, by omega⟩ * ((FloatOps.sitofp (F := Ideal) FTy.bf16 (lo (A i)) : EReal) * B ⟨i.val / 32, by omega⟩)
    + ∑ i : Fin 1024, x ⟨1 + 2 * i.val, by omega⟩ * ((FloatOps.sitofp (F := Ideal) FTy.bf16 (hi (A i)) : EReal) * B ⟨i.val / 32, by omega⟩)

/-- The same sum in the order of the rows, as the kernel takes it: even rows are low nibbles, odd rows high ones. -/
theorem pair_rows (x : Fin 2048 → EReal) (A : Fin 1024 → BitVec 8) (B : Fin 32 → EReal) :
    ∑ r : Fin 2048, x r * ((FloatOps.sitofp (F := Ideal) FTy.bf16 (IntOp.shrsi ArithUnit.vector
      (if r.val % 2 < 1 then IntOp.shli ArithUnit.vector (BitVec.setWidth 32 (A ⟨r.val / 2, by omega⟩)) 28#32
        else IntOp.shli ArithUnit.vector (BitVec.setWidth 32 (A ⟨r.val / 2, by omega⟩)) 24#32) 28#32) : EReal) * B ⟨r.val / 64, by omega⟩)
      = pair x A B := by
  rw [sum_even_odd]
  refine congrArg₂ (· + ·) (Finset.sum_congr rfl fun i _ => ?_) (Finset.sum_congr rfl fun i _ => ?_)
  · have h1 : 2 * i.val / 2 = i.val := by omega
    have h2 : 2 * i.val / 64 = i.val / 32 := by omega
    simp only [h1, h2]
    rw [if_pos (by omega)]
    rfl
  · have h1 : (1 + 2 * i.val) / 2 = i.val := by omega
    have h2 : (1 + 2 * i.val) / 64 = i.val / 32 := by omega
    simp only [h1, h2]
    rw [if_neg (by omega)]
    rfl

/-- A token's output in one column: the gates' sum times the base product, plus the gated pair products. -/
def mixed (g : Fin 4 → EReal) (x : Fin 2048 → EReal) (w : Fin 2048 → EReal) (ws : Fin 32 → EReal) (p : Fin 4 → EReal) : EReal :=
  (∑ k, g k) * ∑ r : Fin 2048, x r * (w r * ws ⟨r.val / 64, by omega⟩) + ∑ k, g k * p k

end Cert.Plain

end
-- ==== Proof.KAlg.lean ====
/-
  The kernel's two value functions at exact numbers, read at an index: the plain pair product and the plain mixed output.
-/
module

public import proofs.«01_k».proof.Proof.Whole
public import proofs.«01_k».proof.Proof.Plain
public import Idealize.ShloMosaic.Lib.MatmulPlain

@[expose] public section

noncomputable section

namespace Cert.KernelIdeal.Run

open Cert.KernelIdeal Cert.KernelIdeal.Gen
open Idealize.ShloMosaic Idealize.ShloMosaic.TcCoe Idealize.ShloMosaic.Tactic

/-- An element of a tile of 256 columns of an expert's product. -/
theorem prodT_at (v20 : Vec Ideal S128x2048 .bf16) (A : Vec Ideal S60x1024x1408 .i8) (B : Vec Ideal S60x32x1408 .bf16) (e : Fin 60) (n0 : ℕ) (h : n0 + 256 ≤ 1408) (t : Fin 128) (j : Fin 256) :
    prodT v20 A B e n0 h (ix2 t j)
      = Cert.Plain.pair (fun r => v20 (ix2 t r)) (fun i => A (ix3 e i ⟨n0 + j.val, by omega⟩)) (fun s => B (ix3 e s ⟨n0 + j.val, by omega⟩)) := by
  refine Eq.trans ?_ (Cert.Plain.pair_rows _ _ _)
  unfold prodT
  pointwise [k0_pay3, k0_pay85, k0_pay2]
  rfl

/-- An element of the last 128 columns of an expert's product. -/
theorem prodL_at (v20 : Vec Ideal S128x2048 .bf16) (A : Vec Ideal S60x1024x1408 .i8) (B : Vec Ideal S60x32x1408 .bf16) (e : Fin 60) (t : Fin 128) (j : Fin 128) :
    prodL v20 A B e (ix2 t j)
      = Cert.Plain.pair (fun r => v20 (ix2 t r)) (fun i => A (ix3 e i ⟨1280 + j.val, by omega⟩)) (fun s => B (ix3 e s ⟨1280 + j.val, by omega⟩)) := by
  refine Eq.trans ?_ (Cert.Plain.pair_rows _ _ _)
  unfold prodL
  pointwise [k0_pay37, k0_pay85]
  rfl

/-- The product of a token with a column of an expert is the plain pair product. -/
theorem delta_at (v20 : Vec Ideal S128x2048 .bf16) (A : Vec Ideal S60x1024x1408 .i8) (B : Vec Ideal S60x32x1408 .bf16) (e : Fin 60) (t : Fin 128) (n : Fin 1408) :
    delta v20 A B e t n = Cert.Plain.pair (fun r => v20 (ix2 t r)) (fun i => A (ix3 e i n)) (fun s => B (ix3 e s n)) := by
  unfold delta
  split
  · rename_i h
    rw [prodT_at]
    have e1 : (⟨n.val / 256 * 256 + n.val % 256, by omega⟩ : Fin 1408) = n := Fin.ext (by show n.val / 256 * 256 + n.val % 256 = n.val; omega)
    simp only [e1]
  · rename_i h
    rw [prodL_at]
    have e1 : (⟨1280 + (n.val - 1280), by omega⟩ : Fin 1408) = n := Fin.ext (by show 1280 + (n.val - 1280) = n.val; omega)
    simp only [e1]

/-- An element of a block of a matrix. -/
theorem sub2 {n0 n1 k0 k1 o0 o1 : ℕ} {e : EltTy} (inb : ∀ a, (![o0, o1] : Fin 2 → ℕ) a + (![k0, k1] : Fin 2 → ℕ) a ≤ (⟨2, ![n0, n1]⟩ : Shape).size a)
    (V : Vec Ideal (⟨2, ![n0, n1]⟩ : Shape) e) (i : Fin k0) (j : Fin k1) (i' : Fin n0) (j' : Fin n1) (h0 : o0 + i.val = i'.val) (h1 : o1 + j.val = j'.val) :
    sub (Rect.unit (s := (⟨2, ![n0, n1]⟩ : Shape)) ![o0, o1] ![k0, k1] inb) V (ix2 i j) = V (ix2 i' j') := by
  refine congrArg V (funext fun a => Fin.ext ?_)
  match a with
  | ⟨0, _⟩ => show o0 + 1 * i.val = i'.val; omega
  | ⟨1, _⟩ => show o1 + 1 * j.val = j'.val; omega

/-- An element of a block of an array of three axes. -/
theorem sub3 {n0 n1 n2 k0 k1 k2 o0 o1 o2 : ℕ} {e : EltTy}
    (inb : ∀ a, (![o0, o1, o2] : Fin 3 → ℕ) a + (![k0, k1, k2] : Fin 3 → ℕ) a ≤ (⟨3, ![n0, n1, n2]⟩ : Shape).size a)
    (V : Vec Ideal (⟨3, ![n0, n1, n2]⟩ : Shape) e) (i : Fin k0) (j : Fin k1) (l : Fin k2) (i' : Fin n0) (j' : Fin n1) (l' : Fin n2)
    (h0 : o0 + i.val = i'.val) (h1 : o1 + j.val = j'.val) (h2 : o2 + l.val = l'.val) :
    sub (Rect.unit (s := (⟨3, ![n0, n1, n2]⟩ : Shape)) ![o0, o1, o2] ![k0, k1, k2] inb) V (ix3 i j l) = V (ix3 i' j' l') := by
  refine congrArg V (funext fun a => Fin.ext ?_)
  match a with
  | ⟨0, _⟩ => show o0 + 1 * i.val = i'.val; omega
  | ⟨1, _⟩ => show o1 + 1 * j.val = j'.val; omega
  | ⟨2, _⟩ => show o2 + 1 * l.val = l'.val; omega

/-- An element of a tile of 256 columns of the first output. -/
theorem yT_at (v20 : Vec Ideal S128x2048 .bf16) (g : Vec Ideal S128x4 .f32) (w0 : Vec Ideal S2048x1408 .fp8e4m3) (ws : Vec Ideal S32x22 .f32) (pd : Vec Ideal S128x4x1408 .f32) (m : ℕ) (hm : m < 5) (t : Fin 128) (j : Fin 256) :
    yT v20 g w0 ws pd m hm (ix2 t j)
      = Cert.Plain.mixed (fun k => g (ix2 t k)) (fun r => v20 (ix2 t r)) (fun r => w0 (ix2 r ⟨256 * m + j.val, by omega⟩))
          (fun s => ws (ix2 s ⟨4 * m + j.val / 64, by omega⟩)) (fun k => pd (ix3 t k ⟨256 * m + j.val, by omega⟩)) := by
  unfold yT Cert.Plain.mixed
  pointwise [k0_pay93, k0_pay85, k0_pay88, k0_pay92]
  simp only [Fin.sum_univ_four, add_assoc]
  exact congrArg₂ (· + ·)
    (congrArg₂ (· * ·) (congrArg₂ (· + ·) (sub2 _ g t 0 t 0 (Nat.zero_add _) rfl) (congrArg₂ (· + ·) (sub2 _ g t 1 t 1 (Nat.zero_add _) rfl) (congrArg₂ (· + ·) (sub2 _ g t 2 t 2 (Nat.zero_add _) rfl) (sub2 _ g t 3 t 3 (Nat.zero_add _) rfl))))
      (Finset.sum_congr rfl fun x _ => congrArg (v20 (ix2 t x) * ·) (congrArg₂ (· * ·) (sub2 _ w0 x j x _ (Nat.zero_add _) rfl) (sub2 _ ws _ _ _ _ (Nat.zero_add _) rfl))))
    (congrArg₂ (· + ·) (congrArg₂ (· * ·) (sub2 _ g t 0 t 0 (Nat.zero_add _) rfl) (sub3 _ pd t 0 j t 0 _ (Nat.zero_add _) rfl rfl)) (congrArg₂ (· + ·) (congrArg₂ (· * ·) (sub2 _ g t 0 t 1 (Nat.zero_add _) rfl) (sub3 _ pd t 0 j t 1 _ (Nat.zero_add _) rfl rfl)) (congrArg₂ (· + ·) (congrArg₂ (· * ·) (sub2 _ g t 0 t 2 (Nat.zero_add _) rfl) (sub3 _ pd t 0 j t 2 _ (Nat.zero_add _) rfl rfl)) (congrArg₂ (· * ·) (sub2 _ g t 0 t 3 (Nat.zero_add _) rfl) (sub3 _ pd t 0 j t 3 _ (Nat.zero_add _) rfl rfl)))))

/-- An element of the last 128 columns of the first output. -/
theorem yL_at (v20 : Vec Ideal S128x2048 .bf16) (g : Vec Ideal S128x4 .f32) (w0 : Vec Ideal S2048x1408 .fp8e4m3) (ws : Vec Ideal S32x22 .f32) (pd : Vec Ideal S128x4x1408 .f32) (t : Fin 128) (j : Fin 128) :
    yL v20 g w0 ws pd (ix2 t j)
      = Cert.Plain.mixed (fun k => g (ix2 t k)) (fun r => v20 (ix2 t r)) (fun r => w0 (ix2 r ⟨1280 + j.val, by omega⟩))
          (fun s => ws (ix2 s ⟨20 + j.val / 64, by omega⟩)) (fun k => pd (ix3 t k ⟨1280 + j.val, by omega⟩)) := by
  unfold yL Cert.Plain.mixed
  pointwise [k0_pay1, k0_pay85, k0_pay88, k0_pay105, k0_pay106]
  simp only [Fin.sum_univ_four, add_assoc]
  exact congrArg₂ (· + ·)
    (congrArg₂ (· * ·) (congrArg₂ (· + ·) (sub2 _ g t 0 t 0 (Nat.zero_add _) rfl) (congrArg₂ (· + ·) (sub2 _ g t 1 t 1 (Nat.zero_add _) rfl) (congrArg₂ (· + ·) (sub2 _ g t 2 t 2 (Nat.zero_add _) rfl) (sub2 _ g t 3 t 3 (Nat.zero_add _) rfl))))
      (Finset.sum_congr rfl fun x _ => congrArg (v20 (ix2 t x) * ·) (congrArg₂ (· * ·) (sub2 _ w0 x j x _ (Nat.zero_add _) rfl) (sub2 _ ws _ _ _ _ (Nat.zero_add _) rfl))))
    (congrArg₂ (· + ·) (congrArg₂ (· * ·) (sub2 _ g t 0 t 0 (Nat.zero_add _) rfl) (sub3 _ pd t 0 j t 0 _ (Nat.zero_add _) rfl rfl)) (congrArg₂ (· + ·) (congrArg₂ (· * ·) (sub2 _ g t 0 t 1 (Nat.zero_add _) rfl) (sub3 _ pd t 0 j t 1 _ (Nat.zero_add _) rfl rfl)) (congrArg₂ (· + ·) (congrArg₂ (· * ·) (sub2 _ g t 0 t 2 (Nat.zero_add _) rfl) (sub3 _ pd t 0 j t 2 _ (Nat.zero_add _) rfl rfl)) (congrArg₂ (· * ·) (sub2 _ g t 0 t 3 (Nat.zero_add _) rfl) (sub3 _ pd t 0 j t 3 _ (Nat.zero_add _) rfl rfl)))))

/-- The first output at an index is the plain mixed output. -/
theorem yV_at (v20 : Vec Ideal S128x2048 .bf16) (g : Vec Ideal S128x4 .f32) (w0 : Vec Ideal S2048x1408 .fp8e4m3) (ws : Vec Ideal S32x22 .f32) (pd : Vec Ideal S128x4x1408 .f32) (t : Fin 128) (n : Fin 1408) :
    yV v20 g w0 ws pd (ix2 t n)
      = Cert.Plain.mixed (fun k => g (ix2 t k)) (fun r => v20 (ix2 t r)) (fun r => w0 (ix2 r n))
          (fun s => ws (ix2 s ⟨n.val / 64, by omega⟩)) (fun k => pd (ix3 t k n)) := by
  unfold yV
  show (if h : n.val < 1280 then yT v20 g w0 ws pd (n.val / 256) (by omega) (ix2 t ⟨n.val % 256, by omega⟩)
    else yL v20 g w0 ws pd (ix2 t ⟨n.val - 1280, by omega⟩)) = _
  split
  · rename_i h
    rw [yT_at]
    have e1 : (⟨256 * (n.val / 256) + n.val % 256, by omega⟩ : Fin 1408) = n := Fin.ext (by show 256 * (n.val / 256) + n.val % 256 = n.val; omega)
    have e2 : (⟨4 * (n.val / 256) + n.val % 256 / 64, by omega⟩ : Fin 22) = ⟨n.val / 64, by omega⟩ := Fin.ext (by show 4 * (n.val / 256) + n.val % 256 / 64 = n.val / 64; omega)
    simp only [e1, e2]
  · rename_i h
    rw [yL_at]
    have e1 : (⟨1280 + (n.val - 1280), by omega⟩ : Fin 1408) = n := Fin.ext (by show 1280 + (n.val - 1280) = n.val; omega)
    have e2 : (⟨20 + (n.val - 1280) / 64, by omega⟩ : Fin 22) = ⟨n.val / 64, by omega⟩ := Fin.ext (by show 20 + (n.val - 1280) / 64 = n.val / 64; omega)
    simp only [e1, e2]

/-! ## The two results at the launched arrays -/

variable (m : (ℓ : Loc nD τ sig) → Buf (Elt Ideal) ℓ) (c : Dev nD)

theorem cast_x (v : Vec Ideal S1x128x2048 .bf16) (t : Fin 128) (r : Fin 2048) : shapeCast S128x2048 v shapeCasts_S1x128x2048_S128x2048 (ix2 t r) = v (ix3 0 t r) := by
  pointwise
theorem cast_g (v : Vec Ideal S1x128x4 .f32) (t : Fin 128) (k : Fin 4) : shapeCast S128x4 v shapeCasts_S1x128x4_S128x4 (ix2 t k) = v (ix3 0 t k) := by
  pointwise
theorem cast_id (v : IVec S1x128x4 32) (t : Fin 128) (k : Fin 4) : shapeCast S128x4 v shapeCasts_S1x128x4_S128x4 (ix2 t k) = v (ix3 0 t k) := by
  pointwise

/-- The activations the kernel reads are the launched ones, reshaped. -/
theorem x_at (t : Fin 128) (r : Fin 2048) : xV m c (ix2 t r) = (m ((c.tc : Thread nD τ).loc main_arg0) : S1x128x2048.Idx → EReal) (ix3 0 t r) := by
  have e : V m c main_v1 = (shapeCast S128x2048 (m ((c.tc : Thread nD τ).loc main_arg0) : Vec Ideal S1x128x2048 .bf16) shapeCasts_S1x128x2048_S128x2048 : Vec Ideal S128x2048 .bf16) := by
    entry_read
    rfl
  refine (sub2 _ (V m c main_v1) t r t r (Nat.zero_add _) (Nat.zero_add _)).trans ((congrFun e _).trans ?_)
  exact cast_x _ t r
/-- The gates the kernel reads are the launched ones, reshaped. -/
theorem g_at (t : Fin 128) (k : Fin 4) : (V m c main_v2 : S128x4.Idx → EReal) (ix2 t k) = (m ((c.tc : Thread nD τ).loc main_arg6) : S1x128x4.Idx → EReal) (ix3 0 t k) := by
  have e : V m c main_v2 = (shapeCast S128x4 (m ((c.tc : Thread nD τ).loc main_arg6) : Vec Ideal S1x128x4 .f32) shapeCasts_S1x128x4_S128x4 : Vec Ideal S128x4 .f32) := by
    entry_read
    rfl
  refine (congrFun e _).trans ?_
  exact cast_g _ t k
/-- The ids the kernel reads are the launched ones, reshaped. -/
theorem id_at (t : Fin 128) (k : Fin 4) : (idsV m c) (ix2 t k) = (m ((c.tc : Thread nD τ).loc main_arg5) : S1x128x4.Idx → BitVec 32) (ix3 0 t k) := by
  have e : V m c main_v0 = (shapeCast S128x4 (m ((c.tc : Thread nD τ).loc main_arg5) : IVec S1x128x4 32) shapeCasts_S1x128x4_S128x4 : IVec S128x4 32) := by
    entry_read
    rfl
  refine (congrFun e _).trans ?_
  exact cast_id _ t k

/-- The pair products the run leaves, read at an index, from the launched arrays. -/
theorem pF_at (t : Fin 128) (k : Fin 4) (n : Fin 1408) (e : Fin 60)
    (he : ((m ((c.tc : Thread nD τ).loc main_arg5) : S1x128x4.Idx → BitVec 32) (ix3 0 t k)).toNat = e.val) :
    pF m c (ix3 t k n)
      = Cert.Plain.pair (fun r => (m ((c.tc : Thread nD τ).loc main_arg0) : S1x128x2048.Idx → EReal) (ix3 0 t r))
          (fun i => (m ((c.tc : Thread nD τ).loc main_arg3) : S60x1024x1408.Idx → BitVec 8) (ix3 e i n))
          (fun s => (m ((c.tc : Thread nD τ).loc main_arg4) : S60x32x1408.Idx → EReal) (ix3 e s n)) := by
  have h : (⟨((idsV m c) (ix2 t k)).toNat % 60, Nat.mod_lt _ (by decide)⟩ : Fin 60) = e :=
    Fin.ext ((congrArg (fun w : BitVec 32 => w.toNat % 60) (id_at m c t k)).trans (by show _ % 60 = _; rw [he]; exact Nat.mod_eq_of_lt e.isLt))
  have hA : hcM.view.read (Elt Ideal) (V m c main_arg3) = m ((c.tc : Thread nD τ).loc main_arg3) := (View.read_whole _ _).trans (V_main_arg3 m c)
  have hB : hsM.view.read (Elt Ideal) (V m c main_arg4) = m ((c.tc : Thread nD τ).loc main_arg4) := (View.read_whole _ _).trans (V_main_arg4 m c)
  show delta (xV m c) (hcM.view.read (Elt Ideal) (V m c main_arg3)) (hsM.view.read (Elt Ideal) (V m c main_arg4)) ⟨((idsV m c) (ix2 t k)).toNat % 60, Nat.mod_lt _ (by decide)⟩ t n = _
  rw [h, delta_at, hA, hB]
  exact congrArg (fun x => Cert.Plain.pair x _ _) (funext fun r => x_at m c t r)

/-- The mixed output the run leaves, read at an index, from the launched arrays and the pair products. -/
theorem yF_at (t : Fin 128) (n : Fin 1408) :
    yF m c (ix2 t n)
      = Cert.Plain.mixed (fun k => (m ((c.tc : Thread nD τ).loc main_arg6) : S1x128x4.Idx → EReal) (ix3 0 t k))
          (fun r => (m ((c.tc : Thread nD τ).loc main_arg0) : S1x128x2048.Idx → EReal) (ix3 0 t r))
          (fun r => (m ((c.tc : Thread nD τ).loc main_arg1) : S2048x1408.Idx → EReal) (ix2 r n))
          (fun s => (m ((c.tc : Thread nD τ).loc main_arg2) : S32x22.Idx → EReal) (ix2 s ⟨n.val / 64, by omega⟩))
          (fun k => pF m c (ix3 t k n)) := by
  unfold yF
  rw [yV_at, V_main_arg1, V_main_arg2]
  exact congrArg₂ (fun g x => Cert.Plain.mixed g x _ _ _) (funext fun k => g_at m c t k) (funext fun r => x_at m c t r)

end Cert.KernelIdeal.Run

end
-- ==== Proof.RAlg.lean ====
/-
  The reference at exact numbers: the values its host lines and its one kernel leave, read at an index.
-/
module

public import proofs.«01_k».proof.Proof.Gen.ReferenceIdeal.Frame
public import proofs.«01_k».proof.Proof.Plain
public import Idealize.ShloMosaic.Lib.Pipeline.ValueKit
public import Idealize.ShloMosaic.Lib.Claim
public import Idealize.ShloMosaic.Lib.MatmulPlain
public import Idealize.ShloMosaic.Lib.StableHlo.RunRead

@[expose] public section

noncomputable section

namespace Cert.ReferenceIdeal.Run

open Cert.ReferenceIdeal Cert.ReferenceIdeal.Gen
open Idealize.ShloMosaic Idealize.ShloMosaic.TcCoe Idealize.ShloMosaic.Tactic
open Idealize.ShloMosaic.Pipeline (Dat Cfg Window BodyObligation cellOf)

/-! ## The host operations at an index -/

/-- The table lookup along the experts' axis: the index read signed and cut to the table. -/
theorem gather_at (D : Vec Ideal S60x1024x1408 .bf16) (i : IVec S1x128x4x1 32) (b : Fin 1) (t : Fin 128) (k : Fin 4) (r : Fin 1024) (n : Fin 1408) :
    Host.gather gather_S60x1024x1408_S1x128x4x1_S1x128x4x1024x1408_34_0_n_n_0_3_110241408 D i (ix5 b t k r n)
      = D (ix3 ⟨min (i (ix4 b t k 0)).toInt.toNat 59, by omega⟩ r n) := by
  unfold Host.gather
  refine congrArg D (funext fun a => Fin.ext ?_)
  let d := gather_S60x1024x1408_S1x128x4x1_S1x128x4x1024x1408_34_0_n_n_0_3_110241408
  show d.start (ix5 b t k r n) i a + d.batchCoord (ix5 b t k r n) a + d.offCoord (ix5 b t k r n) a = _
  rw [GatherDims.batchCoord_eq_zero _ _ _ List.not_mem_nil]
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ d.startIndexMap from List.mem_singleton.mpr rfl)]
    have hsi : d.siIdx (ix5 b t k r n) ⟨List.idxOf (0 : Fin 3) d.startIndexMap, List.idxOf_lt_length_iff.2 (List.mem_singleton.mpr rfl)⟩ = ix4 b t k 0 := by
      funext z; refine Fin.ext ?_
      match z with
      | ⟨0, _⟩ => rfl
      | ⟨1, _⟩ => rfl
      | ⟨2, _⟩ => rfl
      | ⟨3, _⟩ => rfl
    rw [hsi]
    rfl
  · unfold GatherDims.start
    rw [dif_neg (show (1 : Fin 3) ∉ d.startIndexMap by decide)]
    show 0 + 0 + r.val = r.val
    omega
  · unfold GatherDims.start
    rw [dif_neg (show (2 : Fin 3) ∉ d.startIndexMap by decide)]
    show 0 + 0 + n.val = n.val
    omega

/-- A token's half row against its pair's looked-up half of the weights. -/
theorem pairs_at (x : FVec Ideal S1x128x1024 .bf16) (D : FVec Ideal S1x128x4x1024x1408 .bf16) (t : Fin 128) (k : Fin 4) (n : Fin 1408) :
    (Host.dotGeneral (F := Ideal) dot_S1x128x1024_S1x128x4x1024x1408_S1x128x4x1408_2_3_n_24_01_01 none x D : FVec Ideal S1x128x4x1408 .f32) (ix4 0 t k n)
      = (∑ r : Fin 1024, (x (ix3 0 t r) : EReal) * D (ix5 0 t k r n) : EReal) := by
  pointwise

/-- The gated sum of the pair products. -/
theorem mixed_at (x : FVec Ideal S1x128x4 .f32) (D : FVec Ideal S1x128x4x1408 .f32) (t : Fin 128) (n : Fin 1408) :
    (Host.dotGeneral (F := Ideal) dot_S1x128x4_S1x128x4x1408_S1x128x1408_2_2_n_3_01_01 (some .fp32) x D : FVec Ideal S1x128x1408 .f32) (ix3 0 t n)
      = (∑ k : Fin 4, (x (ix3 0 t k) : EReal) * D (ix4 0 t k n) : EReal) := by
  pointwise

/-- The gates' sum. -/
theorem gsum_at (x : Vec Ideal S1x128x4 .f32) (t : Fin 128) :
    (Host.reduceAdd (F := Ideal) x (constant S_ FTy.f32 0#32) reducesTo_S1x128x4_S1x128_d2 h_S_ : FVec Ideal S1x128 .f32) (ix2 0 t) = (∑ k : Fin 4, (x (ix3 0 t k) : EReal) : EReal) := by
  pointwise

/-- Half of the experts' weights: signed nibbles times their scales, one scale to 32 rows. -/
def deq (q : IVec S60x1024x1408 32) (B : Vec Ideal S60x32x1408 .bf16) : Vec Ideal S60x1024x1408 .bf16 :=
  shapeCast S60x1024x1408 (mulf (shapeCast S60x32x32x1408 (sitofp (F := Ideal) FTy.bf16 q) shapeCasts_S60x1024x1408_S60x32x32x1408)
    (broadcastInDim S60x32x32x1408 ![0, 1, 2, 3] bcast_S60x32x1x1408_S60x32x32x1408_0_1_2_3
      (broadcastInDim S60x32x1x1408 ![0, 1, 3] bcast_S60x32x1408_S60x32x1x1408_0_1_3 B))) shapeCasts_S60x32x32x1408_S60x1024x1408
theorem deq_at (q : IVec S60x1024x1408 32) (B : Vec Ideal S60x32x1408 .bf16) (e : Fin 60) (i : Fin 1024) (n : Fin 1408) :
    deq q B (ix3 e i n) = ((FloatOps.sitofp (F := Ideal) FTy.bf16 (q (ix3 e i n)) : EReal) * B (ix3 e ⟨i.val / 32, by omega⟩ n) : EReal) := by
  pointwise [deq]

/-- The low nibbles, signed. -/
def nlo (A : IVec S60x1024x1408 8) : IVec S60x1024x1408 32 :=
  select (cmpi CmpIPredicate.sge (andi (extui 32 A natLt_8_32) (broadcastInDim S60x1024x1408 ![] bcast_S_S60x1024x1408 (constantI S_ 32 15#32)))
      (broadcastInDim S60x1024x1408 ![] bcast_S_S60x1024x1408 (constantI S_ 32 8#32)))
    (subi (andi (extui 32 A natLt_8_32) (broadcastInDim S60x1024x1408 ![] bcast_S_S60x1024x1408 (constantI S_ 32 15#32)))
      (broadcastInDim S60x1024x1408 ![] bcast_S_S60x1024x1408 (constantI S_ 32 16#32)))
    (andi (extui 32 A natLt_8_32) (broadcastInDim S60x1024x1408 ![] bcast_S_S60x1024x1408 (constantI S_ 32 15#32)))
theorem nlo_at (A : IVec S60x1024x1408 8) (e : Fin 60) (i : Fin 1024) (n : Fin 1408) : nlo A (ix3 e i n) = Cert.Plain.lo (A (ix3 e i n)) := by
  refine Eq.trans ?_ (Cert.Plain.lo_eq _)
  pointwise [nlo]
/-- The high nibbles, signed. -/
def nhi (A : IVec S60x1024x1408 8) : IVec S60x1024x1408 32 :=
  select (cmpi CmpIPredicate.sge (andi (Host.shrsi (extui 32 A natLt_8_32) (broadcastInDim S60x1024x1408 ![] bcast_S_S60x1024x1408 (constantI S_ 32 4#32)))
        (broadcastInDim S60x1024x1408 ![] bcast_S_S60x1024x1408 (constantI S_ 32 15#32)))
      (broadcastInDim S60x1024x1408 ![] bcast_S_S60x1024x1408 (constantI S_ 32 8#32)))
    (subi (andi (Host.shrsi (extui 32 A natLt_8_32) (broadcastInDim S60x1024x1408 ![] bcast_S_S60x1024x1408 (constantI S_ 32 4#32)))
        (broadcastInDim S60x1024x1408 ![] bcast_S_S60x1024x1408 (constantI S_ 32 15#32)))
      (broadcastInDim S60x1024x1408 ![] bcast_S_S60x1024x1408 (constantI S_ 32 16#32)))
    (andi (Host.shrsi (extui 32 A natLt_8_32) (broadcastInDim S60x1024x1408 ![] bcast_S_S60x1024x1408 (constantI S_ 32 4#32)))
      (broadcastInDim S60x1024x1408 ![] bcast_S_S60x1024x1408 (constantI S_ 32 15#32)))
theorem nhi_at (A : IVec S60x1024x1408 8) (e : Fin 60) (i : Fin 1024) (n : Fin 1408) : nhi A (ix3 e i n) = Cert.Plain.hi (A (ix3 e i n)) := by
  refine Eq.trans ?_ (Cert.Plain.hi_eq _)
  pointwise [nhi]

/-- The ids as the lookup takes them: a negative one counted from the table's end. -/
def wrap (ids : IVec S1x128x4 32) : IVec S1x128x4x1 32 :=
  broadcastInDim S1x128x4x1 ![0, 1, 2] bcast_S1x128x4_S1x128x4x1_0_1_2
    (select (cmpi CmpIPredicate.slt ids (broadcastInDim S1x128x4 ![] bcast_S_S1x128x4 (constantI S_ 32 0#32)))
      (addi ids (broadcastInDim S1x128x4 ![] bcast_S_S1x128x4 (constantI S_ 32 60#32))) ids)
/-- An id in range is looked up at itself. -/
theorem wrap_at (ids : IVec S1x128x4 32) (t : Fin 128) (k : Fin 4) (e : Fin 60) (he : (ids (ix3 0 t k)).toNat = e.val) :
    (⟨min (wrap ids (ix4 0 t k 0)).toInt.toNat 59, by omega⟩ : Fin 60) = e := by
  have h : wrap ids (ix4 0 t k 0) = Scalar.select (IntOp.cmpi CmpIPredicate.slt (ids (ix3 0 t k)) 0#32) (IntOp.addi (ids (ix3 0 t k)) 60#32) (ids (ix3 0 t k)) := by
    pointwise [wrap]
  have hw : ids (ix3 0 t k) = BitVec.ofNat 32 e.val := by rw [← he, BitVec.ofNat_toNat, BitVec.setWidth_eq]
  rw [hw] at h
  have key : ∀ e : Fin 60, min (Scalar.select (IntOp.cmpi CmpIPredicate.slt (BitVec.ofNat 32 e.val) 0#32) (IntOp.addi (BitVec.ofNat 32 e.val) 60#32) (BitVec.ofNat 32 e.val)).toInt.toNat 59 = e.val := by
    decide +kernel
  refine Fin.ext ?_
  show min (wrap ids (ix4 0 t k 0)).toInt.toNat 59 = e.val
  rw [h]
  exact key e

/-! ## The host lines' results -/

variable (m : (ℓ : Loc nD τ sig) → Buf (Elt Ideal) ℓ) (c : Dev nD)

/-- The pair products as the host lines compose them. -/
def pairsV (x : FVec Ideal S1x128x2048 .bf16) (A : IVec S60x1024x1408 8) (B : FVec Ideal S60x32x1408 .bf16) (ids : IVec S1x128x4 32) : FVec Ideal S1x128x4x1408 .f32 :=
  addf (Host.dotGeneral dot_S1x128x1024_S1x128x4x1024x1408_S1x128x4x1408_2_3_n_24_01_01 none
      (Host.slice S1x128x1024 ![0, 0, 0] ![1, 1, 2] x slicesBy_S1x128x2048_S1x128x1024_0s1_0s1_0s2)
      (Host.gather gather_S60x1024x1408_S1x128x4x1_S1x128x4x1024x1408_34_0_n_n_0_3_110241408 (deq (nlo A) B) (wrap ids) : FVec Ideal S1x128x4x1024x1408 .bf16))
    (Host.dotGeneral dot_S1x128x1024_S1x128x4x1024x1408_S1x128x4x1408_2_3_n_24_01_01 none
      (Host.slice S1x128x1024 ![0, 0, 1] ![1, 1, 2] x slicesBy_S1x128x2048_S1x128x1024_0s1_0s1_1s2)
      (Host.gather gather_S60x1024x1408_S1x128x4x1_S1x128x4x1024x1408_34_0_n_n_0_3_110241408 (deq (nhi A) B) (wrap ids) : FVec Ideal S1x128x4x1024x1408 .bf16))

/-- A pair product at an index is the plain one, at an id in range. -/
theorem pairsV_at (x : FVec Ideal S1x128x2048 .bf16) (A : IVec S60x1024x1408 8) (B : FVec Ideal S60x32x1408 .bf16) (ids : IVec S1x128x4 32)
    (t : Fin 128) (k : Fin 4) (n : Fin 1408) (e : Fin 60) (he : (ids (ix3 0 t k)).toNat = e.val) :
    pairsV x A B ids (ix4 0 t k n) = Cert.Plain.pair (fun r => x (ix3 0 t r)) (fun i => A (ix3 e i n)) (fun s => B (ix3 e s n)) := by
  refine congrArg₂ (fun a b : EReal => a + b) ((pairs_at _ _ t k n).trans (Finset.sum_congr rfl fun r _ => ?_)) ((pairs_at _ _ t k n).trans (Finset.sum_congr rfl fun r _ => ?_))
  · refine congrArg₂ (fun a b : EReal => a * b) ?_ ((gather_at _ _ 0 t k r n).trans ?_)
    · pointwise
    · rw [wrap_at ids t k e he, deq_at, nlo_at]
  · refine congrArg₂ (fun a b : EReal => a * b) ?_ ((gather_at _ _ 0 t k r n).trans ?_)
    · pointwise
    · rw [wrap_at ids t k e he, deq_at, nhi_at]

theorem V_v46 : V m c main_v46 = pairsV (m ((c.tc : Thread nD τ).loc main_arg0)) (m ((c.tc : Thread nD τ).loc main_arg3)) (m ((c.tc : Thread nD τ).loc main_arg4)) (m ((c.tc : Thread nD τ).loc main_arg5)) := by
  unfold V
  simp only [hostOps0, hostOps0_1, hostOps0_2, hostOps0_3, hostOps0_4, List.flatten_cons, List.flatten_nil, List.append_nil, List.cons_append, List.nil_append]
  after_reads_simp
  rfl
theorem V_v47 : V m c main_v47 = Host.reduceAdd (F := Ideal) (m ((c.tc : Thread nD τ).loc main_arg6) : FVec Ideal S1x128x4 .f32) (constant S_ FTy.f32 0#32) reducesTo_S1x128x4_S1x128_d2 h_S_ := by
  unfold V
  simp only [hostOps0, hostOps0_1, hostOps0_2, hostOps0_3, hostOps0_4, List.flatten_cons, List.flatten_nil, List.append_nil, List.cons_append, List.nil_append]
  after_reads_simp
theorem V_v48 : V m c main_v48 = Host.dotGeneral (F := Ideal) (φ₁ := .f32) (φ₂ := .f32) dot_S1x128x4_S1x128x4x1408_S1x128x1408_2_2_n_3_01_01 (some .fp32)
    (m ((c.tc : Thread nD τ).loc main_arg6) : FVec Ideal S1x128x4 .f32) (V m c main_v46 : FVec Ideal S1x128x4x1408 .f32) := by
  rw [V_v46]
  unfold V
  simp only [hostOps0, hostOps0_1, hostOps0_2, hostOps0_3, hostOps0_4, List.flatten_cons, List.flatten_nil, List.append_nil, List.cons_append, List.nil_append]
  after_reads_simp
  rfl

/-! ## The one kernel -/

/-- What the kernel stores, at an index. -/
theorem pay1_at (x : Vec Ideal S1x128x2048 .bf16) (w : Vec Ideal S2048x1408 .fp8e4m3) (ws : Vec Ideal S32x22 .f32) (g : Vec Ideal S1x128 .f32) (mx : Vec Ideal S1x128x1408 .f32) (t : Fin 128) (n : Fin 1408) :
    k0_pay1 x w ws g mx (ix3 0 t n)
      = (g (ix2 0 t) * ∑ r : Fin 2048, (x (ix3 0 t r) : EReal) * (w (ix2 r n) * ws (ix2 ⟨r.val / 64, by omega⟩ ⟨n.val / 64, by omega⟩)) + mx (ix3 0 t n) : EReal) := by
  pointwise [k0_pay1]

/-- The mixed output as the kernel leaves it. -/
def outV : FVec Ideal S1x128x1408 .bf16 := k0_pay1 (V m c main_arg0) (V m c main_arg1) (V m c main_arg2) (V m c main_v47) (V m c main_v48)

theorem iblk_0 (t : Fin cfg0.N) : iblk m c 0 t = V m c main_arg0 := by
  rw [fin_N0 t]; funext y; unfold iblk; blk_simp; exact congrArg _ (funext fun a => Fin.ext (by fin_cases a <;> blk_simp <;> first | exact (congrArg (· + _) (Nat.zero_mul _)).trans (Nat.zero_add _) | rfl))
theorem iblk_1 (t : Fin cfg0.N) : iblk m c 1 t = V m c main_arg1 := by
  rw [fin_N0 t]; funext y; unfold iblk; blk_simp; exact congrArg _ (funext fun a => Fin.ext (by fin_cases a <;> blk_simp <;> first | exact (congrArg (· + _) (Nat.zero_mul _)).trans (Nat.zero_add _) | rfl))
theorem iblk_2 (t : Fin cfg0.N) : iblk m c 2 t = V m c main_arg2 := by
  rw [fin_N0 t]; funext y; unfold iblk; blk_simp; exact congrArg _ (funext fun a => Fin.ext (by fin_cases a <;> blk_simp <;> first | exact (congrArg (· + _) (Nat.zero_mul _)).trans (Nat.zero_add _) | rfl))
theorem iblk_3 (t : Fin cfg0.N) : iblk m c 3 t = V m c main_v47 := by
  rw [fin_N0 t]; funext y; unfold iblk; blk_simp; exact congrArg _ (funext fun a => Fin.ext (by fin_cases a <;> blk_simp <;> first | exact (congrArg (· + _) (Nat.zero_mul _)).trans (Nat.zero_add _) | rfl))
theorem iblk_4 (t : Fin cfg0.N) : iblk m c 4 t = V m c main_v48 := by
  rw [fin_N0 t]; funext y; unfold iblk; blk_simp; exact congrArg _ (funext fun a => Fin.ext (by fin_cases a <;> blk_simp <;> first | exact (congrArg (· + _) (Nat.zero_mul _)).trans (Nat.zero_add _) | rfl))

theorem arr_5 : (dats m 0 c).arrAt 5 cfg0.N = outV m c :=
  (dats m 0 c).arrAt_eq_of_after_last 5 t0_0 (by decide +kernel) _ fun j => by
    rw [after0_5]
    unfold out0_5 outV
    rw [iblk_0, iblk_1, iblk_2, iblk_3, iblk_4]
    rw [View.canon_unit_zero (by decide), View.ld_unit_zero (by decide), View.ld_unit_zero (by decide), View.ld_unit_zero (by decide), View.ld_unit_zero (by decide), View.ld_unit_zero (by decide)]
    blk_simp

/-! ## The two results at an index, from the launched arrays -/

/-- The pair products at an index, at an id in range. -/
theorem v46_at (t : Fin 128) (k : Fin 4) (n : Fin 1408) (e : Fin 60)
    (he : ((m ((c.tc : Thread nD τ).loc main_arg5) : S1x128x4.Idx → BitVec 32) (ix3 0 t k)).toNat = e.val) :
    (V m c main_v46 : S1x128x4x1408.Idx → EReal) (ix4 0 t k n)
      = Cert.Plain.pair (fun r => (m ((c.tc : Thread nD τ).loc main_arg0) : S1x128x2048.Idx → EReal) (ix3 0 t r))
          (fun i => (m ((c.tc : Thread nD τ).loc main_arg3) : S60x1024x1408.Idx → BitVec 8) (ix3 e i n))
          (fun s => (m ((c.tc : Thread nD τ).loc main_arg4) : S60x32x1408.Idx → EReal) (ix3 e s n)) :=
  (congrFun (V_v46 m c) _).trans (pairsV_at _ _ _ _ t k n e he)

/-- The mixed output at an index, from the launched arrays and the pair products. -/
theorem outV_at (t : Fin 128) (n : Fin 1408) :
    outV m c (ix3 0 t n)
      = Cert.Plain.mixed (fun k => (m ((c.tc : Thread nD τ).loc main_arg6) : S1x128x4.Idx → EReal) (ix3 0 t k))
          (fun r => (m ((c.tc : Thread nD τ).loc main_arg0) : S1x128x2048.Idx → EReal) (ix3 0 t r))
          (fun r => (m ((c.tc : Thread nD τ).loc main_arg1) : S2048x1408.Idx → EReal) (ix2 r n))
          (fun s => (m ((c.tc : Thread nD τ).loc main_arg2) : S32x22.Idx → EReal) (ix2 s ⟨n.val / 64, by omega⟩))
          (fun k => (V m c main_v46 : S1x128x4x1408.Idx → EReal) (ix4 0 t k n)) := by
  unfold outV
  rw [pay1_at, V_main_arg0, V_main_arg1, V_main_arg2, V_v47, V_v48, gsum_at, mixed_at]
  rfl

/-- THE RUN, at exact numbers: it ends, the results are the two value functions of the launched arrays and the arguments
    are unchanged. -/
theorem run_values (ρ : Dev nD → PrngReg) :
    θ_run defs (onTc (τ := τ) (main (F := Ideal))) ⟨m, fun _ => 0, ρ⟩ (fun r => ∀ c : Dev nD,
      r.2.mem ((c.tc : Thread nD τ).loc main_v49) = outV m c
      ∧ r.2.mem ((c.tc : Thread nD τ).loc main_v46) = V m c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h.1 c).1 5).trans (arr_5 m c), (h.1 c).2 main_v46 (Pipeline.mem_restRefs_of main_v46 (by decide) (by decide)), h.2 c⟩)
    (θ_run_and (run_main m ρ) (unchanged m ρ))

end Cert.ReferenceIdeal.Run

end
-- ==== Proof.Equal.lean ====
/-
  The kernel's two results and the reference's, from the same launched arrays with every id in range, are equal.
-/
module

public import proofs.«01_k».proof.Proof.KAlg
public import proofs.«01_k».proof.Proof.RAlg

@[expose] public section

noncomputable section

namespace Cert.Equal

open Idealize.ShloMosaic Idealize.ShloMosaic.TcCoe Idealize.ShloMosaic.Tactic

theorem cast_p (v : FVec Ideal Cert.KernelIdeal.S128x4x1408 .f32) (t : Fin 128) (k : Fin 4) (n : Fin 1408) :
    shapeCast Cert.KernelIdeal.S1x128x4x1408 v Cert.KernelIdeal.Facts₀.shapeCasts_S128x4x1408_S1x128x4x1408 (ix4 0 t k n) = v (ix3 t k n) := by
  pointwise
theorem cast_y (v : FVec Ideal Cert.KernelIdeal.S128x1408 .bf16) (t : Fin 128) (n : Fin 1408) :
    shapeCast Cert.KernelIdeal.S1x128x1408 v Cert.KernelIdeal.Facts₀.shapeCasts_S128x1408_S1x128x1408 (ix3 0 t n) = v (ix2 t n) := by
  pointwise

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Both programs are launched with the same arguments. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- The pair products are equal, element by element. -/
theorem pair_eq (h : Same m m' c) (hid : ∀ i, ((m ((c.tc : Thread Cert.KernelIdeal.nD Cert.KernelIdeal.τ).loc Cert.KernelIdeal.main_arg5) : Cert.KernelIdeal.S1x128x4.Idx → BitVec 32) i).toNat < 60)
    (t : Fin 128) (k : Fin 4) (n : Fin 1408) :
    (Cert.ReferenceIdeal.Gen.V m' c Cert.ReferenceIdeal.main_v46 : Cert.ReferenceIdeal.S1x128x4x1408.Idx → EReal) (ix4 0 t k n) = Cert.KernelIdeal.Run.pF m c (ix3 t k n) := by
  obtain ⟨h0, h1, h2, h3, h4, h5, h6⟩ := h
  have hr := Cert.ReferenceIdeal.Run.v46_at m' c t k n ⟨_, hid (ix3 0 t k)⟩ (by rw [h5])
  rw [h0, h3, h4] at hr
  exact hr.trans (Cert.KernelIdeal.Run.pF_at m c t k n ⟨_, hid (ix3 0 t k)⟩ rfl).symm

/-- The second result. -/
theorem v46_eq (h : Same m m' c) (hid : ∀ i, ((m ((c.tc : Thread Cert.KernelIdeal.nD Cert.KernelIdeal.τ).loc Cert.KernelIdeal.main_arg5) : Cert.KernelIdeal.S1x128x4.Idx → BitVec 32) i).toNat < 60) :
    (Cert.ReferenceIdeal.Gen.V m' c Cert.ReferenceIdeal.main_v46 : Cert.ReferenceIdeal.S1x128x4x1408.Idx → EReal)
      = shapeCast Cert.KernelIdeal.S1x128x4x1408 (Cert.KernelIdeal.Run.pF m c) Cert.KernelIdeal.Facts₀.shapeCasts_S128x4x1408_S1x128x4x1408 := by
  funext j
  idx_vars j
  obtain rfl : j0 = 0 := Subsingleton.elim _ _
  exact (pair_eq m m' c h hid j1 j2 j3).trans (cast_p _ _ _ _).symm

/-- The first result. -/
theorem v49_eq (h : Same m m' c) (hid : ∀ i, ((m ((c.tc : Thread Cert.KernelIdeal.nD Cert.KernelIdeal.τ).loc Cert.KernelIdeal.main_arg5) : Cert.KernelIdeal.S1x128x4.Idx → BitVec 32) i).toNat < 60) :
    (Cert.ReferenceIdeal.Run.outV m' c : Cert.ReferenceIdeal.S1x128x1408.Idx → EReal)
      = shapeCast Cert.KernelIdeal.S1x128x1408 (Cert.KernelIdeal.Run.yF m c) Cert.KernelIdeal.Facts₀.shapeCasts_S128x1408_S1x128x1408 := by
  funext j
  idx_vars j
  obtain rfl : j0 = 0 := Subsingleton.elim _ _
  refine Eq.trans ?_ (cast_y _ _ _).symm
  refine (Cert.ReferenceIdeal.Run.outV_at m' c j1 j2).trans (Eq.trans ?_ (Cert.KernelIdeal.Run.yF_at m c j1 j2).symm)
  have hp : (fun k => (Cert.ReferenceIdeal.Gen.V m' c Cert.ReferenceIdeal.main_v46 : Cert.ReferenceIdeal.S1x128x4x1408.Idx → EReal) (ix4 0 j1 k j2)) = fun k => Cert.KernelIdeal.Run.pF m c (ix3 j1 k j2) :=
    funext fun k => pair_eq m m' c h hid j1 k j2
  obtain ⟨h0, h1, h2, h3, h4, h5, h6⟩ := h
  rw [hp, h0, h1, h2, h6]

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_in_range
public import proofs.«01_k».proof.Proof.Range
public import proofs.«01_k».proof.Proof.Whole
public import proofs.«01_k».proof.Proof.Low.Whole
public import proofs.«01_k».proof.Proof.Equal

@[expose] public section

noncomputable section

namespace Cert.Proof

open Idealize.ShloMosaic Idealize.ShloMosaic.TcCoe Idealize.SL.Sem

/-- The kernel at its own numbers, ids in range: it ends, its arguments are unchanged and every counter is zero. -/
theorem frame_Kernel : Cert.quiescent_Kernel (hKernel := Cert.Kernel.Gen.facts) (hPre_in_range := Cert.Pre_in_range.Gen.facts) := fun m g hpre =>
  (θ_run _ _ _).mono (fun r h => ⟨fun c => (h.1 c).2.2, h.2⟩)
    (Cert.Kernel.Run.run_main (F := Bits) m g fun c => Cert.Kernel.Run.ids_lt m c (Cert.Run.ids_lt_of_pre _ _ _ _ _ _ _ (hpre c)))

/-- The kernel at exact numbers, ids in range: the same. -/
theorem frame_KernelIdeal : Cert.quiescent_KernelIdeal (hKernelIdeal := Cert.KernelIdeal.Gen.facts) (hPre_in_range := Cert.Pre_in_range.Gen.facts) := fun m g hpre =>
  (θ_run _ _ _).mono (fun r h => ⟨fun c => (h.1 c).2.2, h.2⟩)
    (Cert.KernelIdeal.Run.run_main (F := Ideal) m g fun c => Cert.KernelIdeal.Run.ids_lt m c (Cert.Run.ids_lt_of_pre _ _ _ _ _ _ _ (hpre c)))

/-- At exact numbers, from the same arguments with ids in range: both programs end, with the same two results and their
    arguments unchanged. -/
theorem algebraic : Cert.algebraic_KernelIdeal_ReferenceIdeal (hKernelIdeal := Cert.KernelIdeal.Gen.facts) (hReferenceIdeal := Cert.ReferenceIdeal.Gen.facts) (hPre_in_range := Cert.Pre_in_range.Gen.facts) :=
  fun m g m' g' hpre hsame =>
    have hid := fun c => Cert.Run.ids_lt_of_pre _ _ _ _ _ _ _ (hpre c)
    ⟨fun c => shapeCast Cert.KernelIdeal.S1x128x1408 (Cert.KernelIdeal.Run.yF m c) Cert.KernelIdeal.Facts₀.shapeCasts_S128x1408_S1x128x1408,
      fun c => shapeCast Cert.KernelIdeal.S1x128x4x1408 (Cert.KernelIdeal.Run.pF m c) Cert.KernelIdeal.Facts₀.shapeCasts_S128x4x1408_S1x128x4x1408,
      (θ_run _ _ _).mono (fun _ h => h.1) (Cert.KernelIdeal.Run.run_main (F := Ideal) m g fun c => Cert.KernelIdeal.Run.ids_lt m c (hid c)),
      (θ_run _ _ _).mono (fun _ h c => ⟨(h c).1.trans (Cert.Equal.v49_eq m m' c (hsame c) (hid c)), (h c).2.1.trans (Cert.Equal.v46_eq m m' c (hsame c) (hid c)), (h c).2.2⟩)
        (Cert.ReferenceIdeal.Run.run_values m' g')⟩

/-- Everything the certificate claims. -/
theorem claim : Cert.Claim := ⟨Cert.Kernel.Gen.facts, Cert.KernelIdeal.Gen.facts, Cert.ReferenceIdeal.Gen.facts, Cert.Pre_in_range.Gen.facts,
  frame_Kernel, frame_KernelIdeal, fun m g _ => Cert.ReferenceIdeal.Gen.frame m g, fun m g _ => Cert.ReferenceIdeal.Gen.frame m g, trivial, algebraic⟩

end Cert.Proof

end
